-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v63) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S2x256x4x4x64 : Shape := ⟨5, ![2, 256, 4, 4, 64]⟩
abbrev S4x2x4x256x64 : Shape := ⟨5, ![4, 2, 4, 256, 64]⟩
abbrev S4x1x2x4x256x64 : Shape := ⟨6, ![4, 1, 2, 4, 256, 64]⟩
abbrev S4x2x2x4x256x64 : Shape := ⟨6, ![4, 2, 2, 4, 256, 64]⟩
abbrev S_ : Shape := ⟨0, ![]⟩
abbrev S512x4x64 : Shape := ⟨3, ![512, 4, 64]⟩
abbrev S4x512x64 : Shape := ⟨3, ![4, 512, 64]⟩
abbrev S4x64x512 : Shape := ⟨3, ![4, 64, 512]⟩
abbrev S4x2x64x512 : Shape := ⟨4, ![4, 2, 64, 512]⟩
abbrev S3 : Shape := ⟨1, ![3]⟩
abbrev S4 : Shape := ⟨1, ![4]⟩
abbrev S3x2 : Shape := ⟨2, ![3, 2]⟩
abbrev S4x2 : Shape := ⟨2, ![4, 2]⟩
abbrev S1 : Shape := ⟨1, ![1]⟩
abbrev S1x2x2x4x256x64 : Shape := ⟨6, ![1, 2, 2, 4, 256, 64]⟩
abbrev S2x2x4x256x64 : Shape := ⟨5, ![2, 2, 4, 256, 64]⟩
abbrev S1x256x512 : Shape := ⟨3, ![1, 256, 512]⟩
abbrev S1x512x64 : Shape := ⟨3, ![1, 512, 64]⟩
abbrev S512x64 : Shape := ⟨2, ![512, 64]⟩
abbrev S256x64 : Shape := ⟨2, ![256, 64]⟩
abbrev S256x256 : Shape := ⟨2, ![256, 256]⟩
abbrev S1x1x1x1x256x64 : Shape := ⟨6, ![1, 1, 1, 1, 256, 64]⟩
abbrev S1x256x64 : Shape := ⟨3, ![1, 256, 64]⟩
abbrev S256 : Shape := ⟨1, ![256]⟩
abbrev S256x1 : Shape := ⟨2, ![256, 1]⟩
abbrev S1x64x512 : Shape := ⟨3, ![1, 64, 512]⟩
abbrev S64x512 : Shape := ⟨2, ![64, 512]⟩
abbrev S1x1x64x512 : Shape := ⟨4, ![1, 1, 64, 512]⟩
abbrev S1x1 : Shape := ⟨2, ![1, 1]⟩
abbrev S1x2x64x512 : Shape := ⟨4, ![1, 2, 64, 512]⟩
abbrev S2x64x512 : Shape := ⟨3, ![2, 64, 512]⟩

abbrev nBuf : Space → Nat
  | .hbm => 31
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x16x64, .bf16⟩
  | .hbm, ⟨3, _⟩ => ⟨S2x256x16x64, .bf16⟩
  | .hbm, ⟨4, _⟩ => ⟨S256x512, .bf16⟩
  | .hbm, ⟨5, _⟩ => ⟨S2x256x4x4x64, .bf16⟩
  | .hbm, ⟨6, _⟩ => ⟨S4x2x4x256x64, .bf16⟩
  | .hbm, ⟨7, _⟩ => ⟨S2x256x4x4x64, .bf16⟩
  | .hbm, ⟨8, _⟩ => ⟨S4x2x4x256x64, .bf16⟩
  | .hbm, ⟨9, _⟩ => ⟨S4x1x2x4x256x64, .bf16⟩
  | .hbm, ⟨10, _⟩ => ⟨S4x1x2x4x256x64, .bf16⟩
  | .hbm, ⟨11, _⟩ => ⟨S4x2x2x4x256x64, .bf16⟩
  | .hbm, ⟨12, _⟩ => ⟨S_, .bf16⟩
  | .hbm, ⟨13, _⟩ => ⟨S4x2x2x4x256x64, .bf16⟩
  | .hbm, ⟨14, _⟩ => ⟨S4x2x2x4x256x64, .bf16⟩
  | .hbm, ⟨15, _⟩ => ⟨S4x2x2x4x256x64, .bf16⟩
  | .hbm, ⟨16, _⟩ => ⟨S_, .i32⟩
  | .hbm, ⟨17, _⟩ => ⟨S_, .i32⟩
  | .hbm, ⟨18, _⟩ => ⟨S_, .bf16⟩
  | .hbm, ⟨19, _⟩ => ⟨S4x2x2x4x256x64, .bf16⟩
  | .hbm, ⟨20, _⟩ => ⟨S4x2x2x4x256x64, .bf16⟩
  | .hbm, ⟨21, _⟩ => ⟨S_, .bf16⟩
  | .hbm, ⟨22, _⟩ => ⟨S4x2x2x4x256x64, .bf16⟩
  | .hbm, ⟨23, _⟩ => ⟨S4x2x2x4x256x64, .bf16⟩
  | .hbm, ⟨24, _⟩ => ⟨S4x2x2x4x256x64, .f32⟩
  | .hbm, ⟨25, _⟩ => ⟨S4x2x2x4x256x64, .i32⟩
  | .hbm, ⟨26, _⟩ => ⟨S4x2x2x4x256x64, .i8⟩
  | .hbm, ⟨27, _⟩ => ⟨S512x4x64, .bf16⟩
  | .hbm, ⟨28, _⟩ => ⟨S4x512x64, .bf16⟩
  | .hbm, ⟨29, _⟩ => ⟨S4x64x512, .bf16⟩
  | .hbm, ⟨30, _⟩ => ⟨S2x256x512, .f32⟩
  | .local _ .vmem, ⟨0, _⟩ => ⟨S2x256x512, .bf16⟩
  | .local _ .vmem, ⟨1, _⟩ => ⟨S4x512x64, .bf16⟩
  | .local _ .vmem, ⟨2, _⟩ => ⟨S4x2x2x4x256x64, .i8⟩
  | .local _ .vmem, ⟨3, _⟩ => ⟨S4x64x512, .bf16⟩
  | .local _ .vmem, ⟨4, _⟩ => ⟨S2x256x512, .f32⟩
  | .local _ .vmem, ⟨5, _⟩ => ⟨S4x2x2x4x256x64, .i8⟩
  | .local _ .vmem, ⟨6, _⟩ => ⟨S4x2x64x512, .bf16⟩
  | .local _ .vmem, ⟨7, _⟩ => ⟨S4x2x64x512, .bf16⟩
  | .local _ .vmem, ⟨8, _⟩ => ⟨S4x2x64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  let c0_i32_20 : BitVec 32 := 0#32
  let c0_i32_21 : BitVec 32 := 0#32
  let c0_i32_22 : BitVec 32 := 0#32
  ![v2.toNat, 0, 0, 0, 0, 0]
def k0_off3 (d0 : Dev nD) (c1_i32_13 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c0_i32_23 : BitVec 32 := 0#32
  let c0_i32_24 : BitVec 32 := 0#32
  let c0_i32_25 : BitVec 32 := 0#32
  let c0_i32_26 : BitVec 32 := 0#32
  let c0_i32_27 : BitVec 32 := 0#32
  ![v17.toNat, 0, 0, 0, 0, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_16 : BitVec 32 := 1#32
  let v18 : BitVec 32 := Scalar.muli v17 c1_i32_16
  let v19 : BitVec 32 := Scalar.addi c0_i32_17 v18
  v19.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v28 : BitVec 32 := Scalar.addi v2 c3_i32_28
  let c4_i32_29 : BitVec 32 := 4#32
  let v29 : BitVec 32 := Scalar.remsi v28 c4_i32_29
  let c1_i32_31 : BitVec 32 := 1#32
  let v30 : BitVec 32 := Scalar.muli v29 c1_i32_31
  let v31 : BitVec 32 := Scalar.addi c0_i32_32 v30
  v31.toNat
def k0_off4 (d0 : Dev nD) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : Index := Scalar.indexCast v2
  let c0 : Index := 0#32
  let c0_43 : Index := 0#32
  let c0_44 : Index := 0#32
  let c0_45 : Index := 0#32
  let c0_46 : Index := 0#32
  ![v40.toNat, 0, 0, 0, 0, 0]
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_136 : BitVec 32 := 2#32
  let v123 : BitVec 32 := Scalar.addi v2 c2_i32_136
  let c4_i32_137 : BitVec 32 := 4#32
  let v124 : BitVec 32 := Scalar.remsi v123 c4_i32_137
  let c1_i32_139 : BitVec 32 := 1#32
  let v125 : BitVec 32 := Scalar.muli v124 c1_i32_139
  let v126 : BitVec 32 := Scalar.addi c0_i32_140 v125
  v126.toNat
def k0_off5 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v217 : Index := Scalar.indexCast v186
  let c0_177 : Index := 0#32
  let c0_178 : Index := 0#32
  let c0_179 : Index := 0#32
  let c0_180 : Index := 0#32
  let c0_181 : Index := 0#32
  ![v217.toNat, 0, 0, 0, 0, 0]
def k0_off6 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v222 : Index := Scalar.indexCast v186
  let c1_182 : Index := 1#32
  let c0_183 : Index := 0#32
  let c0_184 : Index := 0#32
  let c0_185 : Index := 0#32
  let c0_186 : Index := 0#32
  ![v222.toNat, 1, 0, 0, 0, 0]
def k0_off7 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v238 : Index := Scalar.indexCast v186
  let c0_191 : Index := 0#32
  let c0_192 : Index := 0#32
  let c1_193 : Index := 1#32
  let c0_194 : Index := 0#32
  let c0_195 : Index := 0#32
  ![v238.toNat, 0, 0, 1, 0, 0]
def k0_off8 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v243 : Index := Scalar.indexCast v186
  let c1_196 : Index := 1#32
  let c0_197 : Index := 0#32
  let c1_198 : Index := 1#32
  let c0_199 : Index := 0#32
  let c0_200 : Index := 0#32
  ![v243.toNat, 1, 0, 1, 0, 0]
def k0_off9 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v259 : Index := Scalar.indexCast v186
  let c0_205 : Index := 0#32
  let c0_206 : Index := 0#32
  let c2_207 : Index := 2#32
  let c0_208 : Index := 0#32
  let c0_209 : Index := 0#32
  ![v259.toNat, 0, 0, 2, 0, 0]
def k0_off10 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v264 : Index := Scalar.indexCast v186
  let c1_210 : Index := 1#32
  let c0_211 : Index := 0#32
  let c2_212 : Index := 2#32
  let c0_213 : Index := 0#32
  let c0_214 : Index := 0#32
  ![v264.toNat, 1, 0, 2, 0, 0]
def k0_off11 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v280 : Index := Scalar.indexCast v186
  let c0_219 : Index := 0#32
  let c0_220 : Index := 0#32
  let c3_221 : Index := 3#32
  let c0_222 : Index := 0#32
  let c0_223 : Index := 0#32
  ![v280.toNat, 0, 0, 3, 0, 0]
def k0_off12 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v285 : Index := Scalar.indexCast v186
  let c1_224 : Index := 1#32
  let c0_225 : Index := 0#32
  let c3_226 : Index := 3#32
  let c0_227 : Index := 0#32
  let c0_228 : Index := 0#32
  ![v285.toNat, 1, 0, 3, 0, 0]
def k0_off13 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v301 : Index := Scalar.indexCast v186
  let c0_233 : Index := 0#32
  let c1_234 : Index := 1#32
  let c0_235 : Index := 0#32
  let c0_236 : Index := 0#32
  let c0_237 : Index := 0#32
  ![v301.toNat, 0, 1, 0, 0, 0]
def k0_off14 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v306 : Index := Scalar.indexCast v186
  let c1_238 : Index := 1#32
  let c1_239 : Index := 1#32
  let c0_240 : Index := 0#32
  let c0_241 : Index := 0#32
  let c0_242 : Index := 0#32
  ![v306.toNat, 1, 1, 0, 0, 0]
def k0_off15 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v322 : Index := Scalar.indexCast v186
  let c0_247 : Index := 0#32
  let c1_248 : Index := 1#32
  let c1_249 : Index := 1#32
  let c0_250 : Index := 0#32
  let c0_251 : Index := 0#32
  ![v322.toNat, 0, 1, 1, 0, 0]
def k0_off16 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v327 : Index := Scalar.indexCast v186
  let c1_252 : Index := 1#32
  let c1_253 : Index := 1#32
  let c1_254 : Index := 1#32
  let c0_255 : Index := 0#32
  let c0_256 : Index := 0#32
  ![v327.toNat, 1, 1, 1, 0, 0]
def k0_off17 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v343 : Index := Scalar.indexCast v186
  let c0_261 : Index := 0#32
  let c1_262 : Index := 1#32
  let c2_263 : Index := 2#32
  let c0_264 : Index := 0#32
  let c0_265 : Index := 0#32
  ![v343.toNat, 0, 1, 2, 0, 0]
def k0_off18 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v348 : Index := Scalar.indexCast v186
  let c1_266 : Index := 1#32
  let c1_267 : Index := 1#32
  let c2_268 : Index := 2#32
  let c0_269 : Index := 0#32
  let c0_270 : Index := 0#32
  ![v348.toNat, 1, 1, 2, 0, 0]
def k0_off19 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v364 : Index := Scalar.indexCast v186
  let c0_275 : Index := 0#32
  let c1_276 : Index := 1#32
  let c3_277 : Index := 3#32
  let c0_278 : Index := 0#32
  let c0_279 : Index := 0#32
  ![v364.toNat, 0, 1, 3, 0, 0]
def k0_off20 (d0 : Dev nD) (c0_i32_164 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_164
  let c4_i32_165 : BitVec 32 := 4#32
  let v186 : BitVec 32 := Scalar.remsi v185 c4_i32_165
  let v369 : Index := Scalar.indexCast v186
  let c1_280 : Index := 1#32
  let c1_281 : Index := 1#32
  let c3_282 : Index := 3#32
  let c0_283 : Index := 0#32
  let c0_284 : Index := 0#32
  ![v369.toNat, 1, 1, 3, 0, 0]
def k0_off21 (d0 : Dev nD) (c1_i32_289 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v385 : BitVec 32 := Scalar.addi v2 c1_i32_289
  let c4_i32_290 : BitVec 32 := 4#32
  let v386 : BitVec 32 := Scalar.remsi v385 c4_i32_290
  ![v386.toNat]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_688 : BitVec 32 := 0#32
  ![v2.toNat, 0]
def k0_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_687 : BitVec 32 := 0#32
  let c0_i32_693 : BitVec 32 := 0#32
  let c0_i32_694 : BitVec 32 := 0#32
  ![v2.toNat, 0, 0, 0]
def k0_off24 (d0 : Dev nD) (c1_i32_684 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1139 : BitVec 32 := Scalar.addi v2 c1_i32_684
  let c4_i32_685 : BitVec 32 := 4#32
  let v1140 : BitVec 32 := Scalar.remsi v1139 c4_i32_685
  let c0_i32_686 : BitVec 32 := 0#32
  let c0_i32_695 : BitVec 32 := 0#32
  let c0_i32_696 : BitVec 32 := 0#32
  ![v1140.toNat, 0, 0, 0]
def k0_dev7 (d0 : Dev nD) : Nat :=
  let c0_i32_692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_684 : BitVec 32 := 1#32
  let v1139 : BitVec 32 := Scalar.addi v2 c1_i32_684
  let c4_i32_685 : BitVec 32 := 4#32
  let v1140 : BitVec 32 := Scalar.remsi v1139 c4_i32_685
  let c1_i32_691 : BitVec 32 := 1#32
  let v1141 : BitVec 32 := Scalar.muli v1140 c1_i32_691
  let v1142 : BitVec 32 := Scalar.addi c0_i32_692 v1141
  v1142.toNat
def k0_dev8 (d0 : Dev nD) : Nat :=
  let c0_i32_705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_697 : BitVec 32 := 3#32
  let v1151 : BitVec 32 := Scalar.addi v2 c3_i32_697
  let c4_i32_698 : BitVec 32 := 4#32
  let v1152 : BitVec 32 := Scalar.remsi v1151 c4_i32_698
  let c1_i32_704 : BitVec 32 := 1#32
  let v1153 : BitVec 32 := Scalar.muli v1152 c1_i32_704
  let v1154 : BitVec 32 := Scalar.addi c0_i32_705 v1153
  v1154.toNat
def k0_dev9 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_710 : BitVec 32 := 2#32
  let v1163 : BitVec 32 := Scalar.addi v2 c2_i32_710
  let c4_i32_711 : BitVec 32 := 4#32
  let v1164 : BitVec 32 := Scalar.remsi v1163 c4_i32_711
  let c1_i32_717 : BitVec 32 := 1#32
  let v1165 : BitVec 32 := Scalar.muli v1164 c1_i32_717
  let v1166 : BitVec 32 := Scalar.addi c0_i32_718 v1165
  v1166.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_820 : BitVec 32 := 1#32
  ![v2.toNat, 1]
def k0_off26 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_819 : BitVec 32 := 1#32
  let c0_i32_825 : BitVec 32 := 0#32
  let c0_i32_826 : BitVec 32 := 0#32
  ![v2.toNat, 1, 0, 0]
def k0_off27 (d0 : Dev nD) (c1_i32_816 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1345 : BitVec 32 := Scalar.addi v2 c1_i32_816
  let c4_i32_817 : BitVec 32 := 4#32
  let v1346 : BitVec 32 := Scalar.remsi v1345 c4_i32_817
  let c1_i32_818 : BitVec 32 := 1#32
  let c0_i32_827 : BitVec 32 := 0#32
  let c0_i32_828 : BitVec 32 := 0#32
  ![v1346.toNat, 1, 0, 0]
def k0_dev10 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_816 : BitVec 32 := 1#32
  let v1345 : BitVec 32 := Scalar.addi v2 c1_i32_816
  let c4_i32_817 : BitVec 32 := 4#32
  let v1346 : BitVec 32 := Scalar.remsi v1345 c4_i32_817
  let c1_i32_823 : BitVec 32 := 1#32
  let v1347 : BitVec 32 := Scalar.muli v1346 c1_i32_823
  let v1348 : BitVec 32 := Scalar.addi c0_i32_824 v1347
  v1348.toNat
def k0_dev11 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_829 : BitVec 32 := 3#32
  let v1357 : BitVec 32 := Scalar.addi v2 c3_i32_829
  let c4_i32_830 : BitVec 32 := 4#32
  let v1358 : BitVec 32 := Scalar.remsi v1357 c4_i32_830
  let c1_i32_836 : BitVec 32 := 1#32
  let v1359 : BitVec 32 := Scalar.muli v1358 c1_i32_836
  let v1360 : BitVec 32 := Scalar.addi c0_i32_837 v1359
  v1360.toNat
def k0_dev12 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_842 : BitVec 32 := 2#32
  let v1369 : BitVec 32 := Scalar.addi v2 c2_i32_842
  let c4_i32_843 : BitVec 32 := 4#32
  let v1370 : BitVec 32 := Scalar.remsi v1369 c4_i32_843
  let c1_i32_849 : BitVec 32 := 1#32
  let v1371 : BitVec 32 := Scalar.muli v1370 c1_i32_849
  let v1372 : BitVec 32 := Scalar.addi c0_i32_850 v1371
  v1372.toNat
def k0_off28 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1387 : Index := Scalar.indexCast v2
  let c0_867 : Index := 0#32
  let c0_868 : Index := 0#32
  let c0_869 : Index := 0#32
  ![v1387.toNat, 0, 0, 0]
def k0_off29 (d0 : Dev nD) (c1_i32_870 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1391 : BitVec 32 := Scalar.addi v2 c1_i32_870
  let c4_i32_871 : BitVec 32 := 4#32
  let v1392 : BitVec 32 := Scalar.remsi v1391 c4_i32_871
  let c0_i32_874 : BitVec 32 := 0#32
  ![v1392.toNat, 0]
def k0_off30 (d0 : Dev nD) (c1_i32_870 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1391 : BitVec 32 := Scalar.addi v2 c1_i32_870
  let c4_i32_871 : BitVec 32 := 4#32
  let v1392 : BitVec 32 := Scalar.remsi v1391 c4_i32_871
  let c1_i32_885 : BitVec 32 := 1#32
  ![v1392.toNat, 1]
def k0_off31 (d0 : Dev nD) (c1_i32_870 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1391 : BitVec 32 := Scalar.addi v2 c1_i32_870
  let c4_i32_871 : BitVec 32 := 4#32
  let v1392 : BitVec 32 := Scalar.remsi v1391 c4_i32_871
  let v1409 : Index := Scalar.indexCast v1392
  let c0_894 : Index := 0#32
  let c0_895 : Index := 0#32
  let c0_896 : Index := 0#32
  ![v1409.toNat, 0, 0, 0]
def k0_off32 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_959 : BitVec 32 := 0#32
  let c0_i32_960 : BitVec 32 := 0#32
  let c0_i32_961 : BitVec 32 := 0#32
  ![v2.toNat, 0, 0, 0]
def k0_dev13 (d0 : Dev nD) : Nat :=
  let c0_i32_958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_954 : BitVec 32 := 1#32
  let v1466 : BitVec 32 := Scalar.addi v2 c1_i32_954
  let c4_i32_955 : BitVec 32 := 4#32
  let v1467 : BitVec 32 := Scalar.remsi v1466 c4_i32_955
  let c1_i32_957 : BitVec 32 := 1#32
  let v1468 : BitVec 32 := Scalar.muli v1467 c1_i32_957
  let v1469 : BitVec 32 := Scalar.addi c0_i32_958 v1468
  v1469.toNat
def k0_dev14 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_965 : BitVec 32 := 3#32
  let v1478 : BitVec 32 := Scalar.addi v2 c3_i32_965
  let c4_i32_966 : BitVec 32 := 4#32
  let v1479 : BitVec 32 := Scalar.remsi v1478 c4_i32_966
  let c1_i32_968 : BitVec 32 := 1#32
  let v1480 : BitVec 32 := Scalar.muli v1479 c1_i32_968
  let v1481 : BitVec 32 := Scalar.addi c0_i32_969 v1480
  v1481.toNat
def k0_dev15 (d0 : Dev nD) : Nat :=
  let c0_i32_980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_976 : BitVec 32 := 2#32
  let v1490 : BitVec 32 := Scalar.addi v2 c2_i32_976
  let c4_i32_977 : BitVec 32 := 4#32
  let v1491 : BitVec 32 := Scalar.remsi v1490 c4_i32_977
  let c1_i32_979 : BitVec 32 := 1#32
  let v1492 : BitVec 32 := Scalar.muli v1491 c1_i32_979
  let v1493 : BitVec 32 := Scalar.addi c0_i32_980 v1492
  v1493.toNat
def k0_off33 (d0 : Dev nD) : Fin 3 → Nat :=
  let c0_988 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_987 : BitVec 32 := 64#32
  let v1502 : BitVec 32 := Scalar.muli v2 c64_i32_987
  let v1503 : Index := Scalar.indexCast v1502
  let c0_989 : Index := 0#32
  ![0, v1503.toNat, 0]
def k0_off34 (d0 : Dev nD) (c1_i32_990 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1505 : BitVec 32 := Scalar.addi v2 c1_i32_990
  let c4_i32_991 : BitVec 32 := 4#32
  let v1506 : BitVec 32 := Scalar.remsi v1505 c4_i32_991
  let c0_i32_995 : BitVec 32 := 0#32
  let c0_i32_996 : BitVec 32 := 0#32
  let c0_i32_997 : BitVec 32 := 0#32
  ![v1506.toNat, 0, 0, 0]
def k0_off35 (d0 : Dev nD) (c1_i32_990 : BitVec 32) : Fin 3 → Nat :=
  let c0_1005 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1505 : BitVec 32 := Scalar.addi v2 c1_i32_990
  let c4_i32_991 : BitVec 32 := 4#32
  let v1506 : BitVec 32 := Scalar.remsi v1505 c4_i32_991
  let c64_i32_1004 : BitVec 32 := 64#32
  let v1519 : BitVec 32 := Scalar.muli v1506 c64_i32_1004
  let v1520 : Index := Scalar.indexCast v1519
  let c0_1006 : Index := 0#32
  ![0, v1520.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x2x4x256x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S_ : Shape := ⟨0, ![]⟩
abbrev S2x256x1024 : Shape := ⟨3, ![2, 256, 1024]⟩
abbrev S2x256x16x64 : Shape := ⟨4, ![2, 256, 16, 64]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 161
  | .vmem => 0
  | .smem => 0
  | _ => 0

abbrev hbmTy0_0 (i : Nat) : BufTy := match i % 128 with
  | 0 => ⟨S2x256x512, .bf16⟩
  | 1 => ⟨S512x1024, .bf16⟩
  | 2 => ⟨S2x1024x16x64, .bf16⟩
  | 3 => ⟨S2x1024x16x64, .bf16⟩
  | 4 => ⟨S1024x512, .bf16⟩
  | 5 => ⟨S_, .bf16⟩
  | 6 => ⟨S2x1024x16x64, .bf16⟩
  | 7 => ⟨S2x1024x16x64, .bf16⟩
  | 8 => ⟨S2x1024x16x64, .bf16⟩
  | 9 => ⟨S_, .i32⟩
  | 10 => ⟨S_, .i32⟩
  | 11 => ⟨S_, .bf16⟩
  | 12 => ⟨S2x1024x16x64, .bf16⟩
  | 13 => ⟨S2x1024x16x64, .bf16⟩
  | 14 => ⟨S_, .bf16⟩
  | 15 => ⟨S2x1024x16x64, .bf16⟩
  | 16 => ⟨S2x1024x16x64, .bf16⟩
  | 17 => ⟨S2x1024x16x64, .f32⟩
  | 18 => ⟨S_, .f32⟩
  | 19 => ⟨S2x1024x16x64, .f32⟩
  | 20 => ⟨S2x1024x16x64, .f32⟩
  | 21 => ⟨S_, .bf16⟩
  | 22 => ⟨S2x1024x16x64, .bf16⟩
  | 23 => ⟨S2x1024x16x64, .bf16⟩
  | 24 => ⟨S2x1024x16x64, .bf16⟩
  | 25 => ⟨S_, .i32⟩
  | 26 => ⟨S_, .i32⟩
  | 27 => ⟨S_, .bf16⟩
  | 28 => ⟨S2x1024x16x64, .bf16⟩
  | 29 => ⟨S2x1024x16x64, .bf16⟩
  | 30 => ⟨S_, .bf16⟩
  | 31 => ⟨S2x1024x16x64, .bf16⟩
  | 32 => ⟨S2x1024x16x64, .bf16⟩
  | 33 => ⟨S2x1024x16x64, .f32⟩
  | 34 => ⟨S_, .f32⟩
  | 35 => ⟨S2x1024x16x64, .f32⟩
  | 36 => ⟨S2x1024x16x64, .f32⟩
  | 37 => ⟨S2x256x512, .f32⟩
  | 38 => ⟨S512x1024, .f32⟩
  | 39 => ⟨S2x256x1024, .f32⟩
  | 40 => ⟨S2x256x16x64, .f32⟩
  | 41 => ⟨S256, .i32⟩
  | 42 => ⟨S_, .i32⟩
  | 43 => ⟨S_, .i32⟩
  | 44 => ⟨S256, .i32⟩
  | 45 => ⟨S256, .i32⟩
  | 46 => ⟨S256, .i32⟩
  | 47 => ⟨S_, .i32⟩
  | 48 => ⟨S256, .i32⟩
  | 49 => ⟨S256, .i1⟩
  | 50 => ⟨S256, .i32⟩
  | 51 => ⟨S256, .i32⟩
  | 52 => ⟨S_, .i32⟩
  | 53 => ⟨S256, .i32⟩
  | 54 => ⟨S256, .i1⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S1024, .i32⟩
  | 62 => ⟨S_, .i32⟩
  | 63 => ⟨S_, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i1⟩
  | 70 => ⟨S1024, .i32⟩
  | 71 => ⟨S1024, .i32⟩
  | 72 => ⟨S_, .i32⟩
  | 73 => ⟨S1024, .i32⟩
  | 74 => ⟨S1024, .i1⟩
  | 75 => ⟨S1024, .i1⟩
  | 76 => ⟨S_, .i32⟩
  | 77 => ⟨S1024, .i32⟩
  | 78 => ⟨S1024, .i32⟩
  | 79 => ⟨S1024, .i32⟩
  | 80 => ⟨S1x1024, .i32⟩
  | 81 => ⟨S256x1024, .i32⟩
  | 82 => ⟨S256x1024, .i32⟩
  | 83 => ⟨S256x1024, .i1⟩
  | 84 => ⟨S_, .i32⟩
  | 85 => ⟨S1x1024, .i32⟩
  | 86 => ⟨S1x1024, .i1⟩
  | 87 => ⟨S256x1024, .i1⟩
  | 88 => ⟨S256x1024, .i1⟩
  | 89 => ⟨S256x1024, .i32⟩
  | 90 => ⟨S256x1024, .i32⟩
  | 91 => ⟨S256x1024, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S256x1024, .i32⟩
  | 99 => ⟨S256x1024, .i32⟩
  | 100 => ⟨S_, .i32⟩
  | 101 => ⟨S256x1024, .i32⟩
  | 102 => ⟨S256x1024, .i1⟩
  | 103 => ⟨S_, .i32⟩
  | 104 => ⟨S256x1024, .i32⟩
  | 105 => ⟨S256x1024, .i1⟩
  | 106 => ⟨S_, .i32⟩
  | 107 => ⟨S_, .i1⟩
  | 108 => ⟨S256x1024, .i1⟩
  | 109 => ⟨S256x1024, .i1⟩
  | 110 => ⟨S256x1024, .i1⟩
  | 111 => ⟨S256x1024, .i32⟩
  | 112 => ⟨S256x1024, .i32⟩
  | 113 => ⟨S256x1024, .i32⟩
  | 114 => ⟨S_, .i32⟩
  | 115 => ⟨S256x1024, .i32⟩
  | 116 => ⟨S256x1024, .i1⟩
  | 117 => ⟨S256x1024, .i1⟩
  | 118 => ⟨S2x16x256x1024, .f32⟩
  | 119 => ⟨S_, .f32⟩
  | 120 => ⟨S2x16x256x1024, .f32⟩
  | 121 => ⟨S2x16x256x1024, .f32⟩
  | 122 => ⟨S1x1x256x1024, .i1⟩
  | 123 => ⟨S_, .f32⟩
  | 124 => ⟨S_, .f32⟩
  | 125 => ⟨S2x16x256x1024, .i1⟩
  | 126 => ⟨S2x16x256x1024, .f32⟩
  | 127 => ⟨S2x16x256x1024, .f32⟩
  | _ => ⟨S2x256x512, .bf16⟩

abbrev hbmTy0_1 (i : Nat) : BufTy := match i % 128 with
  | 0 => ⟨S_, .f32⟩
  | 1 => ⟨S2x16x256, .f32⟩
  | 2 => ⟨S2x16x256x1, .f32⟩
  | 3 => ⟨S2x16x256x1024, .f32⟩
  | 4 => ⟨S2x16x256x1024, .f32⟩
  | 5 => ⟨S2x16x256x1024, .f32⟩
  | 6 => ⟨S_, .i1⟩
  | 7 => ⟨S256, .i1⟩
  | 8 => ⟨S1x1x256x1, .i1⟩
  | 9 => ⟨S_, .f32⟩
  | 10 => ⟨S2x16x256, .f32⟩
  | 11 => ⟨S2x16x256x1, .f32⟩
  | 12 => ⟨S_, .f32⟩
  | 13 => ⟨S_, .f32⟩
  | 14 => ⟨S2x16x256x1, .i1⟩
  | 15 => ⟨S2x16x256x1, .f32⟩
  | 16 => ⟨S2x16x256x1, .f32⟩
  | 17 => ⟨S_, .f32⟩
  | 18 => ⟨S2x16x256x1, .f32⟩
  | 19 => ⟨S2x16x256x1, .f32⟩
  | 20 => ⟨S2x16x256x1024, .f32⟩
  | 21 => ⟨S2x16x256x1024, .f32⟩
  | 22 => ⟨S1x1x256x1, .i1⟩
  | 23 => ⟨S_, .f32⟩
  | 24 => ⟨S_, .f32⟩
  | 25 => ⟨S2x16x256x1024, .i1⟩
  | 26 => ⟨S2x16x256x1024, .f32⟩
  | 27 => ⟨S2x16x256x1024, .f32⟩
  | 28 => ⟨S2x16x64x256, .f32⟩
  | 29 => ⟨S2x256x16x64, .f32⟩
  | 30 => ⟨S2x256x1024, .f32⟩
  | 31 => ⟨S1024x512, .f32⟩
  | 32 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_c_4 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_v8 : Ref sig .tc := ⟨.hbm, 51, rfl⟩
abbrev main_call4_c : Ref sig .tc := ⟨.hbm, 52, rfl⟩
abbrev main_call4_v9 : Ref sig .tc := ⟨.hbm, 53, rfl⟩
abbrev main_call4_v10 : Ref sig .tc := ⟨.hbm, 54, rfl⟩
abbrev main_call4_v11 : Ref sig .tc := ⟨.hbm, 55, rfl⟩
abbrev main_call4_c_0 : Ref sig .tc := ⟨.hbm, 56, rfl⟩
abbrev main_call4_v12 : Ref sig .tc := ⟨.hbm, 57, rfl⟩
abbrev main_call4_v13 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_7 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_v5 : Ref sig .tc := ⟨.hbm, 68, rfl⟩
abbrev main_call5_v6 : Ref sig .tc := ⟨.hbm, 69, rfl⟩
abbrev main_call5_v7 : Ref sig .tc := ⟨.hbm, 70, rfl⟩
abbrev main_call5_v8 : Ref sig .tc := ⟨.hbm, 71, rfl⟩
abbrev main_call5_c : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_c_0 : Ref sig .tc := ⟨.hbm, 76, rfl⟩
abbrev main_call5_v12 : Ref sig .tc := ⟨.hbm, 77, rfl⟩
abbrev main_call5_v13 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_8 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_9 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v34 : Ref sig .tc := ⟨.hbm, 113, rfl⟩
abbrev main_c_10 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_cst_11 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_12 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_v42 : Ref sig .tc := ⟨.hbm, 127, rfl⟩
abbrev main_cst_13 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_c_14 : Ref sig .tc := ⟨.hbm, 134, rfl⟩
abbrev main_v48 : Ref sig .tc := ⟨.hbm, 135, rfl⟩
abbrev main_v49 : Ref sig .tc := ⟨.hbm, 136, rfl⟩
abbrev main_cst_15 : Ref sig .tc := ⟨.hbm, 137, rfl⟩
abbrev main_v50 : Ref sig .tc := ⟨.hbm, 138, rfl⟩
abbrev main_v51 : Ref sig .tc := ⟨.hbm, 139, rfl⟩
abbrev main_cst_16 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v52 : Ref sig .tc := ⟨.hbm, 144, rfl⟩
abbrev main_cst_17 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_cst_18 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩

abbrev nD : Nat := 1
abbrev τ : Topo := Topo.v7x

variable {F : FTy → Type} [FloatOps F]
-- ==== Proof.Vals.lean ====
module

public import proofs.«01_k».proof.Proof.Gen.KernelIdeal.Skeleton
public import proofs.«01_k».proof.Proof.Gen.KernelIdeal.Frame
public import Idealize.ShloMosaic.Lib.Pointwise.Index

@[expose] public section

set_option maxRecDepth 65536

noncomputable section

namespace Cert.KernelIdeal.Prf

open Idealize.ShloMosaic Idealize.SL.Sem Cert.KernelIdeal.Gen

variable {F : FTy → Type} [FloatOps F] [Named F]

/-- What the five windows hold when the kernel starts, per device. -/
structure Ins (F : FTy → Type) where
  /-- the tokens -/
  x : Dev nD → Vec F S2x256x512 .bf16
  /-- the query weights by head -/
  wq : Dev nD → Vec F S4x512x64 .bf16
  /-- the quantised keys and values by destination -/
  kv : Dev nD → Vec F S4x2x2x4x256x64 .i8
  /-- the output weights by head -/
  wo : Dev nD → Vec F S4x64x512 .bf16

/-- A buffer's contents read through a rectangle. -/
def ld {s : Shape} {α : Type} (f : s.Idx → α) (r : Rect s) : r.shape.Idx → α := fun i => f (r.emb i)

variable (I : Ins F) (c : Dev nD)

/-- The keys and values a device ends up holding: slot `j` is what device `j` made for it. -/
def kvR : Vec F S4x2x2x4x256x64 .i8 :=
  fun i => I.kv (i 0) (ix6 c (i 1) (i 2) (i 3) (i 4) (i 5))

def v2 (I : Ins F) (c : Dev nD) : BitVec 32 :=
  Scalar.remsi (Scalar.divsi (Dev.word c) 1#32) 4#32
def v41 : Vec F S1x2x2x4x256x64 .i8 :=
  ld (I.kv c) (Rect.unit (s := S4x2x2x4x256x64) (k0_off4 c) S1x2x2x4x256x64.size (k0_off4_inb c))
def v47 : Vec F S1x256x512 .bf16 :=
  ld (I.x c) (Rect.unit (s := S2x256x512) ![0, 0, 0] S1x256x512.size inb_S2x256x512_S1x256x512_0_0_0)
def v48 : FVec F S256x512 .bf16 :=
  (k0_pay2 (v47 I c))
def v49 : Vec F S1x512x64 .bf16 :=
  ld (I.wq c) (Rect.unit (s := S4x512x64) ![0, 0, 0] S1x512x64.size inb_S4x512x64_S1x512x64_0_0_0)
def v55 : Vec F S1x256x512 .bf16 :=
  ld (I.x c) (Rect.unit (s := S2x256x512) ![0, 0, 0] S1x256x512.size inb_S2x256x512_S1x256x512_0_0_0)
def v57 : Vec F S1x512x64 .bf16 :=
  ld (I.wq c) (Rect.unit (s := S4x512x64) ![1, 0, 0] S1x512x64.size inb_S4x512x64_S1x512x64_1_0_0)
def v63 : Vec F S1x256x512 .bf16 :=
  ld (I.x c) (Rect.unit (s := S2x256x512) ![0, 0, 0] S1x256x512.size inb_S2x256x512_S1x256x512_0_0_0)
def v65 : Vec F S1x512x64 .bf16 :=
  ld (I.wq c) (Rect.unit (s := S4x512x64) ![2, 0, 0] S1x512x64.size inb_S4x512x64_S1x512x64_2_0_0)
def v71 : Vec F S1x256x512 .bf16 :=
  ld (I.x c) (Rect.unit (s := S2x256x512) ![0, 0, 0] S1x256x512.size inb_S2x256x512_S1x256x512_0_0_0)
def v73 : Vec F S1x512x64 .bf16 :=
  ld (I.wq c) (Rect.unit (s := S4x512x64) ![3, 0, 0] S1x512x64.size inb_S4x512x64_S1x512x64_3_0_0)
def v54 : FVec F S256x64 .bf16 :=
  k0_pay3 (v48 I c) (v49 I c)
def v62 : FVec F S256x64 .bf16 :=
  k0_pay4 (v55 I c) (v57 I c)
def v70 : FVec F S256x64 .bf16 :=
  k0_pay5 (v63 I c) (v65 I c)
def v78 : FVec F S256x64 .bf16 :=
  k0_pay6 (v71 I c) (v73 I c)
def v79 : Vec F S1x256x512 .bf16 :=
  ld (I.x c) (Rect.unit (s := S2x256x512) ![1, 0, 0] S1x256x512.size inb_S2x256x512_S1x256x512_1_0_0)
def v81 : Vec F S1x512x64 .bf16 :=
  ld (I.wq c) (Rect.unit (s := S4x512x64) ![0, 0, 0] S1x512x64.size inb_S4x512x64_S1x512x64_0_0_0)
def v87 : Vec F S1x256x512 .bf16 :=
  ld (I.x c) (Rect.unit (s := S2x256x512) ![1, 0, 0] S1x256x512.size inb_S2x256x512_S1x256x512_1_0_0)
def v89 : Vec F S1x512x64 .bf16 :=
  ld (I.wq c) (Rect.unit (s := S4x512x64) ![1, 0, 0] S1x512x64.size inb_S4x512x64_S1x512x64_1_0_0)
def v95 : Vec F S1x256x512 .bf16 :=
  ld (I.x c) (Rect.unit (s := S2x256x512) ![1, 0, 0] S1x256x512.size inb_S2x256x512_S1x256x512_1_0_0)
def v97 : Vec F S1x512x64 .bf16 :=
  ld (I.wq c) (Rect.unit (s := S4x512x64) ![2, 0, 0] S1x512x64.size inb_S4x512x64_S1x512x64_2_0_0)
def v103 : Vec F S1x256x512 .bf16 :=
  ld (I.x c) (Rect.unit (s := S2x256x512) ![1, 0, 0] S1x256x512.size inb_S2x256x512_S1x256x512_1_0_0)
def v105 : Vec F S1x512x64 .bf16 :=
  ld (I.wq c) (Rect.unit (s := S4x512x64) ![3, 0, 0] S1x512x64.size inb_S4x512x64_S1x512x64_3_0_0)
def v86 : FVec F S256x64 .bf16 :=
  k0_pay7 (v79 I c) (v81 I c)
def v94 : FVec F S256x64 .bf16 :=
  k0_pay8 (v87 I c) (v89 I c)
def v102 : FVec F S256x64 .bf16 :=
  k0_pay9 (v95 I c) (v97 I c)
def v107 : FVec F S256x64 .f32 :=
  k0_pay10 (v103 I c) (v105 I c)
def v108 (I : Ins F) (c : Dev nD) : FVec F S256x64 .f32 :=
  k0_pay11 (F := F)
def v110 : FVec F S256x64 .bf16 :=
  (k0_pay12 (v107 I c) (v108 I c))
def v160 (I : Ins F) (c : Dev nD) : IVec S256x256 32 :=
  iota .tc S256x256 32 [1] iota_S256x256_d1_w32
def v170 (I : Ins F) (c : Dev nD) : BitVec 1 :=
  Scalar.cmpi .sgt 64#32 0#32
def v171 : BitVec 32 :=
  Scalar.extui (v170 I c)
def v172 (I : Ins F) (c : Dev nD) : BitVec 1 :=
  Scalar.cmpi .slt 64#32 0#32
def v173 : BitVec 32 :=
  Scalar.extui (v172 I c)
def v174 : BitVec 32 :=
  Scalar.subi (v171 I c) (v173 I c)
def v159 (I : Ins F) (c : Dev nD) : IVec S256x256 32 :=
  k0_pay13
def c64_i32_157 (I : Ins F) (c : Dev nD) : BitVec 32 :=
  64#32
def v162 (I : Ins F) (c : Dev nD) : IVec S256x256 32 :=
  k0_pay14
def v169 (I : Ins F) (c : Dev nD) : IVec S256x256 32 :=
  k0_pay15
def v185 : BitVec 32 :=
  Scalar.addi (v2 I c) 0#32
def v186 : BitVec 32 :=
  Scalar.remsi (v185 I c) 4#32
def v184 : IVec S256x256 32 :=
  k0_pay16 (v160 I c) (c64_i32_157 I c) (v162 I c) (v169 I c) (v174 I c)
def v216 : FVec F S256x256 .f32 :=
  k0_pay17 (F := F) (v2 I c) (v159 I c) (v160 I c) (c64_i32_157 I c) (v162 I c) (v169 I c) (v174 I c)
def v218 : Vec F S1x1x1x1x256x64 .i8 :=
  ld (kvR I c) (Rect.unit (s := S4x2x2x4x256x64) (k0_off5 c 0#32) S1x1x1x1x256x64.size (k0_off5_inb c 0))
def v223 : Vec F S1x1x1x1x256x64 .i8 :=
  ld (kvR I c) (Rect.unit (s := S4x2x2x4x256x64) (k0_off6 c 0#32) S1x1x1x1x256x64.size (k0_off6_inb c 0))
def v239 : Vec F S1x1x1x1x256x64 .i8 :=
  ld (kvR I c) (Rect.unit (s := S4x2x2x4x256x64) (k0_off7 c 0#32) S1x1x1x1x256x64.size (k0_off7_inb c 0))
def v244 : Vec F S1x1x1x1x256x64 .i8 :=
  ld (kvR I c) (Rect.unit (s := S4x2x2x4x256x64) (k0_off8 c 0#32) S1x1x1x1x256x64.size (k0_off8_inb c 0))
def v230 : FVec F S256x1 .f32 :=
  k0_pay19 (v54 I c) (v216 I c) (v218 I c)
def v235 : FVec F S256x1 .f32 :=
  k0_pay21 (v54 I c) (v216 I c) (v218 I c)
def v237 : FVec F S256x64 .f32 :=
  k0_pay22 (v54 I c) (v216 I c) (v218 I c) (v223 I c)
def v247 : FVec F S256x64 .bf16 :=
  k0_pay23 (v244 I c)
def v251 : FVec F S256x1 .f32 :=
  k0_pay25 (v62 I c) (v216 I c) (v239 I c)
def v253 : FVec F S256x256 .f32 :=
  k0_pay26 (v62 I c) (v216 I c) (v239 I c)
def v260 : Vec F S1x1x1x1x256x64 .i8 :=
  ld (kvR I c) (Rect.unit (s := S4x2x2x4x256x64) (k0_off9 c 0#32) S1x1x1x1x256x64.size (k0_off9_inb c 0))
def v265 : Vec F S1x1x1x1x256x64 .i8 :=
  ld (kvR I c) (Rect.unit (s := S4x2x2x4x256x64) (k0_off10 c 0#32) S1x1x1x1x256x64.size (k0_off10_inb c 0))
def v281 : Vec F S1x1x1x1x256x64 .i8 :=
  ld (kvR I c) (Rect.unit (s := S4x2x2x4x256x64) (k0_off11 c 0#32) S1x1x1x1x256x64.size (k0_off11_inb c 0))
def v286 : Vec F S1x1x1x1x256x64 .i8 :=
  ld (kvR I c) (Rect.unit (s := S4x2x2x4x256x64) (k0_off12 c 0#32) S1x1x1x1x256x64.size (k0_off12_inb c 0))
def v256 : FVec F S256x1 .f32 :=
  k0_pay28 (v253 I c)
def v258 : FVec F S256x64 .f32 :=
  k0_pay29 (v247 I c) (v253 I c)
def v272 : FVec F S256x1 .f32 :=
  k0_pay31 (v70 I c) (v216 I c) (v260 I c)
def v277 : FVec F S256x1 .f32 :=
  k0_pay33 (v70 I c) (v216 I c) (v260 I c)
def v279 : FVec F S256x64 .f32 :=
  k0_pay34 (v70 I c) (v216 I c) (v260 I c) (v265 I c)
def v284 : FVec F S256x64 .bf16 :=
  k0_pay35 (v281 I c)
def v287 : IVec S1x256x64 8 :=
  k0_pay36 (v286 I c)
def v302 : Vec F S1x1x1x1x256x64 .i8 :=
  ld (kvR I c) (Rect.unit (s := S4x2x2x4x256x64) (k0_off13 c 0#32) S1x1x1x1x256x64.size (k0_off13_inb c 0))
def v307 : Vec F S1x1x1x1x256x64 .i8 :=
  ld (kvR I c) (Rect.unit (s := S4x2x2x4x256x64) (k0_off14 c 0#32) S1x1x1x1x256x64.size (k0_off14_inb c 0))
def v323 : Vec F S1x1x1x1x256x64 .i8 :=
  ld (kvR I c) (Rect.unit (s := S4x2x2x4x256x64) (k0_off15 c 0#32) S1x1x1x1x256x64.size (k0_off15_inb c 0))
def v293 : FVec F S256x1 .f32 :=
  k0_pay38 (v78 I c) (v216 I c) (v284 I c)
def v298 : FVec F S256x1 .f32 :=
  k0_pay40 (v78 I c) (v216 I c) (v284 I c)
def v300 : FVec F S256x64 .f32 :=
  k0_pay41 (v78 I c) (v216 I c) (v284 I c) (v287 I c)
def v314 : FVec F S256x1 .f32 :=
  k0_pay43 (v86 I c) (v216 I c) (v302 I c)
def v319 : FVec F S256x1 .f32 :=
  k0_pay45 (v86 I c) (v216 I c) (v302 I c)
def v321 : FVec F S256x64 .f32 :=
  k0_pay46 (v86 I c) (v216 I c) (v302 I c) (v307 I c)
def v324 : IVec S1x256x64 8 :=
  k0_pay47 (v323 I c)
def v328 : Vec F S1x1x1x1x256x64 .i8 :=
  ld (kvR I c) (Rect.unit (s := S4x2x2x4x256x64) (k0_off16 c 0#32) S1x1x1x1x256x64.size (k0_off16_inb c 0))
def v344 : Vec F S1x1x1x1x256x64 .i8 :=
  ld (kvR I c) (Rect.unit (s := S4x2x2x4x256x64) (k0_off17 c 0#32) S1x1x1x1x256x64.size (k0_off17_inb c 0))
def v349 : Vec F S1x1x1x1x256x64 .i8 :=
  ld (kvR I c) (Rect.unit (s := S4x2x2x4x256x64) (k0_off18 c 0#32) S1x1x1x1x256x64.size (k0_off18_inb c 0))
def v335 : FVec F S256x1 .f32 :=
  k0_pay49 (v94 I c) (v216 I c) (v324 I c)
def v340 : FVec F S256x1 .f32 :=
  k0_pay51 (v94 I c) (v216 I c) (v324 I c)
def v342 : FVec F S256x64 .f32 :=
  k0_pay52 (v94 I c) (v216 I c) (v324 I c) (v328 I c)
def v352 : FVec F S256x64 .bf16 :=
  k0_pay53 (v349 I c)
def v356 : FVec F S256x1 .f32 :=
  k0_pay55 (v102 I c) (v216 I c) (v344 I c)
def v361 : FVec F S256x1 .f32 :=
  k0_pay57 (v102 I c) (v216 I c) (v344 I c)
def v362 : FVec F S256x256 .bf16 :=
  k0_pay58 (v102 I c) (v216 I c) (v344 I c)
def v365 : Vec F S1x1x1x1x256x64 .i8 :=
  ld (kvR I c) (Rect.unit (s := S4x2x2x4x256x64) (k0_off19 c 0#32) S1x1x1x1x256x64.size (k0_off19_inb c 0))
def v370 : Vec F S1x1x1x1x256x64 .i8 :=
  ld (kvR I c) (Rect.unit (s := S4x2x2x4x256x64) (k0_off20 c 0#32) S1x1x1x1x256x64.size (k0_off20_inb c 0))
def v385 : BitVec 32 :=
  Scalar.addi (v2 I c) 1#32
def v386 : BitVec 32 :=
  Scalar.remsi (v385 I c) 4#32
def v363 : FVec F S256x64 .f32 :=
  k0_pay59 (v352 I c) (v362 I c)
def v377 : FVec F S256x1 .f32 :=
  k0_pay61 (v110 I c) (v216 I c) (v365 I c)
def v382 : FVec F S256x1 .f32 :=
  k0_pay63 (v110 I c) (v216 I c) (v365 I c)
def v384 : FVec F S256x64 .f32 :=
  k0_pay64 (v110 I c) (v216 I c) (v365 I c) (v370 I c)
def v426 : Vec F S1x1x1x1x256x64 .i8 :=
  ld (kvR I c) (Rect.unit (s := S4x2x2x4x256x64) (k0_off5 c 1#32) S1x1x1x1x256x64.size (k0_off5_inb c 1))
def v424 : FVec F S256x256 .f32 :=
  k0_pay65 (F := F) (v159 I c) (v184 I c) (v386 I c)
def v429 : FVec F S256x64 .bf16 :=
  k0_pay66 (v426 I c)
def v431 : Vec F S1x1x1x1x256x64 .i8 :=
  ld (kvR I c) (Rect.unit (s := S4x2x2x4x256x64) (k0_off6 c 1#32) S1x1x1x1x256x64.size (k0_off6_inb c 1))
def v455 : Vec F S1x1x1x1x256x64 .i8 :=
  ld (kvR I c) (Rect.unit (s := S4x2x2x4x256x64) (k0_off7 c 1#32) S1x1x1x1x256x64.size (k0_off7_inb c 1))
def v460 : Vec F S1x1x1x1x256x64 .i8 :=
  ld (kvR I c) (Rect.unit (s := S4x2x2x4x256x64) (k0_off8 c 1#32) S1x1x1x1x256x64.size (k0_off8_inb c 1))
def v439 : FVec F S256x1 .f32 :=
  k0_pay68 (v54 I c) (v230 I c) (v424 I c) (v429 I c)
def v448 : FVec F S256x1 .f32 :=
  k0_pay71 (v54 I c) (v230 I c) (v235 I c) (v424 I c) (v429 I c)
def v453 : FVec F S256x64 .f32 :=
  k0_pay72 (v54 I c) (v230 I c) (v237 I c) (v424 I c) (v429 I c) (v431 I c)
def v463 : FVec F S256x64 .bf16 :=
  k0_pay73 (v460 I c)
def v468 : FVec F S256x1 .f32 :=
  k0_pay75 (v62 I c) (v251 I c) (v424 I c) (v455 I c)
def v470 : FVec F S256x1 .f32 :=
  k0_pay76 (v62 I c) (v251 I c) (v424 I c) (v455 I c)
def v473 : FVec F S256x256 .f32 :=
  k0_pay77 (v62 I c) (v251 I c) (v424 I c) (v455 I c)
def v474 : FVec F S256x1 .f32 :=
  k0_pay78 (v62 I c) (v251 I c) (v256 I c) (v424 I c) (v455 I c)
def v484 : Vec F S1x1x1x1x256x64 .i8 :=
  ld (kvR I c) (Rect.unit (s := S4x2x2x4x256x64) (k0_off9 c 1#32) S1x1x1x1x256x64.size (k0_off9_inb c 1))
def v489 : Vec F S1x1x1x1x256x64 .i8 :=
  ld (kvR I c) (Rect.unit (s := S4x2x2x4x256x64) (k0_off10 c 1#32) S1x1x1x1x256x64.size (k0_off10_inb c 1))
def v513 : Vec F S1x1x1x1x256x64 .i8 :=
  ld (kvR I c) (Rect.unit (s := S4x2x2x4x256x64) (k0_off11 c 1#32) S1x1x1x1x256x64.size (k0_off11_inb c 1))
def v477 : FVec F S256x1 .f32 :=
  k0_pay79 (v473 I c) (v474 I c)
def v482 : FVec F S256x64 .f32 :=
  k0_pay80 (v258 I c) (v463 I c) (v470 I c) (v473 I c)
def v497 : FVec F S256x1 .f32 :=
  k0_pay82 (v70 I c) (v272 I c) (v424 I c) (v484 I c)
def v506 : FVec F S256x1 .f32 :=
  k0_pay85 (v70 I c) (v272 I c) (v277 I c) (v424 I c) (v484 I c)
def v511 : FVec F S256x64 .f32 :=
  k0_pay86 (v70 I c) (v272 I c) (v279 I c) (v424 I c) (v484 I c) (v489 I c)
def v518 : Vec F S1x1x1x1x256x64 .i8 :=
  ld (kvR I c) (Rect.unit (s := S4x2x2x4x256x64) (k0_off12 c 1#32) S1x1x1x1x256x64.size (k0_off12_inb c 1))
def v542 : Vec F S1x1x1x1x256x64 .i8 :=
  ld (kvR I c) (Rect.unit (s := S4x2x2x4x256x64) (k0_off13 c 1#32) S1x1x1x1x256x64.size (k0_off13_inb c 1))
def v547 : Vec F S1x1x1x1x256x64 .i8 :=
  ld (kvR I c) (Rect.unit (s := S4x2x2x4x256x64) (k0_off14 c 1#32) S1x1x1x1x256x64.size (k0_off14_inb c 1))
def v526 : FVec F S256x1 .f32 :=
  k0_pay88 (v78 I c) (v293 I c) (v424 I c) (v513 I c)
def v535 : FVec F S256x1 .f32 :=
  k0_pay91 (v78 I c) (v293 I c) (v298 I c) (v424 I c) (v513 I c)
def v540 : FVec F S256x64 .f32 :=
  k0_pay92 (v78 I c) (v293 I c) (v300 I c) (v424 I c) (v513 I c) (v518 I c)
def v550 : FVec F S256x64 .bf16 :=
  k0_pay93 (v547 I c)
def v552 : FVec F S256x256 .f32 :=
  k0_pay94 (v86 I c) (v424 I c) (v542 I c)
def v571 : Vec F S1x1x1x1x256x64 .i8 :=
  ld (kvR I c) (Rect.unit (s := S4x2x2x4x256x64) (k0_off15 c 1#32) S1x1x1x1x256x64.size (k0_off15_inb c 1))
def v576 : Vec F S1x1x1x1x256x64 .i8 :=
  ld (kvR I c) (Rect.unit (s := S4x2x2x4x256x64) (k0_off16 c 1#32) S1x1x1x1x256x64.size (k0_off16_inb c 1))
def cst_398 (I : Ins F) (c : Dev nD) : FVec F S256x64 .f32 :=
  constant S256x64 .f32 0x00000000#32
def v555 : FVec F S256x1 .f32 :=
  k0_pay95 (v314 I c) (v552 I c)
def v564 : FVec F S256x1 .f32 :=
  k0_pay98 (v314 I c) (v319 I c) (v552 I c)
def v569 : FVec F S256x64 .f32 :=
  k0_pay99 (v314 I c) (v321 I c) (v550 I c) (v552 I c)
def v579 : FVec F S256x64 .bf16 :=
  k0_pay100 (v576 I c)
def v584 : FVec F S256x1 .f32 :=
  k0_pay102 (v94 I c) (v335 I c) (v424 I c) (v571 I c)
def v593 : FVec F S256x1 .f32 :=
  k0_pay105 (v94 I c) (v335 I c) (v340 I c) (v424 I c) (v571 I c)
def v595 : FVec F S256x64 .f32 :=
  k0_pay106 (v94 I c) (v335 I c) (v342 I c) (v424 I c) (v571 I c)
def v596 : FVec F S256x256 .bf16 :=
  k0_pay107 (v94 I c) (v335 I c) (v424 I c) (v571 I c)
def v600 : Vec F S1x1x1x1x256x64 .i8 :=
  ld (kvR I c) (Rect.unit (s := S4x2x2x4x256x64) (k0_off17 c 1#32) S1x1x1x1x256x64.size (k0_off17_inb c 1))
def v605 : Vec F S1x1x1x1x256x64 .i8 :=
  ld (kvR I c) (Rect.unit (s := S4x2x2x4x256x64) (k0_off18 c 1#32) S1x1x1x1x256x64.size (k0_off18_inb c 1))
def v629 : Vec F S1x1x1x1x256x64 .i8 :=
  ld (kvR I c) (Rect.unit (s := S4x2x2x4x256x64) (k0_off19 c 1#32) S1x1x1x1x256x64.size (k0_off19_inb c 1))
def v598 : FVec F S256x64 .f32 :=
  k0_pay108 (v579 I c) (v595 I c) (v596 I c) (cst_398 I c)
def v613 : FVec F S256x1 .f32 :=
  k0_pay110 (v102 I c) (v356 I c) (v424 I c) (v600 I c)
def v622 : FVec F S256x1 .f32 :=
  k0_pay113 (v102 I c) (v356 I c) (v361 I c) (v424 I c) (v600 I c)
def v627 : FVec F S256x64 .f32 :=
  k0_pay114 (v102 I c) (v356 I c) (v363 I c) (v424 I c) (v600 I c) (v605 I c)
def v632 : FVec F S256x64 .bf16 :=
  k0_pay115 (v629 I c)
def v634 : Vec F S1x1x1x1x256x64 .i8 :=
  ld (kvR I c) (Rect.unit (s := S4x2x2x4x256x64) (k0_off20 c 1#32) S1x1x1x1x256x64.size (k0_off20_inb c 1))
def v657 : BitVec 32 :=
  Scalar.addi (v2 I c) 3#32
def v658 : BitVec 32 :=
  Scalar.remsi (v657 I c) 4#32
def v642 : FVec F S256x1 .f32 :=
  k0_pay117 (v110 I c) (v377 I c) (v424 I c) (v632 I c)
def v651 : FVec F S256x1 .f32 :=
  k0_pay120 (v110 I c) (v377 I c) (v382 I c) (v424 I c) (v632 I c)
def v656 : FVec F S256x64 .f32 :=
  k0_pay121 (v110 I c) (v377 I c) (v384 I c) (v424 I c) (v632 I c) (v634 I c)
def v669 : IVec S256x256 32 :=
  k0_pay122 (v2 I c) (v184 I c)
def v670 : IVec S256x256 1 :=
  k0_pay123 (v2 I c) (v159 I c) (v184 I c)
def c0_i32_443 (I : Ins F) (c : Dev nD) : BitVec 32 :=
  0#32
def v698 : Vec F S1x1x1x1x256x64 .i8 :=
  ld (kvR I c) (Rect.unit (s := S4x2x2x4x256x64) (k0_off5 c 3#32) S1x1x1x1x256x64.size (k0_off5_inb c 3))
def v703 : Vec F S1x1x1x1x256x64 .i8 :=
  ld (kvR I c) (Rect.unit (s := S4x2x2x4x256x64) (k0_off6 c 3#32) S1x1x1x1x256x64.size (k0_off6_inb c 3))
def v696 : FVec F S256x256 .f32 :=
  k0_pay124 (F := F) (v159 I c) (v669 I c) (v670 I c) (c0_i32_443 I c)
def v706 : FVec F S256x64 .bf16 :=
  k0_pay125 (v703 I c)
def v708 : FVec F S256x256 .f32 :=
  k0_pay126 (v54 I c) (v159 I c) (v669 I c) (v670 I c) (c0_i32_443 I c) (v698 I c)
def v709 : FVec F S256 .f32 :=
  k0_pay127 (v54 I c) (v159 I c) (v669 I c) (v670 I c) (c0_i32_443 I c) (v698 I c)
def v727 : Vec F S1x1x1x1x256x64 .i8 :=
  ld (kvR I c) (Rect.unit (s := S4x2x2x4x256x64) (k0_off7 c 3#32) S1x1x1x1x256x64.size (k0_off7_inb c 3))
def v732 : Vec F S1x1x1x1x256x64 .i8 :=
  ld (kvR I c) (Rect.unit (s := S4x2x2x4x256x64) (k0_off8 c 3#32) S1x1x1x1x256x64.size (k0_off8_inb c 3))
def v711 : FVec F S256x1 .f32 :=
  k0_pay128 (v439 I c) (v709 I c)
def v720 : FVec F S256x1 .f32 :=
  k0_pay131 (v439 I c) (v448 I c) (v708 I c) (v709 I c)
def v725 : FVec F S256x64 .f32 :=
  k0_pay132 (v439 I c) (v453 I c) (v706 I c) (v708 I c) (v709 I c)
def v740 : FVec F S256x1 .f32 :=
  k0_pay134 (v62 I c) (v468 I c) (v696 I c) (v727 I c)
def v749 : FVec F S256x1 .f32 :=
  k0_pay137 (v62 I c) (v468 I c) (v477 I c) (v696 I c) (v727 I c)
def v751 : FVec F S256x64 .f32 :=
  k0_pay138 (v62 I c) (v468 I c) (v482 I c) (v696 I c) (v727 I c)
def v753 : FVec F S256x64 .f32 :=
  k0_pay139 (v62 I c) (v468 I c) (v696 I c) (v727 I c) (v732 I c)
def v756 : Vec F S1x1x1x1x256x64 .i8 :=
  ld (kvR I c) (Rect.unit (s := S4x2x2x4x256x64) (k0_off9 c 3#32) S1x1x1x1x256x64.size (k0_off9_inb c 3))
def v761 : Vec F S1x1x1x1x256x64 .i8 :=
  ld (kvR I c) (Rect.unit (s := S4x2x2x4x256x64) (k0_off10 c 3#32) S1x1x1x1x256x64.size (k0_off10_inb c 3))
def v785 : Vec F S1x1x1x1x256x64 .i8 :=
  ld (kvR I c) (Rect.unit (s := S4x2x2x4x256x64) (k0_off11 c 3#32) S1x1x1x1x256x64.size (k0_off11_inb c 3))
def v754 : FVec F S256x64 .f32 :=
  k0_pay140 (v751 I c) (v753 I c)
def v769 : FVec F S256x1 .f32 :=
  k0_pay142 (v70 I c) (v497 I c) (v696 I c) (v756 I c)
def v778 : FVec F S256x1 .f32 :=
  k0_pay145 (v70 I c) (v497 I c) (v506 I c) (v696 I c) (v756 I c)
def v783 : FVec F S256x64 .f32 :=
  k0_pay146 (v70 I c) (v497 I c) (v511 I c) (v696 I c) (v756 I c) (v761 I c)
def v788 : FVec F S256x64 .bf16 :=
  k0_pay147 (v785 I c)
def v790 : Vec F S1x1x1x1x256x64 .i8 :=
  ld (kvR I c) (Rect.unit (s := S4x2x2x4x256x64) (k0_off12 c 3#32) S1x1x1x1x256x64.size (k0_off12_inb c 3))
def v814 : Vec F S1x1x1x1x256x64 .i8 :=
  ld (kvR I c) (Rect.unit (s := S4x2x2x4x256x64) (k0_off13 c 3#32) S1x1x1x1x256x64.size (k0_off13_inb c 3))
def v819 : Vec F S1x1x1x1x256x64 .i8 :=
  ld (kvR I c) (Rect.unit (s := S4x2x2x4x256x64) (k0_off14 c 3#32) S1x1x1x1x256x64.size (k0_off14_inb c 3))
def v798 : FVec F S256x1 .f32 :=
  k0_pay149 (v78 I c) (v526 I c) (v696 I c) (v788 I c)
def v807 : FVec F S256x1 .f32 :=
  k0_pay152 (v78 I c) (v526 I c) (v535 I c) (v696 I c) (v788 I c)
def v812 : FVec F S256x64 .f32 :=
  k0_pay153 (v78 I c) (v526 I c) (v540 I c) (v696 I c) (v788 I c) (v790 I c)
def v822 : FVec F S256x64 .bf16 :=
  k0_pay154 (v819 I c)
def v827 : FVec F S256x1 .f32 :=
  k0_pay156 (v86 I c) (v555 I c) (v696 I c) (v814 I c)
def v829 : FVec F S256x1 .f32 :=
  k0_pay157 (v86 I c) (v555 I c) (v696 I c) (v814 I c)
def v832 : FVec F S256x256 .f32 :=
  k0_pay158 (v86 I c) (v555 I c) (v696 I c) (v814 I c)
def v833 : FVec F S256x1 .f32 :=
  k0_pay159 (v86 I c) (v555 I c) (v564 I c) (v696 I c) (v814 I c)
def v843 : Vec F S1x1x1x1x256x64 .i8 :=
  ld (kvR I c) (Rect.unit (s := S4x2x2x4x256x64) (k0_off15 c 3#32) S1x1x1x1x256x64.size (k0_off15_inb c 3))
def v848 : Vec F S1x1x1x1x256x64 .i8 :=
  ld (kvR I c) (Rect.unit (s := S4x2x2x4x256x64) (k0_off16 c 3#32) S1x1x1x1x256x64.size (k0_off16_inb c 3))
def v872 : Vec F S1x1x1x1x256x64 .i8 :=
  ld (kvR I c) (Rect.unit (s := S4x2x2x4x256x64) (k0_off17 c 3#32) S1x1x1x1x256x64.size (k0_off17_inb c 3))
def v836 : FVec F S256x1 .f32 :=
  k0_pay160 (v832 I c) (v833 I c)
def v841 : FVec F S256x64 .f32 :=
  k0_pay161 (v569 I c) (v822 I c) (v829 I c) (v832 I c)
def v856 : FVec F S256x1 .f32 :=
  k0_pay163 (v94 I c) (v584 I c) (v696 I c) (v843 I c)
def v865 : FVec F S256x1 .f32 :=
  k0_pay166 (v94 I c) (v584 I c) (v593 I c) (v696 I c) (v843 I c)
def v870 : FVec F S256x64 .f32 :=
  k0_pay167 (v94 I c) (v584 I c) (v598 I c) (v696 I c) (v843 I c) (v848 I c)
def v877 : Vec F S1x1x1x1x256x64 .i8 :=
  ld (kvR I c) (Rect.unit (s := S4x2x2x4x256x64) (k0_off18 c 3#32) S1x1x1x1x256x64.size (k0_off18_inb c 3))
def v901 : Vec F S1x1x1x1x256x64 .i8 :=
  ld (kvR I c) (Rect.unit (s := S4x2x2x4x256x64) (k0_off19 c 3#32) S1x1x1x1x256x64.size (k0_off19_inb c 3))
def v906 : Vec F S1x1x1x1x256x64 .i8 :=
  ld (kvR I c) (Rect.unit (s := S4x2x2x4x256x64) (k0_off20 c 3#32) S1x1x1x1x256x64.size (k0_off20_inb c 3))
def v885 : FVec F S256x1 .f32 :=
  k0_pay169 (v102 I c) (v613 I c) (v696 I c) (v872 I c)
def v894 : FVec F S256x1 .f32 :=
  k0_pay172 (v102 I c) (v613 I c) (v622 I c) (v696 I c) (v872 I c)
def v899 : FVec F S256x64 .f32 :=
  k0_pay173 (v102 I c) (v613 I c) (v627 I c) (v696 I c) (v872 I c) (v877 I c)
def v909 : FVec F S256x64 .bf16 :=
  k0_pay174 (v906 I c)
def v911 : FVec F S256x256 .f32 :=
  k0_pay175 (v110 I c) (v696 I c) (v901 I c)
def v929 : BitVec 32 :=
  Scalar.addi (v2 I c) 2#32
def v930 : BitVec 32 :=
  Scalar.remsi (v929 I c) 4#32
def v947 (I : Ins F) (c : Dev nD) : BitVec 1 :=
  Scalar.cmpi .eq 3#32 0#32
def v948 : BitVec 32 :=
  Scalar.select (v947 I c) 1#32 3#32
def v914 : FVec F S256x1 .f32 :=
  k0_pay176 (v642 I c) (v911 I c)
def v923 : FVec F S256x1 .f32 :=
  k0_pay179 (v642 I c) (v651 I c) (v911 I c)
def v928 : FVec F S256x64 .f32 :=
  k0_pay180 (v642 I c) (v656 I c) (v909 I c) (v911 I c)
def v945 : IVec S256x256 1 :=
  k0_pay182 (v2 I c) (v159 I c) (v184 I c)
def v946 : IVec S256x256 32 :=
  k0_pay183 (v2 I c) (v159 I c) (v184 I c)
def v970 : Vec F S1x1x1x1x256x64 .i8 :=
  ld (kvR I c) (Rect.unit (s := S4x2x2x4x256x64) (k0_off5 c 2#32) S1x1x1x1x256x64.size (k0_off5_inb c 2))
def v975 : Vec F S1x1x1x1x256x64 .i8 :=
  ld (kvR I c) (Rect.unit (s := S4x2x2x4x256x64) (k0_off6 c 2#32) S1x1x1x1x256x64.size (k0_off6_inb c 2))
def v968 : FVec F S256x256 .f32 :=
  k0_pay184 (F := F) (v945 I c) (v946 I c) (v948 I c)
def v978 : FVec F S256x64 .bf16 :=
  k0_pay185 (v975 I c)
def v985 : FVec F S256x1 .f32 :=
  k0_pay188 (v54 I c) (v711 I c) (v945 I c) (v946 I c) (v948 I c) (v970 I c)
def v988 : FVec F S256x256 .f32 :=
  k0_pay189 (v54 I c) (v711 I c) (v945 I c) (v946 I c) (v948 I c) (v970 I c)
def v989 : FVec F S256x1 .f32 :=
  k0_pay190 (v54 I c) (v711 I c) (v720 I c) (v945 I c) (v946 I c) (v948 I c) (v970 I c)
def v999 : Vec F S1x1x1x1x256x64 .i8 :=
  ld (kvR I c) (Rect.unit (s := S4x2x2x4x256x64) (k0_off7 c 2#32) S1x1x1x1x256x64.size (k0_off7_inb c 2))
def v1004 : Vec F S1x1x1x1x256x64 .i8 :=
  ld (kvR I c) (Rect.unit (s := S4x2x2x4x256x64) (k0_off8 c 2#32) S1x1x1x1x256x64.size (k0_off8_inb c 2))
def v1028 : Vec F S1x1x1x1x256x64 .i8 :=
  ld (kvR I c) (Rect.unit (s := S4x2x2x4x256x64) (k0_off9 c 2#32) S1x1x1x1x256x64.size (k0_off9_inb c 2))
def v992 : FVec F S256x1 .f32 :=
  k0_pay191 (v988 I c) (v989 I c)
def v997 : FVec F S256x64 .f32 :=
  k0_pay192 (v725 I c) (v978 I c) (v985 I c) (v988 I c)
def v1021 : FVec F S256x1 .f32 :=
  k0_pay197 (v62 I c) (v740 I c) (v749 I c) (v968 I c) (v999 I c)
def v1026 : FVec F S256x64 .f32 :=
  k0_pay198 (v62 I c) (v740 I c) (v754 I c) (v968 I c) (v999 I c) (v1004 I c)
def v1029 : IVec S1x256x64 8 :=
  k0_pay199 (v1028 I c)
def v1033 : Vec F S1x1x1x1x256x64 .i8 :=
  ld (kvR I c) (Rect.unit (s := S4x2x2x4x256x64) (k0_off10 c 2#32) S1x1x1x1x256x64.size (k0_off10_inb c 2))
def v1057 : Vec F S1x1x1x1x256x64 .i8 :=
  ld (kvR I c) (Rect.unit (s := S4x2x2x4x256x64) (k0_off11 c 2#32) S1x1x1x1x256x64.size (k0_off11_inb c 2))
def v1062 : Vec F S1x1x1x1x256x64 .i8 :=
  ld (kvR I c) (Rect.unit (s := S4x2x2x4x256x64) (k0_off12 c 2#32) S1x1x1x1x256x64.size (k0_off12_inb c 2))
def v1050 : FVec F S256x1 .f32 :=
  k0_pay204 (v70 I c) (v769 I c) (v778 I c) (v968 I c) (v1029 I c)
def v1055 : FVec F S256x64 .f32 :=
  k0_pay205 (v70 I c) (v769 I c) (v783 I c) (v968 I c) (v1029 I c) (v1033 I c)
def v1065 : FVec F S256x64 .bf16 :=
  k0_pay206 (v1062 I c)
def v1067 : FVec F S256x256 .f32 :=
  k0_pay207 (v78 I c) (v968 I c) (v1057 I c)
def v1068 : FVec F S256 .f32 :=
  k0_pay208 (v78 I c) (v968 I c) (v1057 I c)
def v1091 : Vec F S1x64x512 .bf16 :=
  ld (I.wo c) (Rect.unit (s := S4x64x512) ![0, 0, 0] S1x64x512.size inb_S4x64x512_S1x64x512_0_0_0)
def v1100 : Vec F S1x64x512 .bf16 :=
  ld (I.wo c) (Rect.unit (s := S4x64x512) ![1, 0, 0] S1x64x512.size inb_S4x64x512_S1x64x512_1_0_0)
def v1109 : Vec F S1x64x512 .bf16 :=
  ld (I.wo c) (Rect.unit (s := S4x64x512) ![2, 0, 0] S1x64x512.size inb_S4x64x512_S1x64x512_2_0_0)
def cst_662 (I : Ins F) (c : Dev nD) : FVec F S256x512 .f32 :=
  constant S256x512 .f32 0x00000000#32
def v1079 : FVec F S256x1 .f32 :=
  k0_pay212 (v798 I c) (v807 I c) (v1067 I c) (v1068 I c)
def v1084 : FVec F S256x64 .f32 :=
  k0_pay213 (v798 I c) (v812 I c) (v1065 I c) (v1067 I c) (v1068 I c)
def v1103 : FVec F S256x512 .f32 :=
  k0_pay214 (v992 I c) (v997 I c) (v1021 I c) (v1026 I c) (v1091 I c) (v1100 I c)
def v1108 : FVec F S256x64 .bf16 :=
  k0_pay215 (v1050 I c) (v1055 I c)
def v1110 : FVec F S64x512 .bf16 :=
  k0_pay216 (v1109 I c)
def v1118 : Vec F S1x64x512 .bf16 :=
  ld (I.wo c) (Rect.unit (s := S4x64x512) ![3, 0, 0] S1x64x512.size inb_S4x64x512_S1x64x512_3_0_0)
def v1139 : BitVec 32 :=
  Scalar.addi (v2 I c) 1#32
def v1140 : BitVec 32 :=
  Scalar.remsi (v1139 I c) 4#32
def v1176 : Vec F S1x1x1x1x256x64 .i8 :=
  ld (kvR I c) (Rect.unit (s := S4x2x2x4x256x64) (k0_off13 c 2#32) S1x1x1x1x256x64.size (k0_off13_inb c 2))
def v1181 : Vec F S1x1x1x1x256x64 .i8 :=
  ld (kvR I c) (Rect.unit (s := S4x2x2x4x256x64) (k0_off14 c 2#32) S1x1x1x1x256x64.size (k0_off14_inb c 2))
def v1198 : FVec F S256x1 .f32 :=
  k0_pay226 (v86 I c) (v827 I c) (v836 I c) (v968 I c) (v1176 I c)
def v1203 : FVec F S256x64 .f32 :=
  k0_pay227 (v86 I c) (v827 I c) (v841 I c) (v968 I c) (v1176 I c) (v1181 I c)
def v1205 : Vec F S1x1x1x1x256x64 .i8 :=
  ld (kvR I c) (Rect.unit (s := S4x2x2x4x256x64) (k0_off15 c 2#32) S1x1x1x1x256x64.size (k0_off15_inb c 2))
def v1210 : Vec F S1x1x1x1x256x64 .i8 :=
  ld (kvR I c) (Rect.unit (s := S4x2x2x4x256x64) (k0_off16 c 2#32) S1x1x1x1x256x64.size (k0_off16_inb c 2))
def v1234 : Vec F S1x1x1x1x256x64 .i8 :=
  ld (kvR I c) (Rect.unit (s := S4x2x2x4x256x64) (k0_off17 c 2#32) S1x1x1x1x256x64.size (k0_off17_inb c 2))
def v1239 : Vec F S1x1x1x1x256x64 .i8 :=
  ld (kvR I c) (Rect.unit (s := S4x2x2x4x256x64) (k0_off18 c 2#32) S1x1x1x1x256x64.size (k0_off18_inb c 2))
def v1227 : FVec F S256x1 .f32 :=
  k0_pay232 (v94 I c) (v856 I c) (v865 I c) (v968 I c) (v1205 I c)
def v1232 : FVec F S256x64 .f32 :=
  k0_pay233 (v94 I c) (v856 I c) (v870 I c) (v968 I c) (v1205 I c) (v1210 I c)
def v1242 : FVec F S256x64 .bf16 :=
  k0_pay234 (v1239 I c)
def v1244 : FVec F S256x256 .f32 :=
  k0_pay235 (v102 I c) (v968 I c) (v1234 I c)
def v1263 : Vec F S1x1x1x1x256x64 .i8 :=
  ld (kvR I c) (Rect.unit (s := S4x2x2x4x256x64) (k0_off19 c 2#32) S1x1x1x1x256x64.size (k0_off19_inb c 2))
def v1268 : Vec F S1x1x1x1x256x64 .i8 :=
  ld (kvR I c) (Rect.unit (s := S4x2x2x4x256x64) (k0_off20 c 2#32) S1x1x1x1x256x64.size (k0_off20_inb c 2))
def v1256 : FVec F S256x1 .f32 :=
  k0_pay239 (v885 I c) (v894 I c) (v1244 I c)
def v1261 : FVec F S256x64 .f32 :=
  k0_pay240 (v885 I c) (v899 I c) (v1242 I c) (v1244 I c)
def v1271 : FVec F S256x64 .bf16 :=
  k0_pay241 (v1268 I c)
def v1285 : FVec F S256x1 .f32 :=
  k0_pay246 (v110 I c) (v914 I c) (v923 I c) (v968 I c) (v1263 I c)
def v1287 : FVec F S256x64 .f32 :=
  k0_pay247 (v110 I c) (v914 I c) (v928 I c) (v968 I c) (v1263 I c)
def v1288 : FVec F S256x256 .bf16 :=
  k0_pay248 (v110 I c) (v914 I c) (v968 I c) (v1263 I c)
def v1297 : Vec F S1x64x512 .bf16 :=
  ld (I.wo c) (Rect.unit (s := S4x64x512) ![0, 0, 0] S1x64x512.size inb_S4x64x512_S1x64x512_0_0_0)
def v1306 : Vec F S1x64x512 .bf16 :=
  ld (I.wo c) (Rect.unit (s := S4x64x512) ![1, 0, 0] S1x64x512.size inb_S4x64x512_S1x64x512_1_0_0)
def v1315 : Vec F S1x64x512 .bf16 :=
  ld (I.wo c) (Rect.unit (s := S4x64x512) ![2, 0, 0] S1x64x512.size inb_S4x64x512_S1x64x512_2_0_0)
def v1324 : Vec F S1x64x512 .bf16 :=
  ld (I.wo c) (Rect.unit (s := S4x64x512) ![3, 0, 0] S1x64x512.size inb_S4x64x512_S1x64x512_3_0_0)
def v1318 : FVec F S256x512 .f32 :=
  k0_pay249 (v1198 I c) (v1203 I c) (v1227 I c) (v1232 I c) (v1256 I c) (v1261 I c) (v1297 I c) (v1306 I c) (v1315 I c)
def v1326 : FVec F S256x512 .f32 :=
  k0_pay250 (v1271 I c) (v1285 I c) (v1287 I c) (v1288 I c) (v1324 I c)
/-- The partial projections of a device, by row block and batch. -/
def pqT (qt : Fin 4) (b : Fin 2) : Vec F S1x1x64x512 .bf16 :=
  match b, qt with
  | 0, 0 => (k0_pay218 (v1079 I c) (v1084 I c) (v1103 I c) (v1108 I c) (v1110 I c) (cst_662 I c) (v1118 I c))
  | 0, 1 => (k0_pay219 (v1079 I c) (v1084 I c) (v1103 I c) (v1108 I c) (v1110 I c) (cst_662 I c) (v1118 I c))
  | 0, 2 => (k0_pay220 (v1079 I c) (v1084 I c) (v1103 I c) (v1108 I c) (v1110 I c) (cst_662 I c) (v1118 I c))
  | 0, 3 => (k0_pay221 (v1079 I c) (v1084 I c) (v1103 I c) (v1108 I c) (v1110 I c) (cst_662 I c) (v1118 I c))
  | 1, 0 => (k0_pay252 (v1318 I c) (v1326 I c))
  | 1, 1 => (k0_pay253 (v1318 I c) (v1326 I c))
  | 1, 2 => (k0_pay254 (v1318 I c) (v1326 I c))
  | 1, 3 => (k0_pay255 (v1318 I c) (v1326 I c))

/-- The buffer of partial projections. -/
def pqR : Vec F S4x2x64x512 .bf16 :=
  fun i => pqT I c (i 0) (i 1) (ix4 0 0 (i 2) (i 3))

/-- The partial projections a device receives: slot `j` is device `j`'s for its rows. -/
def rsR : Vec F S4x2x64x512 .bf16 :=
  fun i => pqR I (i 0) (ix4 c (i 1) (i 2) (i 3))

def v1388 : Vec F S1x2x64x512 .bf16 :=
  ld (pqR I c) (Rect.unit (s := S4x2x64x512) (k0_off28 c) S1x2x64x512.size (k0_off28_inb c))
def v1391 : BitVec 32 :=
  Scalar.addi (v2 I c) 1#32
def v1392 : BitVec 32 :=
  Scalar.remsi (v1391 I c) 4#32
def v1390 : FVec F S2x64x512 .f32 :=
  k0_pay256 (v1388 I c)
def v1410 : Vec F S1x2x64x512 .bf16 :=
  ld (rsR I c) (Rect.unit (s := S4x2x64x512) (k0_off31 c 1#32) S1x2x64x512.size (k0_off31_inb c 0))
def v1413 : FVec F S2x64x512 .f32 :=
  (k0_pay257 (v1390 I c) (v1410 I c))
def v1433 : Vec F S1x2x64x512 .bf16 :=
  ld (rsR I c) (Rect.unit (s := S4x2x64x512) (k0_off31 c 3#32) S1x2x64x512.size (k0_off31_inb c 2))
def v1456 : Vec F S1x2x64x512 .bf16 :=
  ld (rsR I c) (Rect.unit (s := S4x2x64x512) (k0_off31 c 2#32) S1x2x64x512.size (k0_off31_inb c 1))
def v1459 : FVec F S2x64x512 .f32 :=
  k0_pay258 (v1413 I c) (v1433 I c) (v1456 I c)
def v1461 : FVec F S1x2x64x512 .bf16 :=
  k0_pay259 (v1413 I c) (v1433 I c) (v1456 I c)
/-- The gathered rows: slot `j` is the sum device `j` formed. -/
def agR (I : Ins F) : Vec F S4x2x64x512 .bf16 :=
  fun i => k0_pay260 (v1461 I (i 0)) (ix4 0 (i 1) (i 2) (i 3))

def v1490 : BitVec 32 :=
  Scalar.addi (v2 I c) 2#32
def v1491 : BitVec 32 :=
  Scalar.remsi (v1490 I c) 4#32
def v1516 : Vec F S1x2x64x512 .bf16 :=
  ld (agR I) (Rect.unit (s := S4x2x64x512) (k0_off31 c 1#32) S1x2x64x512.size (k0_off31_inb c 0))
def v1518 : FVec F S2x64x512 .f32 :=
  (k0_pay261 (v1516 I c))
def v1533 : Vec F S1x2x64x512 .bf16 :=
  ld (agR I) (Rect.unit (s := S4x2x64x512) (k0_off31 c 3#32) S1x2x64x512.size (k0_off31_inb c 2))
def v1539 : BitVec 32 :=
  Scalar.addi (v2 I c) 2#32
def v1540 : BitVec 32 :=
  Scalar.remsi (v1539 I c) 4#32
def v1550 : Vec F S1x2x64x512 .bf16 :=
  ld (agR I) (Rect.unit (s := S4x2x64x512) (k0_off31 c 2#32) S1x2x64x512.size (k0_off31_inb c 1))
/-- The result rows of block `j` on device `c`. -/
def outT (I : Ins F) (c j : Dev nD) : Vec F S2x64x512 .f32 :=
  if j.val = (c.val + 1) % 4 then v1518 I c
  else if j.val = (c.val + 3) % 4 then k0_pay262 (v1533 I c)
  else if j.val = (c.val + 2) % 4 then k0_pay263 (v1550 I c)
  else v1459 I c

/-- The result buffer. -/
def outR : Vec F S2x256x512 .f32 :=
  fun i => outT I c ⟨(i 1).val / 64, by have : (i 1).val < 256 := (i 1).isLt; show _ < 4; omega⟩
    (ix3 (i 0) ⟨(i 1).val % 64, Nat.mod_lt _ (by decide)⟩ (i 2))

end Cert.KernelIdeal.Prf
-- ==== Proof.Proto.lean ====
module

public import proofs.«01_k».proof.Proof.Vals
public import Idealize.ShloMosaic.Lib.Pipeline.RegionTalk
public import Idealize.ShloMosaic.Lib.Rounds
public import Idealize.ShloMosaic.Lib.Ring

@[expose] public section

set_option maxRecDepth 16384

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal.Gen

variable {F : FTy → Type} [FloatOps F] [Named F]

/-! ## Devices, semaphores, cells -/

/-- The device `o + 1` places on. -/
def peer (c : Dev nD) (o : Fin 3) : Dev nD := ⟨(c.val + o.val + 1) % 4, Nat.mod_lt _ (by decide)⟩
/-- The place from which `peer c o` sees `c`. -/
def inv (o : Fin 3) : Fin 3 := ⟨2 - o.val, by omega⟩
/-- A peer's peer, seen back, is the device. -/
theorem peer_inv (c : Dev nD) (o : Fin 3) : peer (peer c o) (inv o) = c := by revert c o; decide
/-- No device is its own peer. -/
theorem peer_ne (c : Dev nD) (o : Fin 3) : peer c o ≠ c := by revert c o; decide
/-- The same the other way round. -/
theorem ne_peer (c : Dev nD) (o : Fin 3) : c ≠ peer c o := by revert c o; decide

/-- Transfer kinds: 0 the keys and values, 1 and 2 the partial rows of batch 0 and 1, 3 the summed rows. -/
abbrev Kd : Type := Fin 4

/-- The sender's semaphore of a transfer. -/
def sndN (k : Kd) (o : Fin 3) : DmaSem sig :=
  ⟨if k = 0 then 5 + o.val else if k = 1 then 12 + 2 * o.val else if k = 2 then 13 + 2 * o.val else 26 + o.val, by
    show _ < 33; revert k o; decide⟩
/-- The receiver's semaphore of a transfer from `j`. -/
def rcvN (k : Kd) (j : Dev nD) : DmaSem sig :=
  ⟨if k = 0 then 8 + j.val else if k = 1 then 18 + 2 * j.val else if k = 2 then 19 + 2 * j.val else 29 + j.val, by
    show _ < 33; revert k j; decide⟩

/-- The barrier's semaphore. -/
abbrev barS : Sem sig := (SemArray.scalar (sig.barrier 0 rfl) : Sems sig S_).sem

/-- What a semaphore is for. -/
inductive Role
  | bar
  | snd (k : Kd) (o : Fin 3)
  | rcv (k : Kd) (j : Fin 4)
  | none
deriving DecidableEq

/-- The role of a numbered transfer semaphore. -/
def roleN (n : Nat) : Role :=
  if n < 5 then .none
  else if n < 8 then .snd 0 (Fin.ofNat 3 (n - 5))
  else if n < 12 then .rcv 0 (Fin.ofNat 4 (n - 8))
  else if n < 18 then .snd (if (n - 12) % 2 = 0 then 1 else 2) (Fin.ofNat 3 ((n - 12) / 2))
  else if n < 26 then .rcv (if (n - 18) % 2 = 0 then 1 else 2) (Fin.ofNat 4 ((n - 18) / 2))
  else if n < 29 then .snd 3 (Fin.ofNat 3 (n - 26))
  else .rcv 3 (Fin.ofNat 4 (n - 29))

/-- The role of a semaphore. -/
def role : SemLoc sig → Role
  | .reg _ => .bar
  | .dma n => roleN n.val

/-- A send semaphore's role. -/
theorem role_snd (k : Kd) (o : Fin 3) : role (.dma (sndN k o)) = .snd k o := by revert k o; decide
/-- A receive semaphore's role. -/
theorem role_rcv (k : Kd) (j : Dev nD) : role (.dma (rcvN k j)) = .rcv k j := by revert k j; decide

/-- The barrier of a device. -/
abbrev barCell (c : Dev nD) : GSem nD τ sig := ((c : Thread nD τ), .reg barS)
/-- A send semaphore of a device. -/
abbrev sndCell (k : Kd) (c : Dev nD) (o : Fin 3) : GSem nD τ sig := ((c : Thread nD τ), .dma (sndN k o))
/-- A receive semaphore of a device. -/
abbrev rcvCell (k : Kd) (c j : Dev nD) : GSem nD τ sig := ((c : Thread nD τ), .dma (rcvN k j))

/-! ## The resource algebra -/

/-- The rounds' part of the algebra. -/
abbrev UB : Type := URounds (GSem nD τ sig) (Fin 3)
/-- Both parts. -/
abbrev UU : Type := UR sig nD τ × UB

local notation "𝕄" => MT nD τ sig Unit (Elt F) ℕ UU ℕ

/-- Where the pipeline's part sits. -/
abbrev EP : Emb (UR sig nD τ) (MT nD τ sig Unit (Elt F) ℕ UU ℕ) := embL
/-- Where the rounds' part sits. -/
abbrev ER : Emb UB (MT nD τ sig Unit (Elt F) ℕ UU ℕ) := embR

/-! ## Buffers in parts -/

/-- The elements of slot `j` of the buffer of keys and values. -/
def s5 (j : Dev nD) : Finset S4x2x2x4x256x64.Idx := Finset.univ.filter fun i => (i 0).val = j.val
/-- The elements of row block `j`, batch `b`. -/
def s7 (j : Dev nD) (b : Fin 2) : Finset S4x2x64x512.Idx := Finset.univ.filter fun i => (i 0).val = j.val ∧ (i 1).val = b.val
/-- The elements of row block `j`. -/
def s4 (j : Dev nD) : Finset S4x2x64x512.Idx := Finset.univ.filter fun i => (i 0).val = j.val
/-- The result's elements of row block `j`. -/
def sO (j : Dev nD) : Finset S2x256x512.Idx := Finset.univ.filter fun i => (i 1).val / 64 = j.val

/-- The staged activations. -/
abbrev A0 (c : Dev nD) (f : Vec F S2x256x512 .bf16) : sProp 𝕄 := ((c : Thread nD τ).loc cc0_stg0_0) ↦{fullShare} f
/-- The staged query weights. -/
abbrev A1 (c : Dev nD) (f : Vec F S4x512x64 .bf16) : sProp 𝕄 := ((c : Thread nD τ).loc cc0_stg1_0) ↦{fullShare} f
/-- Part of the staged keys and values. -/
abbrev A2 (c : Dev nD) (S : Finset S4x2x2x4x256x64.Idx) (f : Vec F S4x2x2x4x256x64 .i8) : sProp 𝕄 :=
  ((c : Thread nD τ).loc cc0_stg2_0) ↦[S]{fullShare} f
/-- The staged output weights. -/
abbrev A3 (c : Dev nD) (f : Vec F S4x64x512 .bf16) : sProp 𝕄 := ((c : Thread nD τ).loc cc0_stg3_0) ↦{fullShare} f
/-- Part of the staged result. -/
abbrev A4 (c : Dev nD) (S : Finset S2x256x512.Idx) (f : Vec F S2x256x512 .f32) : sProp 𝕄 :=
  ((c : Thread nD τ).loc cc0_stg4_0) ↦[S]{fullShare} f
/-- Part of the gathered keys and values. -/
abbrev A5 (c : Dev nD) (S : Finset S4x2x2x4x256x64.Idx) (f : Vec F S4x2x2x4x256x64 .i8) : sProp 𝕄 :=
  ((c : Thread nD τ).loc cc0_scratch0) ↦[S]{fullShare} f
/-- Part of the partial rows. -/
abbrev A6 (c : Dev nD) (S : Finset S4x2x64x512.Idx) (f : Vec F S4x2x64x512 .bf16) : sProp 𝕄 :=
  ((c : Thread nD τ).loc cc0_scratch1) ↦[S]{fullShare} f
/-- Part of the received rows. -/
abbrev A7 (c : Dev nD) (S : Finset S4x2x64x512.Idx) (f : Vec F S4x2x64x512 .bf16) : sProp 𝕄 :=
  ((c : Thread nD τ).loc cc0_scratch2) ↦[S]{fullShare} f
/-- Part of the gathered rows, at a share. -/
abbrev A8 (c : Dev nD) (S : Finset S4x2x64x512.Idx) (q : PosShare TreeShare) (f : Vec F S4x2x64x512 .bf16) : sProp 𝕄 :=
  ((c : Thread nD τ).loc cc0_scratch3) ↦[S]{q} f

/-- The three shares under which the summed rows are sent. -/
def third (o : Fin 3) : PosShare TreeShare :=
  if o = 0 then fullShare.left else if o = 1 then fullShare.right.left else fullShare.right.right

/-! ## The schedule -/

/-- The views whose sizes set the amounts. -/
abbrev kvV : Memref sig .tc .vmem S2x2x4x256x64 .i8 :=
  ((Memref.whole cc0_scratch0).slice (Rect.unit (s := S4x2x2x4x256x64) (k0_off2 0) S1x2x2x4x256x64.size (k0_off2_inb 0)) (fun _ => rfl)).squeeze
    S2x2x4x256x64 squeezes_S1x2x2x4x256x64_S2x2x4x256x64
/-- A slot of received rows. -/
abbrev rsV : Memref sig .tc .vmem S64x512 .bf16 :=
  ((Memref.whole cc0_scratch2).slice (Rect.unit (s := S4x2x64x512) (k0_off23 0) S1x1x64x512.size (k0_off23_inb 0)) (fun _ => rfl)).squeeze
    S64x512 squeezes_S1x1x64x512_S64x512
/-- A slot of gathered rows. -/
abbrev agV : Memref sig .tc .vmem S2x64x512 .bf16 :=
  ((Memref.whole cc0_scratch3).slice (Rect.unit (s := S4x2x64x512) (k0_off32 0) S1x2x64x512.size (k0_off32_inb 0)) (fun _ => rfl)).squeeze
    S2x64x512 squeezes_S1x2x64x512_S2x64x512

/-- The credit of a transfer. -/
def amt (k : Kd) : ℕ :=
  match k with
  | 0 => kvV.view.dmaCredit
  | 1 => rsV.view.dmaCredit
  | 2 => rsV.view.dmaCredit
  | 3 => agV.view.dmaCredit

/-- A transfer's credit is positive. -/
theorem amt_pos (k : Kd) : 0 < amt k := by
  match k with
  | 0 => exact View.dmaCredit_pos _ (by decide)
  | 1 => exact View.dmaCredit_pos _ (by decide)
  | 2 => exact View.dmaCredit_pos _ (by decide)
  | 3 => exact View.dmaCredit_pos _ (by decide)

/-- What `p` lends `c` for a transfer of kind `k`: its landing place, and that the transfer's cell is open. -/
def lend (k : Kd) (p c : Dev nD) : sProp 𝕄 :=
  match k with
  | 0 => iprop((∃ f, A5 (F := F) p (s5 c) f) ∗ reached ER (rcvCell 0 p c) 0)
  | 1 => iprop((∃ f, A7 (F := F) p (s7 c 0) f) ∗ reached ER (rcvCell 1 p c) 0)
  | 2 => iprop((∃ f, A7 (F := F) p (s7 c 1) f) ∗ reached ER (rcvCell 2 p c) 0)
  | 3 => iprop((∃ f, A8 (F := F) p (s4 c) fullShare f) ∗ reached ER (rcvCell 3 p c) 0)

/-- What the barrier hands `c` from `p`. -/
def barPay (p c : Dev nD) : sProp 𝕄 :=
  iprop(lend (F := F) 0 p c ∗ lend (F := F) 1 p c ∗ lend (F := F) 2 p c ∗ lend (F := F) 3 p c)

variable (I : Ins F)

/-- What comes back to the sender. -/
def sndPay (k : Kd) (c : Dev nD) (o : Fin 3) : sProp 𝕄 :=
  match k with
  | 0 => A2 c (s5 (peer c o)) (I.kv c)
  | 1 => A6 c (s7 (peer c o) 0) (pqR I c)
  | 2 => A6 c (s7 (peer c o) 1) (pqR I c)
  | 3 => A8 c (s4 c) (third o) (agR I)

/-- What lands at the receiver. -/
def rcvPay (k : Kd) (c j : Dev nD) : sProp 𝕄 :=
  match k with
  | 0 => A5 c (s5 j) (kvR I c)
  | 1 => A7 c (s7 j 0) (rsR I c)
  | 2 => A7 c (s7 j 1) (rsR I c)
  | 3 => A8 c (s4 j) fullShare (agR I)

/-- The payload of a duty by the role of its semaphore. -/
def pay (ρ : Role) (c : Dev nD) (d : Fin 3) : sProp 𝕄 :=
  match ρ with
  | .bar => barPay (peer c d) c
  | .snd k o => sndPay I k c o
  | .rcv k j => rcvPay I k c j
  | .none => iprop(emp)

/-- The duties of a cell by its role. -/
def dut (ρ : Role) (c : Dev nD) : Finset (Fin 3) :=
  match ρ with
  | .bar => Finset.univ
  | .snd _ _ => {0}
  | .rcv _ j => if j = c then ∅ else {0}
  | .none => ∅

/-- The amount of a duty by its role. -/
def amo (ρ : Role) : ℕ :=
  match ρ with
  | .bar => 1
  | .snd k _ => amt k
  | .rcv k _ => amt k
  | .none => 1

/-- One round: the barrier's three units, one duty for each transfer at either end. -/
def Rd : Rounds.Schedule (GSem nD τ sig) (Fin 3) 𝕄 where
  duties g r := if r = 0 ∧ g.1.2 = .tc then dut (role g.2) g.1.1 else ∅
  unitless _ := False
  amount g _ _ := amo (role g.2)
  payload g _ d := pay I (role g.2) g.1.1 d
  amount_pos g _ _ _ := by
    unfold amo; cases role g.2 with
    | bar => exact Nat.one_pos
    | snd k o => exact amt_pos k
    | rcv k j => exact amt_pos k
    | none => exact Nat.one_pos

/-- A loan can be stored. -/
instance lend_storable (k : Kd) (p c : Dev nD) : BI.Storable (upEmb : UEmb _ 𝕄) (lend (F := F) k p c) := by
  unfold lend; split <;> infer_instance
/-- So can a barrier's payload. -/
instance barPay_storable (p c : Dev nD) : BI.Storable (upEmb : UEmb _ 𝕄) (barPay (F := F) p c) := by
  unfold barPay; infer_instance
/-- So can a send's payload. -/
instance sndPay_storable (k : Kd) (c : Dev nD) (o : Fin 3) : BI.Storable (upEmb : UEmb _ 𝕄) (sndPay I k c o) := by
  unfold sndPay; split <;> infer_instance
/-- So can a receive's payload. -/
instance rcvPay_storable (k : Kd) (c j : Dev nD) : BI.Storable (upEmb : UEmb _ 𝕄) (rcvPay I k c j) := by
  unfold rcvPay; split <;> infer_instance
/-- So can every payload. -/
instance Rd_storable (g : GSem nD τ sig) (r : ℕ) (d : Fin 3) : BI.Storable (upEmb : UEmb _ 𝕄) ((Rd I).payload g r d) := by
  show BI.Storable upEmb (pay I (role g.2) g.1.1 d)
  unfold pay; split <;> infer_instance

section Sched
variable (c : Dev nD)

/-- A barrier has three duties. -/
theorem duties_bar : (Rd I).duties (barCell c) 0 = Finset.univ := by dsimp only [Rd]; exact if_pos ⟨rfl, rfl⟩
/-- A send semaphore has one duty. -/
theorem duties_snd (k : Kd) (o : Fin 3) : (Rd I).duties (sndCell k c o) 0 = {0} := by
  dsimp only [Rd]; rw [if_pos ⟨rfl, rfl⟩, role_snd]; rfl
/-- So has a receive semaphore for a peer. -/
theorem duties_rcv (k : Kd) (j : Dev nD) (h : j ≠ c) : (Rd I).duties (rcvCell k c j) 0 = {0} := by
  dsimp only [Rd]; rw [if_pos ⟨rfl, rfl⟩, role_rcv]; exact if_neg h
/-- A device's receive semaphore for itself has none. -/
theorem duties_own (k : Kd) : (Rd I).duties (rcvCell k c c) 0 = ∅ := by
  dsimp only [Rd]; rw [if_pos ⟨rfl, rfl⟩, role_rcv]; exact if_pos rfl
/-- There is no duty after round 0. -/
theorem duties_later (g : GSem nD τ sig) : ∀ r, 1 ≤ r → (Rd I).duties g r = ∅ :=
  fun r hr => by dsimp only [Rd]; rw [if_neg (fun h => by omega)]
/-- The semaphore for oneself never has a duty. -/
theorem duties_own_all (k : Kd) : ∀ r, 0 ≤ r → (Rd I).duties (rcvCell k c c) r = ∅ := fun r _ => by
  rcases Nat.eq_zero_or_pos r with h | h
  · rw [h]; exact duties_own I c k
  · exact duties_later I _ r h
/-- A barrier duty is one unit. -/
theorem amount_bar (d : Fin 3) : (Rd I).amount (barCell c) 0 d = 1 := rfl
/-- A send duty is the transfer's credit. -/
theorem amount_snd (k : Kd) (o : Fin 3) (d : Fin 3) : (Rd I).amount (sndCell k c o) 0 d = amt k := by
  dsimp only [Rd]; rw [role_snd]; rfl
/-- So is a receive duty. -/
theorem amount_rcv (k : Kd) (j : Dev nD) (d : Fin 3) : (Rd I).amount (rcvCell k c j) 0 d = amt k := by
  dsimp only [Rd]; rw [role_rcv]; rfl
/-- A barrier's round takes three units. -/
theorem expect_bar : (Rd I).expect (barCell c) 0 = 3 := by
  unfold Schedule.expect Schedule.amountOf; rw [duties_bar]; rfl
/-- A send's round takes the credit. -/
theorem expect_snd (k : Kd) (o : Fin 3) : (Rd I).expect (sndCell k c o) 0 = amt k := by
  unfold Schedule.expect Schedule.amountOf; rw [duties_snd, Finset.sum_singleton, amount_snd]
/-- So does a receive's round. -/
theorem expect_rcv (k : Kd) (j : Dev nD) (h : j ≠ c) : (Rd I).expect (rcvCell k c j) 0 = amt k := by
  unfold Schedule.expect Schedule.amountOf; rw [duties_rcv I c k j h, Finset.sum_singleton, amount_rcv]
/-- A barrier duty carries a peer's loans. -/
theorem payload_bar (d : Fin 3) : (Rd I).payload (barCell c) 0 d = barPay (peer c d) c := rfl
/-- A send duty carries the source. -/
theorem payload_snd (k : Kd) (o : Fin 3) (d : Fin 3) : (Rd I).payload (sndCell k c o) 0 d = sndPay I k c o := by
  dsimp only [Rd]; rw [role_snd]; rfl
/-- A receive duty carries the landed block. -/
theorem payload_rcv (k : Kd) (j : Dev nD) (d : Fin 3) : (Rd I).payload (rcvCell k c j) 0 d = rcvPay I k c j := by
  dsimp only [Rd]; rw [role_rcv]; rfl
/-- All a barrier's round carries. -/
theorem rest_bar : bigSep ((Rd I).duties (barCell c) 0 \ ∅) (fun u => (Rd I).payload (barCell c) 0 u)
    = iprop(barPay (F := F) (peer c 0) c ∗ barPay (peer c 1) c ∗ barPay (peer c 2) c) := by
  rw [Finset.sdiff_empty, duties_bar, bigSep_univ_eq_bigSepL [0, 1, 2] (by decide) (by decide)]; rfl
/-- All a send's round carries. -/
theorem rest_snd (k : Kd) (o : Fin 3) : bigSep ((Rd I).duties (sndCell k c o) 0 \ ∅) (fun u => (Rd I).payload (sndCell k c o) 0 u)
    = sndPay I k c o := by
  rw [Finset.sdiff_empty, duties_snd, bigSep_singleton, payload_snd]
/-- All a receive's round carries. -/
theorem rest_rcv (k : Kd) (j : Dev nD) (h : j ≠ c) :
    bigSep ((Rd I).duties (rcvCell k c j) 0 \ ∅) (fun u => (Rd I).payload (rcvCell k c j) 0 u) = rcvPay I k c j := by
  rw [Finset.sdiff_empty, duties_rcv I c k j h, bigSep_singleton, payload_rcv]

end Sched

/-! ## Debts and levels -/

/-- What a list of units amounts to. -/
def owedL : List (GSem nD τ sig × ℕ) → CellTallies nD τ sig Unit
  | [] => 0
  | p :: l => owedL l + tallyAt p.1 () p.2

/-- The level of a semaphore by its role. -/
def lvR : Role → ℕ
  | .bar => 1
  | .snd _ _ => 0
  | .rcv k _ => if k = 0 then 2 else if k = 3 then 4 else 3
  | .none => 0

/-- The indices of a cell. -/
def L (g : GSem nD τ sig) : Finset Unit := if g.1.2 = .tc then {()} else ∅
/-- The level of a cell. -/
def lv (g : GSem nD τ sig) (_ : Unit) : ℕ := lvR (role g.2)

/-- None off the core. -/
theorem L_of_ne (g : GSem nD τ sig) (h : g.1.2 ≠ .tc) : L g = ∅ := if_neg h
/-- One on the core. -/
theorem L_tc (c : Dev nD) (sm : SemLoc sig) : L ((c : Thread nD τ), sm) = {()} := if_pos rfl

/-- Every unit of the list is on a core's cell above level `b`. -/
def Above (b : ℕ) (l : List (GSem nD τ sig × ℕ)) : Prop := ∀ p ∈ l, p.1.1.2 = .tc ∧ b < lv p.1 ()

/-- A cell owed something is in the list. -/
theorem owedL_pos {l : List (GSem nD τ sig × ℕ)} {g : GSem nD τ sig} {u : Unit} (h : 0 < owedL l g u) :
    ∃ p ∈ l, p.1 = g := by
  induction l with
  | nil => exact absurd h (Nat.lt_irrefl 0)
  | cons p l ih =>
    have h' : 0 < owedL l g u + tallyAt p.1 () p.2 g u := h
    by_cases hp : p.1 = g
    · exact ⟨p, List.mem_cons_self, hp⟩
    · rw [tallyAt_ne_cell (fun e => hp e.symm)] at h'
      obtain ⟨q, hq, e⟩ := ih (by simpa using h')
      exact ⟨q, List.mem_cons_of_mem _ hq, e⟩

/-- A device may wait below all it owes. -/
theorem mayWait_above (c : Dev nD) (sm : SemLoc sig) (b : ℕ) (l : List (GSem nD τ sig × ℕ)) (hb : lvR (role sm) ≤ b)
    (hl : Above b l) : (levAts L lv : sProp 𝕄) ⊢ MayWait (c : Thread nD τ) sm () (owedL l) :=
  MayOwe.of_cut (L := L) (lev := lv) b (fun p hp => by rw [Finset.mem_singleton.mp hp, L_tc]; exact Finset.mem_singleton_self _)
    (fun g u hg => by
      obtain ⟨p, hp, rfl⟩ := owedL_pos hg
      unfold L; rw [if_pos (hl p hp).1]; exact Finset.mem_singleton_self _)
    (fun p hp => by rw [Finset.mem_singleton.mp hp]; exact hb)
    (fun g u hg => by
      obtain ⟨p, hp, rfl⟩ := owedL_pos hg
      exact (hl p hp).2)

/-- One transfer's unit, owed at the receiver. -/
abbrev du (k : Kd) (c : Dev nD) (o : Fin 3) : GSem nD τ sig × ℕ := (rcvCell k (peer c o) c, amt k)
/-- What a device owes, in the order in which it pays. -/
def agL (c : Dev nD) : List (GSem nD τ sig × ℕ) := [du 3 c 0, du 3 c 2, du 3 c 1]
/-- With batch 1's rows before. -/
def rs1L (c : Dev nD) : List (GSem nD τ sig × ℕ) := du 2 c 0 :: du 2 c 2 :: du 2 c 1 :: agL c
/-- With batch 0's rows before. -/
def rs0L (c : Dev nD) : List (GSem nD τ sig × ℕ) := du 1 c 0 :: du 1 c 2 :: du 1 c 1 :: rs1L c
/-- With the keys and values before. -/
def kvL (c : Dev nD) : List (GSem nD τ sig × ℕ) := du 0 c 0 :: du 0 c 2 :: du 0 c 1 :: rs0L c
/-- With the barriers before. -/
def allL (c : Dev nD) : List (GSem nD τ sig × ℕ) :=
  (barCell (peer c 0), 1) :: (barCell (peer c 1), 1) :: (barCell (peer c 2), 1) :: kvL c

/-- A transfer's level. -/
theorem lv_du (k : Kd) (c : Dev nD) (o : Fin 3) : lv (du k c o).1 () = if k = 0 then 2 else if k = 3 then 4 else 3 := by
  dsimp only [lv]; rw [role_rcv]; rfl

/-- Nothing owed is above every level. -/
theorem above_nil (b : ℕ) : Above b [] := fun _ h => absurd h List.not_mem_nil
/-- One unit more above a level. -/
theorem above_cons {b : ℕ} {p : GSem nD τ sig × ℕ} {l : List (GSem nD τ sig × ℕ)} (h : p.1.1.2 = .tc) (h' : b < lv p.1 ())
    (hl : Above b l) : Above b (p :: l) := fun q hq => by
  rcases List.mem_cons.mp hq with rfl | hq
  · exact ⟨h, h'⟩
  · exact hl q hq
/-- One transfer more above a level. -/
theorem above_du {b : ℕ} {k : Kd} {c : Dev nD} {o : Fin 3} {l : List (GSem nD τ sig × ℕ)}
    (h' : b < if k = 0 then 2 else if k = 3 then 4 else 3) (hl : Above b l) : Above b (du k c o :: l) :=
  above_cons rfl (by rw [lv_du]; exact h') hl

/-- The last transfers are above level 3. -/
theorem above_ag {b : ℕ} (c : Dev nD) (h : b < 4) : Above b (agL c) :=
  above_du h (above_du h (above_du h (above_nil b)))
/-- Batch 1's and later are above level 2. -/
theorem above_rs1 {b : ℕ} (c : Dev nD) (h : b < 3) : Above b (rs1L c) :=
  above_du h (above_du h (above_du h (above_ag c (by omega))))
/-- Batch 0's and later are above level 2. -/
theorem above_rs0 {b : ℕ} (c : Dev nD) (h : b < 3) : Above b (rs0L c) :=
  above_du h (above_du h (above_du h (above_rs1 c h)))
/-- All transfers are above level 1. -/
theorem above_kv {b : ℕ} (c : Dev nD) (h : b < 2) : Above b (kvL c) :=
  above_du h (above_du h (above_du h (above_rs0 c (by omega))))
/-- All owed is above level 0. -/
theorem above_all {b : ℕ} (c : Dev nD) (h : b < 1) : Above b (allL c) :=
  above_cons rfl h (above_cons rfl h (above_cons rfl h (above_kv c (by omega))))

/-- A device's debt, its waits not named. -/
def owesE (c : Dev nD) (l : List (GSem nD τ sig × ℕ)) : sProp 𝕄 := iprop(∃ W, owes (c : Thread nD τ) (owedL l) W)

/-! ## Invariants and a transfer's ghost state -/

/-- The kernel's own semaphores. -/
def osem (n : Fin 28) : SemLoc sig := .dma ⟨n.val + 5, by show _ < 33; omega⟩
/-- The kernel's semaphores are distinct. -/
theorem osem_inj : Function.Injective osem := by decide

/-- A device's barrier cell. -/
def barEmb : Dev nD ↪ GSem nD τ sig := ⟨barCell, fun a b h => by cases h; rfl⟩
/-- A device's other cells. -/
def ownEmb : Dev nD × Fin 28 ↪ GSem nD τ sig :=
  ⟨fun x => ((x.1 : Thread nD τ), osem x.2), fun a b h => by
    have h1 : a.1 = b.1 := by have := congrArg (fun g : GSem nD τ sig => g.1.1) h; exact this
    have h2 : a.2 = b.2 := osem_inj (congrArg (fun g : GSem nD τ sig => g.2) h)
    exact Prod.ext h1 h2⟩
/-- All barriers. -/
def barCells : Finset (GSem nD τ sig) := Finset.univ.map barEmb
/-- All other cells. -/
def ownCells : Finset (GSem nD τ sig) := Finset.univ.map ownEmb
/-- All cells. -/
def allCells : Finset (GSem nD τ sig) := barCells ∪ ownCells

/-- A barrier is a cell. -/
theorem bar_mem (c : Dev nD) : barCell c ∈ allCells :=
  Finset.mem_union_left _ (Finset.mem_map.mpr ⟨c, Finset.mem_univ _, rfl⟩)
/-- A kernel semaphore is a cell. -/
theorem own_mem (c : Dev nD) (n : Fin 28) : ((c : Thread nD τ), osem n) ∈ allCells :=
  Finset.mem_union_right _ (Finset.mem_map.mpr ⟨(c, n), Finset.mem_univ _, rfl⟩)

/-- The place of a sender's semaphore among the kernel's own. -/
def sndI (k : Kd) (o : Fin 3) : Fin 28 :=
  ⟨if k = 0 then o.val else if k = 1 then 7 + 2 * o.val else if k = 2 then 8 + 2 * o.val else 21 + o.val, by
    revert k o; decide⟩
/-- The place of a receive semaphore. -/
def rcvI (k : Kd) (j : Dev nD) : Fin 28 :=
  ⟨if k = 0 then 3 + j.val else if k = 1 then 13 + 2 * j.val else if k = 2 then 14 + 2 * j.val else 24 + j.val, by
    revert k j; decide⟩
/-- The place of a send semaphore is right. -/
theorem osem_snd (k : Kd) (o : Fin 3) : osem (sndI k o) = .dma (sndN k o) := by revert k o; decide
/-- The place of a receive semaphore is right. -/
theorem osem_rcv (k : Kd) (j : Dev nD) : osem (rcvI k j) = .dma (rcvN k j) := by revert k j; decide
/-- A send semaphore is a cell. -/
theorem snd_mem (k : Kd) (c : Dev nD) (o : Fin 3) : sndCell k c o ∈ allCells := by
  have := own_mem c (sndI k o); rwa [osem_snd] at this
/-- A receive semaphore is a cell. -/
theorem rcv_mem (k : Kd) (c j : Dev nD) : rcvCell k c j ∈ allCells := by
  have := own_mem c (rcvI k j); rwa [osem_rcv] at this

/-- Every cell's invariant, at the names `K`. -/
def allInv (K : GSem nD τ sig → ℕ) : sProp 𝕄 := bigSep allCells (fun g => cellInv ER (Rd I) (K g) g)
/-- The invariants can be copied. -/
instance allInv_persistent (K : GSem nD τ sig → ℕ) : BI.Persistent (allInv I K) := by unfold allInv; infer_instance
/-- One cell's invariant out of all. -/
theorem inv_get (K : GSem nD τ sig → ℕ) {g : GSem nD τ sig} (hg : g ∈ allCells) : allInv I K ⊢ cellInv ER (Rd I) (K g) g :=
  BI.bigSep_elim (Φ := fun g => cellInv ER (Rd I) (K g) g) hg

/-- A transfer not yet begun. -/
def tx (k : Kd) (c : Dev nD) (o : Fin 3) : sProp 𝕄 :=
  iprop(atPos ER (sndCell k c o) 0 ∅ 0 ∗ dutyTok ER (sndCell k c o) 0 0 ∗ reached ER (sndCell k c o) 0
    ∗ dutyTok ER (rcvCell k (peer c o) c) 0 0)
/-- A transfer begun. -/
def txs (k : Kd) (c : Dev nD) (o : Fin 3) : sProp 𝕄 :=
  iprop(atPos ER (sndCell k c o) 0 ∅ 0 ∗ cred (tallyAt (sndCell k c o) () (amt k)))
/-- A transfer whose source is back. -/
def txd (k : Kd) (c : Dev nD) (o : Fin 3) : sProp 𝕄 := atPos ER (sndCell k c o) 1 ∅ 0
/-- A transfer awaited. -/
def rx (k : Kd) (c : Dev nD) (o : Fin 3) : sProp 𝕄 :=
  iprop(atPos ER (rcvCell k c (peer c o)) 0 ∅ 0 ∗ cred (tallyAt (rcvCell k c (peer c o)) () (amt k)))
/-- A transfer landed. -/
def rxd (k : Kd) (c : Dev nD) (o : Fin 3) : sProp 𝕄 := atPos ER (rcvCell k c (peer c o)) 1 ∅ 0

end Cert.KernelIdeal.Prf
-- ==== Proof.Iface.lean ====
module

public import proofs.«01_k».proof.Proof.Proto

@[expose] public section

set_option maxRecDepth 65536

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-! ## A device's ghost state -/

/-- Twelve of a kind. -/
def twelve (Φ : Fin 4 → Fin 3 → sProp 𝕄) : sProp 𝕄 :=
  iprop(Φ 0 0 ∗ Φ 0 1 ∗ Φ 0 2 ∗ Φ 1 0 ∗ Φ 1 1 ∗ Φ 1 2 ∗ Φ 2 0 ∗ Φ 2 1 ∗ Φ 2 2 ∗ Φ 3 0 ∗ Φ 3 1 ∗ Φ 3 2)

/-- What a device starts with beside its buffers. -/
def gin : sProp 𝕄 :=
  iprop((dutyTok ER (barCell (peer c 0)) 0 (inv 0) ∗ dutyTok ER (barCell (peer c 1)) 0 (inv 1) ∗ dutyTok ER (barCell (peer c 2)) 0 (inv 2))
      ∗ (reached ER (barCell (peer c 0)) 0 ∗ reached ER (barCell (peer c 1)) 0 ∗ reached ER (barCell (peer c 2)) 0)
      ∗ cred (tallyAt (barCell c) () 3) ∗ atPos ER (barCell c) 0 ∅ 0
      ∗ twelve (fun k o => reached ER (rcvCell k c (peer c o)) 0)
      ∗ twelve (fun k o => tx (F := F) k c o) ∗ twelve (fun k o => rx (F := F) k c o))
/-- What it ends with. -/
def gout : sProp 𝕄 :=
  iprop(atPos ER (barCell c) 1 ∅ 0 ∗ twelve (fun k o => txd (F := F) k c o) ∗ twelve (fun k o => rxd (F := F) k c o))

/-- The buffers when the body starts. -/
def bin (f4 : Vec F S2x256x512 .f32) (f5 : Vec F S4x2x2x4x256x64 .i8) (f6 f7 f8 : Vec F S4x2x64x512 .bf16) : sProp 𝕄 :=
  iprop(A0 c (I.x c) ∗ A1 c (I.wq c) ∗ A2 c Finset.univ (I.kv c) ∗ A3 c (I.wo c) ∗ A4 c Finset.univ f4
    ∗ A5 c Finset.univ f5 ∗ A6 c Finset.univ f6 ∗ A7 c Finset.univ f7 ∗ A8 c Finset.univ fullShare f8)
/-- The buffers when it ends. -/
def bout : sProp 𝕄 :=
  iprop(A0 c (I.x c) ∗ A1 c (I.wq c) ∗ A2 c Finset.univ (I.kv c) ∗ A3 c (I.wo c) ∗ A4 c Finset.univ (outR I c)
    ∗ A5 c Finset.univ (kvR I c) ∗ A6 c Finset.univ (pqR I c) ∗ (∃ f, A7 c Finset.univ f) ∗ A8 c Finset.univ fullShare (agR I))

end Cert.KernelIdeal.Prf
-- ==== Proof.Ghost.lean ====
module

public import proofs.«01_k».proof.Proof.Iface

@[expose] public section

set_option maxRecDepth 65536

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-! ## Handing a record to every part of a conjunction -/

/-- A copyable fact used at each element. -/
theorem spread {ι : Type} [DecidableEq ι] (s : Finset ι) {R : sProp 𝕄} [BI.Persistent R] {Φ Ψ : ι → sProp 𝕄}
    (h : ∀ i, iprop(R ∗ Φ i) ⊢ Ψ i) : iprop(R ∗ bigSep s Φ) ⊢ bigSep s Ψ := by
  have e : bigSep s (fun i => iprop(R ∗ Φ i)) ⊢ bigSep s Ψ := BI.bigSep_mono fun i _ => h i
  iintro ⟨#HR, H⟩
  ihave HR' := (BI.bigSep_of_persistent s R) $$ HR
  iapply e
  rw [BI.bigSep_sep']
  isplitl [HR']; · iexact HR'
  iexact H

/-- The same under an update. -/
theorem spread_fupd {ι : Type} [DecidableEq ι] (s : Finset ι) {R : sProp 𝕄} [BI.Persistent R] {Φ Ψ : ι → sProp 𝕄}
    (h : ∀ i, iprop(R ∗ Φ i) ⊢ |={Set.univ}=> Ψ i) : iprop(R ∗ bigSep s Φ) ⊢ |={Set.univ}=> bigSep s Ψ :=
  (spread s h).trans (BI.bigSep_fupd s Ψ)

/-! ## The own cells, listed -/

/-- The kernel semaphores in a device's order. -/
def ownList : List (Fin 28) :=
  [sndI 0 0, sndI 0 1, sndI 0 2, sndI 1 0, sndI 1 1, sndI 1 2, sndI 2 0, sndI 2 1, sndI 2 2, sndI 3 0, sndI 3 1, sndI 3 2,
   rcvI 0 (peer c 0), rcvI 0 (peer c 1), rcvI 0 (peer c 2), rcvI 1 (peer c 0), rcvI 1 (peer c 1), rcvI 1 (peer c 2),
   rcvI 2 (peer c 0), rcvI 2 (peer c 1), rcvI 2 (peer c 2), rcvI 3 (peer c 0), rcvI 3 (peer c 1), rcvI 3 (peer c 2),
   rcvI 0 c, rcvI 1 c, rcvI 2 c, rcvI 3 c]
/-- The order names them all. -/
theorem ownList_univ : Finset.univ = (ownList c).toFinset := by revert c; decide
/-- The order names none twice. -/
theorem ownList_nodup : (ownList c).Nodup := by revert c; decide

/-- All semaphores' resources as a chain. -/
theorem own_list (X : GSem nD τ sig → sProp 𝕄) :
    bigSep Finset.univ (fun n : Fin 28 => X ((c : Thread nD τ), osem n))
      = iprop(X (sndCell 0 c 0) ∗ X (sndCell 0 c 1) ∗ X (sndCell 0 c 2) ∗ X (sndCell 1 c 0) ∗ X (sndCell 1 c 1) ∗ X (sndCell 1 c 2)
        ∗ X (sndCell 2 c 0) ∗ X (sndCell 2 c 1) ∗ X (sndCell 2 c 2) ∗ X (sndCell 3 c 0) ∗ X (sndCell 3 c 1) ∗ X (sndCell 3 c 2)
        ∗ X (rcvCell 0 c (peer c 0)) ∗ X (rcvCell 0 c (peer c 1)) ∗ X (rcvCell 0 c (peer c 2))
        ∗ X (rcvCell 1 c (peer c 0)) ∗ X (rcvCell 1 c (peer c 1)) ∗ X (rcvCell 1 c (peer c 2))
        ∗ X (rcvCell 2 c (peer c 0)) ∗ X (rcvCell 2 c (peer c 1)) ∗ X (rcvCell 2 c (peer c 2))
        ∗ X (rcvCell 3 c (peer c 0)) ∗ X (rcvCell 3 c (peer c 1)) ∗ X (rcvCell 3 c (peer c 2))
        ∗ X (rcvCell 0 c c) ∗ X (rcvCell 1 c c) ∗ X (rcvCell 2 c c) ∗ X (rcvCell 3 c c)) := by
  rw [bigSep_univ_eq_bigSepL (ownList c) (ownList_univ c) (ownList_nodup c)]
  simp only [ownList, bigSepL_cons_cons, bigSepL_singleton, osem_snd, osem_rcv]
  rfl

/-- The receive cells no device pays into. -/
def four' (Φ : Fin 4 → sProp 𝕄) : sProp 𝕄 := iprop(Φ 0 ∗ Φ 1 ∗ Φ 2 ∗ Φ 3)

/-- Sends, receives and the unused apart. -/
theorem own_split (X : GSem nD τ sig → sProp 𝕄) :
    bigSep Finset.univ (fun n : Fin 28 => X ((c : Thread nD τ), osem n))
      ⊢ iprop(twelve (fun k o => X (sndCell k c o)) ∗ twelve (fun k o => X (rcvCell k c (peer c o))) ∗ four' (fun k => X (rcvCell k c c))) := by
  rw [own_list]
  unfold twelve four'
  iintro ⟨S00, S01, S02, S10, S11, S12, S20, S21, S22, S30, S31, S32, R00, R01, R02, R10, R11, R12, R20, R21, R22, R30, R31, R32, O⟩
  isplitl [S00 S01 S02 S10 S11 S12 S20 S21 S22 S30 S31 S32]
  · iframe
  isplitr [O]
  · iframe
  iexact O

/-- And together again. -/
theorem own_join (X : GSem nD τ sig → sProp 𝕄) :
    iprop(twelve (fun k o => X (sndCell k c o)) ∗ twelve (fun k o => X (rcvCell k c (peer c o))) ∗ four' (fun k => X (rcvCell k c c)))
      ⊢ bigSep Finset.univ (fun n : Fin 28 => X ((c : Thread nD τ), osem n)) := by
  rw [own_list]
  unfold twelve four'
  iintro ⟨⟨S00, S01, S02, S10, S11, S12, S20, S21, S22, S30, S31, S32⟩, ⟨R00, R01, R02, R10, R11, R12, R20, R21, R22, R30, R31, R32⟩, O⟩
  iframe

/-- Two dozens paired. -/
theorem twelve_sep (Φ Ψ : Fin 4 → Fin 3 → sProp 𝕄) :
    iprop(twelve Φ ∗ twelve Ψ) ⊢ twelve (fun k o => iprop(Φ k o ∗ Ψ k o)) := by
  unfold twelve
  iintro ⟨⟨S00, S01, S02, S10, S11, S12, S20, S21, S22, S30, S31, S32⟩, ⟨R00, R01, R02, R10, R11, R12, R20, R21, R22, R30, R31, R32⟩⟩
  isplitl [S00 R00]; · isplitl [S00] <;> iassumption
  isplitl [S01 R01]; · isplitl [S01] <;> iassumption
  isplitl [S02 R02]; · isplitl [S02] <;> iassumption
  isplitl [S10 R10]; · isplitl [S10] <;> iassumption
  isplitl [S11 R11]; · isplitl [S11] <;> iassumption
  isplitl [S12 R12]; · isplitl [S12] <;> iassumption
  isplitl [S20 R20]; · isplitl [S20] <;> iassumption
  isplitl [S21 R21]; · isplitl [S21] <;> iassumption
  isplitl [S22 R22]; · isplitl [S22] <;> iassumption
  isplitl [S30 R30]; · isplitl [S30] <;> iassumption
  isplitl [S31 R31]; · isplitl [S31] <;> iassumption
  isplitl [S32] <;> iassumption

/-- Pairs as two dozens. -/
theorem twelve_unsep (Φ Ψ : Fin 4 → Fin 3 → sProp 𝕄) :
    twelve (fun k o => iprop(Φ k o ∗ Ψ k o)) ⊢ iprop(twelve Φ ∗ twelve Ψ) := by
  unfold twelve
  iintro ⟨⟨S00, R00⟩, ⟨S01, R01⟩, ⟨S02, R02⟩, ⟨S10, R10⟩, ⟨S11, R11⟩, ⟨S12, R12⟩, ⟨S20, R20⟩, ⟨S21, R21⟩, ⟨S22, R22⟩, ⟨S30, R30⟩, ⟨S31, R31⟩, ⟨S32, R32⟩⟩
  isplitl [S00 S01 S02 S10 S11 S12 S20 S21 S22 S30 S31 S32]
  · iframe
  iframe

/-- A dozen changed one by one. -/
theorem twelve_mono (Φ Ψ : Fin 4 → Fin 3 → sProp 𝕄) (h : ∀ k o, Φ k o ⊢ Ψ k o) : twelve Φ ⊢ twelve Ψ := by
  unfold twelve
  exact BI.sep_mono (h _ _) (BI.sep_mono (h _ _) (BI.sep_mono (h _ _) (BI.sep_mono (h _ _) (BI.sep_mono (h _ _) (BI.sep_mono (h _ _)
    (BI.sep_mono (h _ _) (BI.sep_mono (h _ _) (BI.sep_mono (h _ _) (BI.sep_mono (h _ _) (BI.sep_mono (h _ _) (h _ _)))))))))))

/-- The same with a copyable fact. -/
theorem twelve_map {R : sProp 𝕄} [BI.Persistent R] (Φ Ψ : Fin 4 → Fin 3 → sProp 𝕄) (h : ∀ k o, iprop(R ∗ Φ k o) ⊢ Ψ k o) :
    iprop(R ∗ twelve Φ) ⊢ twelve Ψ := by
  iintro ⟨#HR, H⟩
  iapply (twelve_mono (fun k o => iprop(R ∗ Φ k o)) Ψ h)
  iapply (twelve_sep (fun _ _ => R) Φ)
  isplitr
  · unfold twelve
    iframe #
  iexact H

/-! ## Opening and closing the own cells -/

/-- All kernel semaphores opened. -/
theorem open_all : iprop(allInv I K ∗ bigSep Finset.univ (fun n : Fin 28 => iprop(openTok ER ((c : Thread nD τ), osem n) ∗ semVal ((c : Thread nD τ), osem n) 0)))
    ⊢ (|={Set.univ}=> bigSep Finset.univ (fun n : Fin 28 => iprop(atPos ER ((c : Thread nD τ), osem n) 0 ∅ 0 ∗ reached ER ((c : Thread nD τ), osem n) 0)) : sProp 𝕄) := by
  refine spread_fupd Finset.univ fun n => ?_
  iintro ⟨#HI, Ho, Hs⟩
  iapply (Rounds.cell_open ER (Rd I) (g := ((c : Thread nD τ), osem n)) (Set.mem_univ (K ((c : Thread nD τ), osem n))))
  isplitr; · iapply (inv_get I K (own_mem c n)); iexact HI
  isplitl [Ho] <;> iassumption

/-- A cell with no round left to wait for. -/
def idle (g : GSem nD τ sig) : sProp 𝕄 := iprop(∃ n : ℕ, ⌜∀ r, n ≤ r → (Rd I).duties g r = ∅⌝ ∗ atPos ER g n ∅ 0)

/-- An idle cell closed with value zero. -/
theorem close_at (g : GSem nD τ sig) (hg : g ∈ allCells) :
    iprop(allInv I K ∗ idle I g) ⊢ (|={Set.univ}=> semVal g 0 : sProp 𝕄) := by
  unfold idle
  iintro ⟨#HI, ⟨%n, %h, Ha⟩⟩
  iapply (Rounds.cell_close ER (Rd I) (Set.mem_univ (K g)) id h)
  isplitr; · iapply (inv_get I K hg); iexact HI
  iexact Ha

/-- A finished cell is idle. -/
theorem idle_one (g : GSem nD τ sig) : (atPos ER g 1 ∅ 0 : sProp 𝕄) ⊢ idle I g := by
  unfold idle
  iintro H; iexists 1; isplitr; · ipureintro; exact duties_later I g
  iexact H
/-- An unused cell is idle. -/
theorem idle_own (k : Fin 4) : (atPos ER (rcvCell k c c) 0 ∅ 0 : sProp 𝕄) ⊢ idle I (rcvCell k c c) := by
  unfold idle
  iintro H; iexists 0; isplitr; · ipureintro; exact duties_own_all I c k
  iexact H

/-- Four changed one by one. -/
theorem four'_mono (Φ Ψ : Fin 4 → sProp 𝕄) (h : ∀ k, Φ k ⊢ Ψ k) : four' Φ ⊢ four' Ψ := by
  unfold four'
  exact BI.sep_mono (h _) (BI.sep_mono (h _) (BI.sep_mono (h _) (h _)))

/-- What the body leaves of the own cells closes them all. -/
theorem close_all : iprop(allInv I K ∗ gout (F := F) c ∗ four' (fun k => atPos ER (rcvCell k c c) 0 ∅ 0))
    ⊢ (|={Set.univ}=> iprop(semVal (barCell c) 0 ∗ bigSep Finset.univ (fun n : Fin 28 => semVal ((c : Thread nD τ), osem n) 0)) : sProp 𝕄) := by
  unfold gout
  iintro ⟨#HI, ⟨Hb, Ht, Hr⟩, Ho⟩
  imod (close_at I K (barCell c) (bar_mem c)) $$ [Hb] with Hb
  · isplitr; · iexact HI
    iapply (idle_one I (barCell c)); iexact Hb
  ihave H := (own_join c (idle I)) $$ [Ht Hr Ho]
  · isplitl [Ht]; · iapply (twelve_mono (fun k o => txd (F := F) k c o) _ (fun k o => idle_one I _)); iexact Ht
    isplitl [Hr]; · iapply (twelve_mono (fun k o => rxd (F := F) k c o) _ (fun k o => idle_one I _)); iexact Hr
    iapply (four'_mono _ _ (fun k => idle_own I c k)); iexact Ho
  imod (spread_fupd Finset.univ (fun n : Fin 28 => close_at I K ((c : Thread nD τ), osem n) (own_mem c n))) $$ [H] with H
  · iframe # ∗
  imodintro
  iframe

/-! ## The tokens, by the device that pays -/

/-- What a device pays: its three signals, its twelve sources back, its twelve landings. -/
abbrev Due : Type := Fin 3 ⊕ (Fin 4 × Fin 3) ⊕ (Fin 4 × Fin 3)
/-- The duty a due pays. -/
def tokOf (x : Dev nD × Due) : GSem nD τ sig × ℕ × Fin 3 :=
  match x.2 with
  | .inl o => (barCell (peer x.1 o), 0, inv o)
  | .inr (.inl ko) => (sndCell ko.1 x.1 ko.2, 0, 0)
  | .inr (.inr ko) => (rcvCell ko.1 (peer x.1 ko.2) x.1, 0, 0)
/-- The place of `d` as seen from `j`. -/
def seen (j d : Dev nD) : Fin 3 := ⟨(d.val + 3 - j.val) % 4 % 3, Nat.mod_lt _ (by decide)⟩
/-- The device and due of a duty. -/
def tokInv (t : GSem nD τ sig × ℕ × Fin 3) : Dev nD × Due :=
  match role t.1.2 with
  | .bar => (peer t.1.1.1 t.2.2, .inl (inv t.2.2))
  | .snd k o => (t.1.1.1, .inr (.inl (k, o)))
  | .rcv k j => (j, .inr (.inr (k, seen j t.1.1.1)))
  | .none => (t.1.1.1, .inl 0)
/-- Each undoes the other. -/
theorem tok_left : ∀ c : Dev nD, ∀ d : Due, tokInv (tokOf (c, d)) = (c, d) := by decide
/-- Dues as duties. -/
def tokEmb : Dev nD × Due ↪ GSem nD τ sig × ℕ × Fin 3 :=
  ⟨tokOf, Function.LeftInverse.injective (g := tokInv) fun x => tok_left x.1 x.2⟩
/-- All duties. -/
def toks : Finset (GSem nD τ sig × ℕ × Fin 3) := Finset.univ.map tokEmb

/-- A device's tokens. -/
def mine : sProp 𝕄 :=
  iprop((dutyTok ER (barCell (peer c 0)) 0 (inv 0) ∗ dutyTok ER (barCell (peer c 1)) 0 (inv 1) ∗ dutyTok ER (barCell (peer c 2)) 0 (inv 2))
    ∗ twelve (fun k o => dutyTok ER (sndCell k c o) 0 0) ∗ twelve (fun k o => dutyTok ER (rcvCell k (peer c o) c) 0 0))

/-- A device's dues in order. -/
def dueList : List Due :=
  [.inl 0, .inl 1, .inl 2,
   .inr (.inl (0, 0)), .inr (.inl (0, 1)), .inr (.inl (0, 2)), .inr (.inl (1, 0)), .inr (.inl (1, 1)), .inr (.inl (1, 2)),
   .inr (.inl (2, 0)), .inr (.inl (2, 1)), .inr (.inl (2, 2)), .inr (.inl (3, 0)), .inr (.inl (3, 1)), .inr (.inl (3, 2)),
   .inr (.inr (0, 0)), .inr (.inr (0, 1)), .inr (.inr (0, 2)), .inr (.inr (1, 0)), .inr (.inr (1, 1)), .inr (.inr (1, 2)),
   .inr (.inr (2, 0)), .inr (.inr (2, 1)), .inr (.inr (2, 2)), .inr (.inr (3, 0)), .inr (.inr (3, 1)), .inr (.inr (3, 2))]

/-- All dues' resources as a chain. -/
theorem due_list (X : Due → sProp 𝕄) :
    bigSep Finset.univ X = iprop(X (.inl 0) ∗ X (.inl 1) ∗ X (.inl 2)
      ∗ X (.inr (.inl (0, 0))) ∗ X (.inr (.inl (0, 1))) ∗ X (.inr (.inl (0, 2))) ∗ X (.inr (.inl (1, 0))) ∗ X (.inr (.inl (1, 1))) ∗ X (.inr (.inl (1, 2)))
      ∗ X (.inr (.inl (2, 0))) ∗ X (.inr (.inl (2, 1))) ∗ X (.inr (.inl (2, 2))) ∗ X (.inr (.inl (3, 0))) ∗ X (.inr (.inl (3, 1))) ∗ X (.inr (.inl (3, 2)))
      ∗ X (.inr (.inr (0, 0))) ∗ X (.inr (.inr (0, 1))) ∗ X (.inr (.inr (0, 2))) ∗ X (.inr (.inr (1, 0))) ∗ X (.inr (.inr (1, 1))) ∗ X (.inr (.inr (1, 2)))
      ∗ X (.inr (.inr (2, 0))) ∗ X (.inr (.inr (2, 1))) ∗ X (.inr (.inr (2, 2))) ∗ X (.inr (.inr (3, 0))) ∗ X (.inr (.inr (3, 1))) ∗ X (.inr (.inr (3, 2)))) :=
  bigSep_univ_eq_bigSepL dueList (by decide) (by decide) X

/-- The chain in a device's own grouping. -/
theorem mine_of (X : GSem nD τ sig × ℕ × Fin 3 → sProp 𝕄) :
    bigSep Finset.univ (fun d : Due => X (tokOf (c, d)))
      ⊢ iprop((X (barCell (peer c 0), 0, inv 0) ∗ X (barCell (peer c 1), 0, inv 1) ∗ X (barCell (peer c 2), 0, inv 2))
        ∗ twelve (fun k o => X (sndCell k c o, 0, 0)) ∗ twelve (fun k o => X (rcvCell k (peer c o) c, 0, 0))) := by
  rw [due_list]
  unfold twelve
  dsimp only [tokOf]
  iintro ⟨B0, B1, B2, S00, S01, S02, S10, S11, S12, S20, S21, S22, S30, S31, S32, R⟩
  isplitl [B0 B1 B2]
  · iframe
  isplitr [R]
  · iframe
  iexact R

/-- All duties dealt to the devices. -/
theorem toks_deal : bigSep toks (fun x => (dutyTok ER x.1 x.2.1 x.2.2 : sProp 𝕄)) ⊢ bigSep Finset.univ (fun c : Dev nD => mine (F := F) c) := by
  unfold toks
  rw [bigSep_map, BI.bigSep_univ_prod]
  exact BI.bigSep_mono fun c _ => mine_of c (fun x => (dutyTok ER x.1 x.2.1 x.2.2 : sProp 𝕄))

/-! ## The credit each device starts with -/

/-- What is owed a cell, summed. -/
theorem owedL_eq (l : List (GSem nD τ sig × ℕ)) (g : GSem nD τ sig) :
    owedL l g () = ((l.filter fun p => p.1 = g).map Prod.snd).sum := by
  induction l with
  | nil => rfl
  | cons p l ih =>
    show (owedL l + tallyAt p.1 () p.2) g () = _
    rw [Pi.add_apply, Finsupp.add_apply, ih, tallyAt_apply]
    by_cases h : p.1 = g
    · rw [if_pos ⟨h.symm, rfl⟩, List.filter_cons_of_pos (by simpa using h), List.map_cons, List.sum_cons, Nat.add_comm]
    · rw [if_neg (fun h' => h h'.1.symm), List.filter_cons_of_neg (by simpa using h), Nat.add_zero]

/-- Each other device owes a barrier one unit. -/
theorem allL_bar : ∀ d c : Dev nD, ((allL d).filter fun p => p.1 = barCell c).map Prod.snd = if d = c then [] else [1] := by decide
/-- The peer owes a receive semaphore one transfer. -/
theorem allL_rcv_self : ∀ (k : Fin 4) (o : Fin 3) (c : Dev nD),
    ((allL (peer c o)).filter fun p => p.1 = rcvCell k c (peer c o)) = [du k (peer c o) (inv o)] := by decide
/-- No other device owes it. -/
theorem allL_rcv_ne : ∀ (k : Fin 4) (o : Fin 3) (c d : Dev nD), d ≠ peer c o →
    ((allL d).filter fun p => p.1 = rcvCell k c (peer c o)) = [] := by decide

/-- What a device owes at launch. -/
abbrev O₀ (c : Dev nD) : CellTallies nD τ sig Unit := owedL (allL c)

/-- A barrier's credit at launch is three. -/
theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => (owedL_eq (allL d) (barCell c)).trans (by rw [allL_bar])]
  revert c; decide
/-- A receive semaphore's is one transfer. -/
theorem launch_rcv (k : Fin 4) (o : Fin 3) :
    tallyOn (rcvCell k c (peer c o)) (launchCredit (Pipeline.owing O₀) 0 (rcvCell k c (peer c o)))
      = (tallyAt (rcvCell k c (peer c o)) () (amt k) : CellTallies nD τ sig Unit) := by
  unfold tallyAt; refine congrArg _ (Finsupp.ext fun u => ?_); cases u
  rw [Pipeline.launchCredit_owing, Finsupp.single_eq_same,
    Finset.sum_eq_single (peer c o) (fun d _ hd => by rw [owedL_eq, allL_rcv_ne k o c d hd]; rfl) (fun h => absurd (Finset.mem_univ _) h),
    owedL_eq, allL_rcv_self]
  rfl

/-- The semaphores with launch credit. -/
def crList : List (SemLoc sig) :=
  [.reg barS, .dma (rcvN 0 (peer c 0)), .dma (rcvN 0 (peer c 1)), .dma (rcvN 0 (peer c 2)), .dma (rcvN 1 (peer c 0)), .dma (rcvN 1 (peer c 1)), .dma (rcvN 1 (peer c 2)),
   .dma (rcvN 2 (peer c 0)), .dma (rcvN 2 (peer c 1)), .dma (rcvN 2 (peer c 2)), .dma (rcvN 3 (peer c 0)), .dma (rcvN 3 (peer c 1)), .dma (rcvN 3 (peer c 2))]
/-- The cells waited for are distinct. -/
theorem crList_nodup : (crList c).Nodup := by revert c; decide

/-- A device's credits at launch. -/
theorem creds : (Pipeline.launchCred O₀ c : sProp 𝕄)
    ⊢ iprop(cred (tallyAt (barCell c) () 3) ∗ twelve (fun k o => cred (tallyAt (rcvCell k c (peer c o)) () (amt k)))) := by
  have e : bigSep (crList c).toFinset (fun sm : SemLoc sig => (cred (tallyOn ((c : Thread nD τ), sm) (launchCredit (Pipeline.owing O₀) 0 ((c : Thread nD τ), sm))) : sProp 𝕄))
      = iprop(cred (tallyAt (barCell c) () 3) ∗ twelve (fun k o => cred (tallyAt (rcvCell k c (peer c o)) () (amt k)))) := by
    rw [bigSep_eq_bigSepL_of_eq (crList c) rfl (crList_nodup c)]
    simp only [crList, bigSepL_cons_cons, bigSepL_singleton, launch_bar, launch_rcv]
    rfl
  rw [← e]
  unfold Pipeline.launchCred
  exact BI.bigSep_subset (Finset.subset_univ _)

end Cert.KernelIdeal.Prf
-- ==== Proof.Steps.lean ====
module

public import proofs.«01_k».proof.Proof.Proto

@[expose] public section

set_option maxRecDepth 16384

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- No variants of any loop. -/
abbrev 𝒱₀ : Variants := Variants.none

/-- A program of the kernel's core. -/
abbrev Pg (F : FTy → Type) (β : Type) : Type 1 := Prog (TpuEff nD τ sig (Elt F) Λ₀ .tc) β

/-- What it takes to run a program on core `c`'s thread and end in `Q`. -/
abbrev W (c : Dev nD) {β : Type} (p : Pg F β) (Q : β → sProp 𝕄) : sProp 𝕄 :=
  wp frame (wpE (defs₀ (F := F)) 𝒱₀ c none) Set.univ p Q

/-! ## Waits and sends, any kind -/

section Gn
variable (I : Ins F) (K : GSem nD τ sig → ℕ) (c : Dev nD)

/-- Signalling a peer's barrier pays its unit with the loans. -/
theorem signal_step {α : Type} {Q : α → sProp 𝕄} (o : Fin 3) (l : List (GSem nD τ sig × ℕ)) {c' : Dev nD} (hc : c' = peer c o)
    {k : PUnit → Pg F α} :
    iprop(allInv I K ∗ owesE (F := F) c ((barCell (peer c o), 1) :: l) ∗ dutyTok ER (barCell (peer c o)) 0 (inv o)
        ∗ barPay (F := F) c (peer c o) ∗ reached ER (barCell (peer c o)) 0)
      ⊢ iprop((owesE (F := F) c l -∗ W c (k ⟨⟩) Q)
        -∗ W c (.op (.semSignal ((c' : Dev nD) : Thread nD τ) barS 1) k) Q) := by
  subst hc
  unfold owesE
  iintro ⟨#HI, ⟨%W, HO⟩, Ht, Hp, #Hr⟩ Hk
  ihave HIg := (inv_get I K (bar_mem (peer c o))) $$ HI
  iapply (Rounds.wp_signal 𝒱₀ ER (Rd I) (c : Thread nD τ) none (dst := (peer c o : Thread nD τ)) (sem := barS) (r := 0) (d := inv o)
      (κ := K (barCell (peer c o))) (by rw [duties_bar]; exact Finset.mem_univ _) (amount_bar I (peer c o) (inv o)) ()
      (owedL l) rfl) $$ [HO Ht Hp HIg]
  · isplitl [HIg]; · iexact HIg
    isplitl [HO]; · iexact HO
    isplitl [Ht]; · iexact Ht
    isplitl [Hp]; · rw [payload_bar, peer_inv]; iexact Hp
    iexact Hr
  iintro HO
  iapply Hk
  iexists W; iexact HO

/-- Passing the barrier brings the peers' loans. -/
theorem barrier_step {α : Type} {Q : α → sProp 𝕄} (l : List (GSem nD τ sig × ℕ)) (hl : Above 1 l)
    {k : PUnit → Pg F α} :
    iprop(allInv I K ∗ levAts L lv ∗ owesE (F := F) c l ∗ cred (tallyAt (barCell c) () 3) ∗ atPos ER (barCell c) 0 ∅ 0)
      ⊢ iprop(((owesE (F := F) c l ∗ atPos ER (barCell c) 1 ∅ 0
            ∗ (barPay (F := F) (peer c 0) c ∗ barPay (peer c 1) c ∗ barPay (peer c 2) c))
          -∗ W c (k ⟨⟩) Q)
        -∗ W c (.op (.semWait barS 3) k) Q) := by
  unfold owesE
  iintro ⟨#HI, #Hlev, ⟨%W, HO⟩, Hc, Ha⟩ Hk
  ihave HIg := (inv_get I K (bar_mem c)) $$ HI
  iapply (Rounds.wp_wait_rest_token 𝒱₀ ER (Rd I) (c : Thread nD τ) none (κ := K (barCell c))
      (wpE_semWait_eq 𝒱₀ (c : Thread nD τ) none Set.univ) (Set.mem_univ _) () (O := owedL l) (W := W) (R := 0) (m := 0) (T := ∅)
      ((Nat.zero_add 3).trans (expect_bar I c).symm)) $$ [Hc HO Ha HIg]
  · isplitl [HIg]; · iexact HIg
    isplitl [Hc]; · iexact Hc
    isplitl [HO]; · iexact HO
    isplitr; · iapply (mayWait_above c (.reg barS) 1 l (le_refl 1) hl); iexact Hlev
    iexact Ha
  iintro ⟨HO, Ha, -, Hp⟩
  ihave Hp' := (Entails.of_eq (rest_bar I c)) $$ Hp
  iapply Hk
  isplitl [HO]; · iexists _; iexact HO
  isplitl [Ha]; · iexact Ha
  iexact Hp'

/-- Waiting for a send gives the source back. -/
theorem wait_snd {α : Type} {Q : α → sProp 𝕄} (k : Kd) (o : Fin 3) (l : List (GSem nD τ sig × ℕ)) (hl : Above 0 l)
    {sp sp' : Space} {s s' : Shape} {e e' : EltTy} {src : Memref sig .tc sp' s' e'} {dst : Memref sig .tc sp s e}
    {h₁ : src.view.WordExact} {h₂ : dst.view.WordExact} {sem : DmaSem sig} (hs : sem = sndN k o) (hN : dst.view.dmaCredit = amt k)
    {kk : PUnit → Pg F α} :
    iprop(allInv I K ∗ levAts L lv ∗ owesE (F := F) c l ∗ txs (F := F) k c o)
      ⊢ iprop(((owesE (F := F) c l ∗ txd (F := F) k c o ∗ sndPay I k c o)
          -∗ W c (kk ⟨⟩) Q)
        -∗ W c (.op (.waitDma2 sem src dst h₁ h₂) kk) Q) := by
  subst hs
  unfold owesE txs txd
  iintro ⟨#HI, #Hlev, ⟨%W, HO⟩, Ha, Hc⟩ Hk
  ihave HIg := (inv_get I K (snd_mem k c o)) $$ HI
  rw [← hN]
  iapply (Rounds.wp_wait_rest_token 𝒱₀ ER (Rd I) (c : Thread nD τ) none (κ := K (sndCell k c o))
      (wpE_waitDma2_eq (src := src) (dst := dst) (hsrc := h₁) (hdst := h₂) 𝒱₀ (c : Thread nD τ) none Set.univ) (Set.mem_univ _) () (O := owedL l) (W := W) (R := 0) (m := 0) (T := ∅)
      ((Nat.zero_add _).trans (hN.trans (expect_snd I c k o).symm))) $$ [Hc HO Ha HIg]
  · isplitl [HIg]; · iexact HIg
    isplitl [Hc]; · iexact Hc
    isplitl [HO]; · iexact HO
    isplitr; · iapply (mayWait_above c (.dma (sndN k o)) 0 l (by rw [role_snd]; exact le_refl 0) hl); iexact Hlev
    iexact Ha
  iintro ⟨HO, Ha, -, Hp⟩
  ihave Hp' := (Entails.of_eq (rest_snd I c k o)) $$ Hp
  iapply Hk
  isplitl [HO]; · iexists _; iexact HO
  isplitl [Ha]; · iexact Ha
  iexact Hp'

/-- Waiting for a receive gives the landed block. -/
theorem wait_rcv {α : Type} {Q : α → sProp 𝕄} (k : Kd) (o : Fin 3) (l : List (GSem nD τ sig × ℕ)) (hl : Above (if k = 0 then 2 else if k = 3 then 4 else 3) l)
    {sp sp' : Space} {s s' : Shape} {e e' : EltTy} {src : Memref sig .tc sp' s' e'} {dst : Memref sig .tc sp s e}
    {h₁ : src.view.WordExact} {h₂ : dst.view.WordExact} {sem : DmaSem sig} (hs : sem = rcvN k (peer c o)) (hN : dst.view.dmaCredit = amt k)
    {kk : PUnit → Pg F α} :
    iprop(allInv I K ∗ levAts L lv ∗ owesE (F := F) c l ∗ rx (F := F) k c o)
      ⊢ iprop(((owesE (F := F) c l ∗ rxd (F := F) k c o ∗ rcvPay I k c (peer c o))
          -∗ W c (kk ⟨⟩) Q)
        -∗ W c (.op (.waitDma2 sem src dst h₁ h₂) kk) Q) := by
  subst hs
  unfold owesE rx rxd
  iintro ⟨#HI, #Hlev, ⟨%W, HO⟩, Ha, Hc⟩ Hk
  ihave HIg := (inv_get I K (rcv_mem k c (peer c o))) $$ HI
  rw [← hN]
  iapply (Rounds.wp_wait_rest_token 𝒱₀ ER (Rd I) (c : Thread nD τ) none (κ := K (rcvCell k c (peer c o)))
      (wpE_waitDma2_eq (src := src) (dst := dst) (hsrc := h₁) (hdst := h₂) 𝒱₀ (c : Thread nD τ) none Set.univ) (Set.mem_univ _) () (O := owedL l) (W := W) (R := 0) (m := 0) (T := ∅)
      ((Nat.zero_add _).trans (hN.trans (expect_rcv I c k (peer c o) (peer_ne c o)).symm))) $$ [Hc HO Ha HIg]
  · isplitl [HIg]; · iexact HIg
    isplitl [Hc]; · iexact Hc
    isplitl [HO]; · iexact HO
    isplitr
    · iapply (mayWait_above c (.dma (rcvN k (peer c o))) _ l (by rw [role_rcv]; exact le_refl _) hl); iexact Hlev
    iexact Ha
  iintro ⟨HO, Ha, -, Hp⟩
  ihave Hp' := (Entails.of_eq (rest_rcv I c k (peer c o) (peer_ne c o))) $$ Hp
  iapply Hk
  isplitl [HO]; · iexists _; iexact HO
  isplitl [Ha]; · iexact Ha
  iexact Hp'

/-- Starting a transfer pays both its duties. -/
theorem send_step {α : Type} {Q : α → sProp 𝕄} (k : Kd) (o : Fin 3) (l : List (GSem nD τ sig × ℕ)) {c' : Dev nD} (hc : c' = peer c o)
    {sp sp' : Space} {s : Shape} {e : EltTy} {src : Memref sig .tc sp s e} {dst : Memref sig .tc sp' s e}
    {hsc : dst.view.ref.isScScratch = false} {sS sem : DmaSem sig}
    {h₁ : src.view.WordExact} {h₂ : dst.view.WordExact} {hsem : DmaTarget.Typed sp (.dma sem) (.remote ((c' : Dev nD) : Thread nD τ) dst (.dma sS) hsc)}
    (hsS : sS = sndN k o) (hsm : sem = rcvN k c) (hN : dst.view.dmaCredit = amt k)
    {fs : Buf (Elt F) (src.view.loc (c : Thread nD τ))} {q : PosShare TreeShare}
    {fd : Buf (Elt F) (dst.view.loc (peer c o : Thread nD τ))}
    (hpay₁ : (src.view.loc (c : Thread nD τ) ↦[src.view.set]{q} fs) ⊢ sndPay I k c o)
    (hpay₂ : (dst.view.loc (peer c o : Thread nD τ) ↦[dst.view.set]{fullShare}
        (dst.view.write (Elt F) fd (src.view.read (Elt F) fs) Finset.univ)) ⊢ rcvPay I k (peer c o) c)
    {kk : PUnit → Pg F α} :
    iprop(allInv I K ∗ owesE (F := F) c (du k c o :: l) ∗ tx (F := F) k c o ∗ reached ER (rcvCell k (peer c o) c) 0
        ∗ (src.view.loc (c : Thread nD τ) ↦[src.view.set]{q} fs)
        ∗ (dst.view.loc (peer c o : Thread nD τ) ↦[dst.view.set]{fullShare} fd))
      ⊢ iprop(((owesE (F := F) c l ∗ txs (F := F) k c o)
          -∗ W c (kk ⟨⟩) Q)
        -∗ W c (.op (.enqueueDma src (.remote ((c' : Dev nD) : Thread nD τ) dst (.dma sS) hsc) (.dma sem) h₁ h₂ hsem) kk) Q) := by
  subst hc hsS hsm
  unfold owesE tx txs
  iintro ⟨#HI, ⟨%W, HO⟩, ⟨Ha, Ht, #Hr, Ht'⟩, #Hr', Hs, Hd⟩ Hk
  ihave HIs := (inv_get I K (snd_mem k c o)) $$ HI
  ihave HId := (inv_get I K (rcv_mem k (peer c o) c)) $$ HI
  iapply (Rounds.wp_send_pointsTo 𝒱₀ ER (Rd I) (c : Thread nD τ) none (c' := (peer c o : Thread nD τ)) (src := src) (dst := dst)
      (sS := .dma (sndN k o)) (sem := .dma (rcvN k c)) (q := q) (fs := fs) (κ₁ := K (sndCell k c o)) (κ₂ := K (rcvCell k (peer c o) c))
      (r₁ := 0) (r₂ := 0) (d₁ := 0) (d₂ := 0) (fd := fd)
      (by rw [duties_snd]; exact Finset.mem_singleton_self _)
      (by rw [duties_rcv I _ k c (ne_peer c o)]; exact Finset.mem_singleton_self _)
      () () (amt k) hN (amount_snd I c k o 0) (amount_rcv I (peer c o) k c 0) (owedL l) rfl (W := W)
      (by rw [payload_snd]; exact hpay₁) (by rw [payload_rcv]; exact hpay₂)) $$ [HIs HId Hs Hd HO Ht Ht']
  · isplitl [HIs]; · iexact HIs
    isplitl [HId]; · iexact HId
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iframe

end Gn

/-! ## Loads and stores of whole buffers' parts -/

section Mem
variable (c : Dev nD)

/-- A load reads what the buffer holds. -/
theorem load_step {α : Type} {Q : α → sProp 𝕄} {cs : CoreSpace} {i : Fin (sig.nNear .tc cs)} {hκ : sig.names .tc cs i = true}
    (r : Rect (sig.tyNear .tc cs i).shape)
    {hl : (Memref.whole ⟨cs, i, hκ⟩ : Memref sig .tc _ _ _).view.LoadsAt r.toLoadRect}
    {kk : (r.shape.Idx → Elt F (sig.tyNear .tc cs i).elt) → Pg F α}
    {S : Finset (Idx ((c : Thread nD τ).loc ⟨cs, i, hκ⟩))} {q : PosShare TreeShare} {f : Buf (Elt F) ((c : Thread nD τ).loc ⟨cs, i, hκ⟩)}
    (hS : r.set ⊆ S) :
    (((c : Thread nD τ).loc ⟨cs, i, hκ⟩) ↦[S]{q} f)
      ⊢ iprop(((((c : Thread nD τ).loc ⟨cs, i, hκ⟩) ↦[S]{q} f)
          -∗ W c (kk (ld f r)) Q)
        -∗ W c (.op (.load (Memref.whole ⟨cs, i, hκ⟩) r.toLoadRect hl) kk) Q) :=
  wp_load_rect (defs := defs₀ (F := F)) 𝒱₀ (c : Thread nD τ) none Set.univ (Q := Q) (m := Memref.whole ⟨cs, i, hκ⟩) (r := r)
    (hl := hl) (k := kk) (S := S) (q := q) (f := f) (by
      have e := View.set_slice_whole (⟨cs, i, hκ⟩ : Ref sig .tc) r
      exact e.subset.trans hS)

/-- A store leaves the stored values. -/
theorem store_step {α : Type} {Q : α → sProp 𝕄} {cs : CoreSpace} {i : Fin (sig.nNear .tc cs)} {hκ : sig.names .tc cs i = true}
    (r : Rect (sig.tyNear .tc cs i).shape) (w : r.shape.Idx → Elt F (sig.tyNear .tc cs i).elt)
    {hx : ((Memref.whole ⟨cs, i, hκ⟩ : Memref sig .tc _ _ _).access r).Stores Finset.univ}
    {hm : Finset.univ = Finset.univ ∨ ∀ a, r.stride a = 1}
    {kk : PUnit → Pg F α}
    {S : Finset (Idx ((c : Thread nD τ).loc ⟨cs, i, hκ⟩))} {f : Buf (Elt F) ((c : Thread nD τ).loc ⟨cs, i, hκ⟩)}
    (g : Buf (Elt F) ((c : Thread nD τ).loc ⟨cs, i, hκ⟩))
    (hS : r.set = S) (hg : ∀ j, g (r.emb j) = w j) :
    (((c : Thread nD τ).loc ⟨cs, i, hκ⟩) ↦[S]{fullShare} f)
      ⊢ iprop(((((c : Thread nD τ).loc ⟨cs, i, hκ⟩) ↦[S]{fullShare} g)
          -∗ W c (kk ⟨⟩) Q)
        -∗ W c (.op (.store (Memref.whole ⟨cs, i, hκ⟩) r w Finset.univ hx hm) kk) Q) := by
  have e : ((((Memref.whole ⟨cs, i, hκ⟩ : Memref sig .tc _ _ _).access r).loc (c : Thread nD τ)) ↦[S]{fullShare}
      (((Memref.whole ⟨cs, i, hκ⟩ : Memref sig .tc _ _ _).access r).write (Elt F) f w Finset.univ) : sProp 𝕄)
      = (((c : Thread nD τ).loc ⟨cs, i, hκ⟩) ↦[S]{fullShare} g) :=
    pointsTo_congr fun x hx => by
      rw [← hS] at hx
      obtain ⟨j, -, rfl⟩ := Finset.mem_map.mp (by rw [Rect.map_emb_univ]; exact hx)
      refine (View.write_emb_of_mem (v := (Memref.whole ⟨cs, i, hκ⟩ : Memref sig .tc _ _ _).access r) f w (Finset.mem_univ j)).trans ?_
      exact (hg j).symm
  rw [← e]
  exact wp_store (defs := defs₀ (F := F)) 𝒱₀ (c : Thread nD τ) none Set.univ (Q := Q) (m := Memref.whole ⟨cs, i, hκ⟩) (r := r) (w := w)
    (Mk := Finset.univ) (hx := hx) (hm := hm) (k := kk) (S := S) (f := f)
    ((View.set_slice_whole (⟨cs, i, hκ⟩ : Ref sig .tc) r).trans hS).subset

end Mem

/-! ## What a copy leaves -/

/-- A copied element is the source's element. -/
theorem landed_at {κ κ' : Kind} {sp sp' : Space} {s t : Shape} {e : EltTy}
    (v : View sig κ sp s e) (v' : View sig κ' sp' s e) (off off' size : Fin s.rank → Nat) (inb inb')
    (h : t.numel = (Rect.unit (s := s) off size inb).shape.numel) (h' : t.numel = (Rect.unit (s := s) off' size inb').shape.numel)
    (fs : v.ty.Contents (Elt F)) (fd : v'.ty.Contents (Elt F)) (j : (Rect.unit (s := s) off size inb).shape.Idx) :
    v'.read (Elt F) (((v'.slice (Rect.unit (s := s) off' size inb')).reshape t h').write (Elt F) fd
        (((v.slice (Rect.unit (s := s) off size inb)).reshape t h).read (Elt F) fs) Finset.univ) ((Rect.unit (s := s) off' size inb').emb j)
      = v.read (Elt F) fs ((Rect.unit (s := s) off size inb).emb j) := by
  rw [View.write_reshape_univ, View.read_slice_write_emb (h := Finset.mem_univ _)]
  show v.read (Elt F) fs ((Rect.unit (s := s) off size inb).emb (Shape.reshapeEquiv h ((Shape.reshapeEquiv h').symm j))) = _
  congr 2
  exact (Shape.reshapeEquiv h').apply_symm_apply j

end Cert.KernelIdeal.Prf
-- ==== Proof.Launch.lean ====
module

public import proofs.«01_k».proof.Proof.Iface
public import proofs.«01_k».proof.Proof.Ghost
public import proofs.«01_k».proof.Proof.Steps
public import Idealize.ShloMosaic.Lib.Pipeline.Value

@[expose] public section

set_option maxRecDepth 65536

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows and the proof data -/

/-- What the region finds in the four operands. -/
def ins : Ins F where
  x c := V m c main_arg0
  wq c := V m c main_v16
  kv c := V m c main_v14
  wo c := V m c main_v17

/-- The activations' staged block is the array. -/
theorem iblk_x (c : Dev nD) (t : Fin cfg0.N) : (iblk m c 0 t : Vec F S2x256x512 .bf16) = (ins m).x c := by
  obtain rfl := fin_N0 t
  funext j
  show V m c main_arg0 _ = V m c main_arg0 _
  congr 1
  funext a
  apply Fin.ext
  exact Pipeline.Window.rect_emb_val_of_index_zero win0_0 t0_0 a (by revert a; decide) j
/-- So is the query weights'. -/
theorem iblk_wq (c : Dev nD) (t : Fin cfg0.N) : (iblk m c 1 t : Vec F S4x512x64 .bf16) = (ins m).wq c := by
  obtain rfl := fin_N0 t
  funext j
  show V m c main_v16 _ = V m c main_v16 _
  congr 1
  funext a
  apply Fin.ext
  exact Pipeline.Window.rect_emb_val_of_index_zero win0_1 t0_0 a (by revert a; decide) j
/-- So is the keys' and values'. -/
theorem iblk_kv (c : Dev nD) (t : Fin cfg0.N) : (iblk m c 2 t : Vec F S4x2x2x4x256x64 .i8) = (ins m).kv c := by
  obtain rfl := fin_N0 t
  funext j
  show V m c main_v14 _ = V m c main_v14 _
  congr 1
  funext a
  apply Fin.ext
  exact Pipeline.Window.rect_emb_val_of_index_zero win0_2 t0_0 a (by revert a; decide) j
/-- So is the output weights'. -/
theorem iblk_wo (c : Dev nD) (t : Fin cfg0.N) : (iblk m c 3 t : Vec F S4x64x512 .bf16) = (ins m).wo c := by
  obtain rfl := fin_N0 t
  funext j
  show V m c main_v17 _ = V m c main_v17 _
  congr 1
  funext a
  apply Fin.ext
  exact Pipeline.Window.rect_emb_val_of_index_zero win0_3 t0_0 a (by revert a; decide) j

/-- The cells of every device under one map of names, and what a device starts with. -/
def Xk (c : Dev nD) : sProp 𝕄 :=
  iprop(∃ K, allInv (ins m) K ∗ levAts L lv ∗ gin (F := F) c ∗ four' (fun k => atPos ER (rcvCell k c c) 0 ∅ 0))

/-- The buffers the region scopes. -/
abbrev rest (c : Dev nD) : sProp 𝕄 := Pipeline.scopedRest (Ix := Unit) (Name := ℕ) (U := UU) (Lvl := ℕ) (Val := Elt F) spec0 c

/-- The region's data on a device. -/
def dat (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => outR (ins m) c
    | ⟨_ + 5, h⟩ => absurd h (Nat.not_lt.2 (Nat.le_add_left _ _))
  Φ t := if t.val = 0 then iprop(Xk m c ∗ rest c ∗ ∃ r, prngReg c r)
    else iprop((semVal (barCell c) 0 ∗ Pipeline.ownSems0 osem c) ∗ rest c ∗ ∃ r, prngReg c r)
  q _ := fullShare
  owed t := if t.val = 0 then O₀ c else 0

/-- The region is admitted. -/
abbrev adm : (p : Fin 1) → (pcfgs (F := F) p).Adm := fun p => (cfgs p).toPCfg_adm
/-- The data by region. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The body finds the activations staged. -/
theorem before_x (c : Dev nD) (t : Fin cfg0.N) (d) : (dat m c).before 0 t d = iblk m c 0 t :=
  ((dat m c).before_in_eq_fetched 0 rfl (fun _ => rfl) (fun _ _ _ => rfl) (fun t => by rfl) t d).trans (by rfl)
/-- And the query weights. -/
theorem before_wq (c : Dev nD) (t : Fin cfg0.N) (d) : (dat m c).before 1 t d = iblk m c 1 t :=
  ((dat m c).before_in_eq_fetched 1 rfl (fun _ => rfl) (fun _ _ _ => rfl) (fun t => by rfl) t d).trans (by rfl)
/-- And the keys and values. -/
theorem before_kv (c : Dev nD) (t : Fin cfg0.N) (d) : (dat m c).before 2 t d = iblk m c 2 t :=
  ((dat m c).before_in_eq_fetched 2 rfl (fun _ => rfl) (fun _ _ _ => rfl) (fun t => by rfl) t d).trans (by rfl)
/-- And the output weights. -/
theorem before_wo (c : Dev nD) (t : Fin cfg0.N) (d) : (dat m c).before 3 t d = iblk m c 3 t :=
  ((dat m c).before_in_eq_fetched 3 rfl (fun _ => rfl) (fun _ _ _ => rfl) (fun t => by rfl) t d).trans (by rfl)

/-- What is owed at the start. -/
theorem owed_zero (c : Dev nD) : (dat (F := F) m c).owed 0 = O₀ c := by
  show (if ((0 : Fin (cfg0.N + 1)).val = 0) then O₀ c else 0) = O₀ c; exact if_pos rfl
/-- What is owed before the step. -/
theorem owed_first (c : Dev nD) : (dat (F := F) m c).owed t0_0.castSucc = O₀ c := by
  show (if (t0_0.castSucc : Fin (cfg0.N + 1)).val = 0 then O₀ c else 0) = O₀ c; exact if_pos rfl
/-- Nothing is owed at the end. -/
theorem owed_last (c : Dev nD) : (dat (F := F) m c).owed (Fin.last _) = 0 := by
  show (if (Fin.last cfg0.N).val = 0 then O₀ c else 0) = 0
  rw [Fin.val_last, if_neg (by rw [show cfg0.N = 1 from N_0]; decide)]

/-- A debt as the region's. -/
theorem owesAt_of (c : Dev nD) (t : Fin (cfg0.N + 1)) (O : CellTallies nD τ sig Unit) (h0 : (dat (F := F) m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
/-- The region's as a debt. -/
theorem of_owesAt (c : Dev nD) (t : Fin (cfg0.N + 1)) (O : CellTallies nD τ sig Unit) (h0 : (dat (F := F) m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## Entering and leaving the region -/

/-- What a device holds of the protocol at launch. -/
def Tk (c : Dev nD) : sProp 𝕄 :=
  iprop(∃ K, allInv (ins m) K ∗ atPos ER (barCell c) 0 ∅ 0 ∗ bigSep Finset.univ (fun n : Fin 28 => openTok ER ((c : Thread nD τ), osem n)) ∗ mine (F := F) c
    ∗ (reached ER (barCell (peer c 0)) 0 ∗ reached ER (barCell (peer c 1)) 0 ∗ reached ER (barCell (peer c 2)) 0)
    ∗ cred (tallyAt (barCell c) () 3) ∗ twelve (fun k o => cred (tallyAt (rcvCell k c (peer c o)) () (amt k))))
/-- The barrier left at zero. -/
def Yk (c : Dev nD) : sProp 𝕄 := semVal (barCell c) 0

/-- The kernel's state is opened. -/
theorem hopen (c : Dev nD) : iprop(Tk m c ∗ Pipeline.ownSems0 osem c ∗ levAts L lv) ⊢ (|={Set.univ}=> Xk m c : sProp 𝕄) := by
  unfold Tk Xk mine
  iintro ⟨⟨%K, #HI, HatB, Hop, ⟨Ht0, HtS, HtR⟩, HrB, HcB, HcR⟩, Hs, #Hlev⟩
  imod (open_all (ins m) K c) $$ [Hop Hs] with H
  · isplitr; · iexact HI
    rw [BI.bigSep_sep']
    isplitl [Hop]; · iexact Hop
    iapply (show (Pipeline.ownSems0 osem c : sProp 𝕄) ⊢ bigSep Finset.univ (fun n : Fin 28 => semVal ((c : Thread nD τ), osem n) 0) from Entails.of_eq rfl); iexact Hs
  imodintro
  ihave H' := (own_split c (fun g => iprop(atPos ER g 0 ∅ 0 ∗ reached ER g 0))) $$ H
  icases H' with ⟨HS, HR, HO⟩
  iexists K
  isplitr; · iexact HI
  isplitr; · iexact Hlev
  isplitr [HO]
  · unfold gin
    isplitl [Ht0]; · iexact Ht0
    isplitl [HrB]; · iexact HrB
    isplitl [HcB]; · iexact HcB
    isplitl [HatB]; · iexact HatB
    ihave HR' := (twelve_mono (fun k o => iprop(atPos ER (rcvCell k c (peer c o)) 0 ∅ 0 ∗ reached ER (rcvCell k c (peer c o)) 0))
      (fun k o => iprop(reached ER (rcvCell k c (peer c o)) 0 ∗ (atPos ER (rcvCell k c (peer c o)) 0 ∅ 0)))
      (fun k o => by iintro ⟨Ha, Hb⟩; isplitl [Hb] <;> iassumption)) $$ HR
    ihave HR2 := (twelve_unsep (fun k o => reached ER (rcvCell k c (peer c o)) 0) (fun k o => atPos ER (rcvCell k c (peer c o)) 0 ∅ 0)) $$ HR'
    icases HR2 with ⟨HRr, HRa⟩
    isplitl [HRr]; · iexact HRr
    isplitl [HS HtS HtR]
    · ihave Htt := (twelve_sep (fun k o => dutyTok ER (sndCell k c o) 0 0) (fun k o => dutyTok ER (rcvCell k (peer c o) c) 0 0)) $$ [HtS HtR]
      · isplitl [HtS] <;> iassumption
      ihave HA := (twelve_sep (fun k o => iprop(atPos ER (sndCell k c o) 0 ∅ 0 ∗ reached ER (sndCell k c o) 0)) _) $$ [HS Htt]
      · iframe
      iapply (twelve_mono _ _ (fun k o => (by
        unfold tx
        iintro ⟨⟨Ha, Hr⟩, Ht1, Ht2⟩
        isplitl [Ha]; · iexact Ha
        isplitl [Ht1]; · iexact Ht1
        isplitl [Hr]; · iexact Hr
        iexact Ht2 :
        iprop((atPos ER (sndCell k c o) 0 ∅ 0 ∗ reached ER (sndCell k c o) 0) ∗ (dutyTok ER (sndCell k c o) 0 0 ∗ dutyTok ER (rcvCell k (peer c o) c) 0 0)) ⊢ (tx (F := F) k c o : sProp 𝕄))))
      iexact HA
    · ihave HA := (twelve_sep (fun k o => atPos ER (rcvCell k c (peer c o)) 0 ∅ 0) (fun k o => cred (tallyAt (rcvCell k c (peer c o)) () (amt k)))) $$ [HRa HcR]
      · isplitl [HRa] <;> iassumption
      iexact HA
  · iapply (four'_mono (fun k => iprop(atPos ER (rcvCell k c c) 0 ∅ 0 ∗ reached ER (rcvCell k c c) 0)) (fun k => atPos ER (rcvCell k c c) 0 ∅ 0)
      (fun k => by iintro ⟨Ha, -⟩; iexact Ha))
    iexact HO

/-- Holding no buffers is nothing. -/
theorem held_none (c : Dev nD) (W : Valuation τ sig (Elt F)) : (StableHlo.held (c.tc : Thread nD τ) ∅ W : sProp 𝕄) = BI.emp := by
  unfold StableHlo.held; exact BI.bigSep_empty

/-- What the region is entered with. -/
theorem hin (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ Xk m c)
      ⊢ (pdats m 0 c).Φ 0 := by
  rw [show (pdats m 0 c).Φ 0 = iprop(Xk m c ∗ rest c ∗ ∃ r, prngReg c r) from rfl]
  iintro ⟨Hs, Hp, -, HX⟩
  iframe

/-- What the region is left with. -/
theorem hout (c : Dev nD) (W : Valuation τ sig (Elt F)) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W ∗ Pipeline.ownSems0 osem c ∗ Yk c) := by
  rw [show (pdats m 0 c).Φ (Fin.last _) = iprop((semVal (barCell c) 0 ∗ Pipeline.ownSems0 osem c) ∗ rest c ∗ ∃ r, prngReg c r) from rfl, held_none]
  unfold Yk
  iintro ⟨⟨Hb, Ho⟩, Hs, Hp⟩
  isplitl [Hs]; · iexact Hs
  isplitl [Hp]; · iexact Hp
  isplitr; · iempintro
  iframe

/-- All that is owed is above level 0. -/
theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨p, hp, rfl⟩ := owedL_pos h
    obtain ⟨h1, h2⟩ := above_all c (by decide : 0 < 1) p hp
    exact ⟨by unfold L; rw [if_pos h1]; exact Finset.mem_singleton_self _, h2⟩
  · exact absurd h (Nat.lt_irrefl 0)

/-! ## The memory along @main -/

/-- The buffers at the start. -/
def w0 (c : Dev nD) : Valuation τ sig (Elt F) := fun b => m (c, b)
/-- After one host piece. -/
def w1 (c : Dev nD) : Valuation τ sig (Elt F) := StableHlo.after hostOps0 (w0 m c)
/-- After two. -/
def w2 (c : Dev nD) : Valuation τ sig (Elt F) := StableHlo.after hostOps0_1 (w1 m c)
/-- After three. -/
def w3 (c : Dev nD) : Valuation τ sig (Elt F) := StableHlo.after hostOps0_2 (w2 m c)
/-- After four. -/
def w4 (c : Dev nD) : Valuation τ sig (Elt F) := StableHlo.after hostOps0_3 (w3 m c)
/-- Before the region. -/
def w5 (c : Dev nD) : Valuation τ sig (Elt F) := StableHlo.after hostOps0_4 (w4 m c)
/-- The result array after the region. -/
def res (c : Dev nD) : Buf (Elt F) ((c : Thread nD τ).loc main_v18) := (dat m c).arrAt 4 cfg0.N
/-- After it. -/
def w6 (c : Dev nD) : Valuation τ sig (Elt F) := Function.update (w5 m c) (Proc.devRef .tc main_v18) (res m c)

/-- Before the region a buffer holds the host's value. -/
theorem w5_eq (c : Dev nD) (b : Ref sig .tc) : w5 m c (Proc.devRef .tc b) = V m c b := by
  unfold w5 w4 w3 w2 w1
  simp only [← StableHlo.after_append]
  rfl
/-- The region changes only the result. -/
theorem w6_ne (c : Dev nD) {b : DevRef τ sig} (h : b ≠ Proc.devRef .tc main_v18) : w6 m c b = w5 m c b := by
  unfold w6; exact Function.update_of_ne h _ _
/-- The result after the region. -/
theorem w6_res (c : Dev nD) : w6 m c (Proc.devRef .tc main_v18) = res m c := by
  unfold w6; exact Function.update_self _ _ _

/-- The region's arrays. -/
abbrev arrs : Finset (DevRef τ sig) := Pipeline.arrRefs (τ := τ) spec0
/-- The other buffers. -/
abbrev others : Finset (DevRef τ sig) := Pipeline.ucRefs τ sig \ arrs
/-- The arrays are unscoped. -/
theorem arrs_sub : arrs ⊆ Pipeline.ucRefs τ sig := Pipeline.arrRefs_sub_ucRefs spec0 (by decide)

/-- The arrays before the region. -/
theorem hW (c : Dev nD) (w : Fin cfg0.W) : (dat m c).arrAt w 0 = w5 m c (Proc.devRef .tc (Pipeline.arrRef spec0 w)) :=
  ((w5_eq m c _).symm ▸ rfl)

/-- The arrays after the region. -/
theorem hW' (c : Dev nD) : ∀ w : Fin cfg0.W, (dat m c).arrAt w cfg0.N = w6 m c (Proc.devRef .tc (Pipeline.arrRef spec0 w))
  | 0 => ((dat m c).arrAt_in 0 rfl _).trans ((w5_eq m c main_arg0).symm.trans (w6_ne m c (b := Proc.devRef .tc main_arg0) (by decide)).symm)
  | 1 => ((dat m c).arrAt_in 1 rfl _).trans ((w5_eq m c main_v16).symm.trans (w6_ne m c (b := Proc.devRef .tc main_v16) (by decide)).symm)
  | 2 => ((dat m c).arrAt_in 2 rfl _).trans ((w5_eq m c main_v14).symm.trans (w6_ne m c (b := Proc.devRef .tc main_v14) (by decide)).symm)
  | 3 => ((dat m c).arrAt_in 3 rfl _).trans ((w5_eq m c main_v17).symm.trans (w6_ne m c (b := Proc.devRef .tc main_v17) (by decide)).symm)
  | 4 => (w6_res m c).symm
  | ⟨_ + 5, h⟩ => absurd h (Nat.not_lt.2 (Nat.le_add_left _ _))

/-- The other buffers keep their values. -/
theorem hrest (c : Dev nD) : ∀ b ∈ others \ (∅ : Finset (DevRef τ sig)), w6 m c b = w5 m c b := fun b hb => by
  refine w6_ne m c fun h => ?_
  have h' := (Finset.mem_sdiff.mp (Finset.mem_sdiff.mp hb).1).2
  refine h' (h ▸ ?_)
  exact Finset.mem_map.mpr ⟨main_v18, Finset.mem_image.mpr ⟨4, Finset.mem_univ _, rfl⟩, rfl⟩

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the region. -/
def R (c : Dev nD) : sProp 𝕄 := iprop((∃ r, prngReg c r) ∗ Tk m c ∗ ∃ W, owes (c : Thread nD τ) (O₀ c) W)

/-- A host piece as a segment. -/
def hostSeg (ops : List (HloOp τ sig (Elt F))) (hs : ops.Forall fun op => op.bufs ⊆ StableHlo.tcRefs τ sig) (hf : ops.Forall fun op => op.fresh = ∅)
    (w : Dev nD → Valuation τ sig (Elt F)) : ℍ :=
  Pipeline.HostSeg.ofOps _ _ _ _ _ (Pipeline.ucRefs τ sig) ops (fun op h => Pipeline.sub_ucRefs op (List.forall_iff_forall_mem.mp hs op h))
    (fun op h => List.forall_iff_forall_mem.mp hf op h) w (R m)

/-- Arrays are held whole. -/
theorem share_full (c : Dev nD) (w : Fin cfg0.W) : (dat m c).share w = fullShare := by
  unfold Dat.share; split <;> rfl
/-- Staging is at level 0. -/
theorem stage_lv : ∀ (c : Dev nD) (w : Fin cfg0.W) (s : Fin (cfg0.win w).nbuf), lv ((c : Thread nD τ), .dma ((cfg0.win w).sem s)) () ≤ 0 := by decide

variable (hbody : ∀ c, BodyObligation (dat (F := F) m c) defs₀ 𝒱₀ () Set.univ)

set_option backward.isDefEq.respectTransparency.types false in
/-- The region as a segment. -/
def reg : ℝ𝕊 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (hbody c).loose)
    (fun _ => 0) O₀ (fun c => (owed_zero m c).trans (zero_add _).symm) (owed_last m) (fun _ => rfl) (fun c w => share_full m c w)
    (w5 m) (w6 m) (hrest m)
    (Tk m) Yk (Xk m) Yk (hopen m) (fun c => hin m c _) (fun c => hout m c _)
    (fun c => by iintro H; imodintro; iexact H)
    (fun _ => 0)
    ⟨fun c w s => by rw [L_tc]; exact Finset.mem_singleton_self _, stage_lv, fun c t g i h => cutD m c t g i h⟩
    (fun _ => iprop(emp))
    (hW m) (hW' m)

/-- The program's segments. -/
def segs : List (Pipeline.Seg (pcfgs (F := F)) adm (pdats m) () defs₀ 𝒱₀ L lv) :=
  [.host (hostSeg m hostOps0 hostOps0_sub hostOps0_fresh (w0 m)), .host (hostSeg m hostOps0_1 hostOps0_1_sub hostOps0_1_fresh (w1 m)),
   .host (hostSeg m hostOps0_2 hostOps0_2_sub hostOps0_2_fresh (w2 m)), .host (hostSeg m hostOps0_3 hostOps0_3_sub hostOps0_3_fresh (w3 m)),
   .host (hostSeg m hostOps0_4 hostOps0_4_sub hostOps0_4_fresh (w4 m)), .region (reg m hbody)]

/-- The program runs its segments. -/
theorem main_eq (c : Dev nD) : main (F := F) c = Pipeline.Seg.run (segs m hbody) := by
  rw [Pipeline.Seg.run_eq_chain, main_chain]
  rfl

/-- The region's needs are met. -/
theorem reg_pre (c : Dev nD) : iprop(StableHlo.held (c : Thread nD τ) (Pipeline.ucRefs τ sig) (w5 m c) ∗ R m c) ⊢ (reg m hbody).pre c := by
  show _ ⊢ iprop(StableHlo.held (c.tc : Thread nD τ) arrs (w5 m c) ∗ (∃ r, prngReg c r)
    ∗ (StableHlo.held (c.tc : Thread nD τ) others (w5 m c) ∗ emp) ∗ Tk m c ∗ ∃ Wd, owes (c : Thread nD τ) (0 + O₀ c) Wd)
  rw [StableHlo.held_sub_split (c.tc : Thread nD τ) arrs_sub, zero_add]
  unfold R
  iintro ⟨⟨Ha, Ho⟩, Hp, HT, HO⟩
  isplitl [Ha]; · iexact Ha
  isplitl [Hp]; · iexact Hp
  isplitl [Ho]
  · isplitl [Ho]; · iexact Ho
    iempintro
  iframe

/-- What the region gives. -/
theorem reg_post (c : Dev nD) : (reg m hbody).post c
    ⊢ iprop((StableHlo.held (c : Thread nD τ) (Pipeline.ucRefs τ sig) (w6 m c) ∗ semVal (barCell c) 0) ∗ ∃ W, owes (c : Thread nD τ) (0 : CellTallies nD τ sig Unit) W) := by
  show iprop(StableHlo.held (c.tc : Thread nD τ) arrs (w6 m c) ∗ (∃ r, prngReg c r)
    ∗ (StableHlo.held (c.tc : Thread nD τ) others (w6 m c) ∗ emp) ∗ Yk c ∗ ∃ Wd, owes (c : Thread nD τ) (0 : CellTallies nD τ sig Unit) Wd) ⊢ _
  rw [StableHlo.held_sub_split (c.tc : Thread nD τ) arrs_sub]
  unfold Yk
  iintro ⟨Ha, -, ⟨Ho, -⟩, Hb, HO⟩
  isplitr [HO]
  · isplitl [Ha Ho]
    · iframe
    iexact Hb
  iexact HO

/-! ## The launch -/

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells ownCells toks)

/-- A resource held by one device. -/
def only (c₀ : Dev nD) (X : sProp 𝕄) (c : Dev nD) : sProp 𝕄 := if c = c₀ then X else iprop(emp)
/-- Held by one device is held. -/
theorem bigSep_only (c₀ : Dev nD) (X : sProp 𝕄) : bigSep Finset.univ (only c₀ X) = X := by
  rw [bigSep_univ_at _ c₀, bigSep_congr (s := Finset.univ.erase c₀) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

/-- The rounds' state, with device 0. -/
def G : Dev nD → sProp 𝕄 := only 0 (BI.own (ER (launchOf barCells ownCells toks)))

/-- Barriers are no kernel semaphores. -/
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact (by decide : ∀ n : Fin 28, osem n ≠ .reg barS) ck.2 (congrArg Prod.snd h)

/-- The one unscoped semaphore is the barrier. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- Two families paired. -/
theorem each_both {Φ Ψ : Dev nD → sProp 𝕄} :
    iprop(bigSep Finset.univ Φ ∗ bigSep Finset.univ Ψ) ⊢ bigSep Finset.univ (fun c => iprop(Φ c ∗ Ψ c)) :=
  Entails.of_eq (bigSep_sep _ _ _).symm
/-- Pairs as two families. -/
theorem both_each {Φ Ψ : Dev nD → sProp 𝕄} :
    bigSep Finset.univ (fun c => iprop(Φ c ∗ Ψ c)) ⊢ iprop(bigSep Finset.univ Φ ∗ bigSep Finset.univ Ψ) :=
  Entails.of_eq (bigSep_sep _ _ _)

/-- The records every device may consult. -/
def records (K : GSem nD τ sig → ℕ) : sProp 𝕄 := iprop(allInv (ins m) K ∗ bigSep barCells fun g => reached ER g 0)
/-- The records can be copied. -/
instance records_persistent (K : GSem nD τ sig → ℕ) : BI.Persistent (records m K) := by unfold records; infer_instance
/-- A barrier is at its first round. -/
theorem reached_at (c : Dev nD) : (bigSep barCells fun g => (reached ER g 0 : sProp 𝕄)) ⊢ reached ER (barCell c) 0 :=
  BI.bigSep_elim (Φ := fun g => (reached ER g 0 : sProp 𝕄)) (Finset.mem_map.mpr ⟨c, Finset.mem_univ _, rfl⟩)

/-- What stays with a device. -/
def linear (c : Dev nD) : sProp 𝕄 :=
  iprop(atPos ER (barCell c) 0 ∅ 0 ∗ bigSep Finset.univ (fun n : Fin 28 => openTok ER ((c : Thread nD τ), osem n)) ∗ mine (F := F) c)
/-- The rest of what it is launched with. -/
def bundle (c : Dev nD) : sProp 𝕄 :=
  iprop(StableHlo.held (c : Thread nD τ) (Pipeline.ucRefs τ sig) (w0 m c) ∗ (cred (tallyAt (barCell c) () 3) ∗ twelve (fun k o => cred (tallyAt (rcvCell k c (peer c o)) () (amt k))))
    ∗ owes (c : Thread nD τ) (O₀ c) ∅ ∗ ∃ r, prngReg c r)
/-- A device at the start. -/
abbrev T₀ (c : Dev nD) : sProp 𝕄 := iprop(StableHlo.held (c : Thread nD τ) (Pipeline.ucRefs τ sig) (w0 m c) ∗ R m c)
/-- A device at the end. -/
abbrev Tₙ (c : Dev nD) : sProp 𝕄 := iprop(StableHlo.held (c : Thread nD τ) (Pipeline.ucRefs τ sig) (w6 m c) ∗ semVal (barCell c) 0)

/-- A device's start from its parts. -/
theorem T₀_intro (K : GSem nD τ sig → ℕ) (c : Dev nD) : iprop(records m K ∗ (linear (F := F) c ∗ bundle m c)) ⊢ T₀ m c := by
  unfold bundle T₀ R Tk linear records
  iintro ⟨⟨#HI, #HR⟩, ⟨Hat, Hop, Hm⟩, Hh, ⟨H1, HN⟩, HO, Hp⟩
  isplitl [Hh]; · iexact Hh
  isplitl [Hp]; · iexact Hp
  isplitr [HO]
  · iexists K
    isplitr; · iexact HI
    isplitl [Hat]; · iexact Hat
    isplitl [Hop]; · iexact Hop
    isplitl [Hm]; · iexact Hm
    isplitr
    · isplitr; · iapply (reached_at (F := F) (peer c 0)); iexact HR
      isplitr; · iapply (reached_at (F := F) (peer c 1)); iexact HR
      iapply (reached_at (F := F) (peer c 2)); iexact HR
    iframe
  · iexists ∅; iexact HO

/-- The launch gives every device its start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (w0 m c) from Pipeline.unscopedBufs_held c (w0 m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ (fun n : Fin 28 => openTok ER ((c : Thread nD τ), osem n))) :=
    Entails.of_eq (by unfold ownCells; rw [bigSep_map, BI.bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from BI.bigSep_mono fun c _ => hcore c) $$ H
  ihave H2 := (both_each (F := F)) $$ H'; icases H2 with ⟨HB, H3⟩
  ihave H4 := (both_each (F := F)) $$ H3; icases H4 with ⟨Hv, HG⟩
  ihave Hu := (show bigSep Finset.univ (G (F := F)) ⊢ BI.own (ER (launchOf barCells ownCells toks)) from
    Entails.of_eq (bigSep_only (F := F) 0 (BI.own (ER (launchOf barCells ownCells toks))))) $$ HG
  imod (Rounds.fund_launch ER (Rd (ins m)) cells_disjoint (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear (F := F) c ∗ bundle m c)) fun c _ => T₀_intro m K c)
  isplitr
  · unfold records allInv allCells
    iframe #
  iapply (each_both (F := F))
  isplitr [HB]
  · unfold linear
    iapply (each_both (F := F)); isplitl [Hat]; · iapply hat $$ Hat
    iapply (each_both (F := F)); isplitl [Hopen]; · iapply hop $$ Hopen
    iapply (toks_deal (F := F)) $$ Htok
  · iexact HB

/-! ## The run -/

/-- The arrays the claims speak of. -/
def named : List (DevRef τ sig) :=
  [Proc.devRef .tc main_arg0, Proc.devRef .tc main_arg1, Proc.devRef .tc main_arg2, Proc.devRef .tc main_arg3, Proc.devRef .tc main_arg4, Proc.devRef .tc main_v18]
/-- The named buffers are unscoped. -/
theorem named_sub : named.toFinset ⊆ Pipeline.ucRefs τ sig := by decide

/-- Holding the named buffers, one by one. -/
theorem held_named (c : Dev nD) (W : Valuation τ sig (Elt F)) : (StableHlo.held (c : Thread nD τ) named.toFinset W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v18) ↦{fullShare} W (Proc.devRef .tc main_v18))) := by
  unfold StableHlo.held
  rw [bigSep_eq_bigSepL_of_eq named rfl (by decide)]
  rfl

/-- Only the barrier is unscoped. -/
theorem unscoped_eq : ∀ sm : SemLoc sig, sm.isScoped .tc = false → sm = .reg barS := by decide

/-- What a run leaves on a device. -/
def Post (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v18) = res m c

set_option backward.isDefEq.respectTransparency.types false in
include hbody in
/-- Every run ends, as `Post` says, semaphores at zero. -/
theorem run_main : θ_run defs (onTc (τ := τ) (main (F := F))) (⟨m, fun _ => 0, ρ⟩ : MemSt nD τ sig (Elt F))
    (fun r => (∀ c : Dev nD, Post m c r.2) ∧ r.2.sem = fun _ => 0) :=
  Pipeline.θ_run_regions_kit_sems (pcfgs (F := F)) adm (pdats m) () cellOf_inj EP defs₀ 𝒱₀ L lv m ρ main (segs m hbody)
    (fun c Q => by rw [main_eq m hbody c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_only]; iexact HX)
    (T₀ := T₀ m) (Tₙ := Tₙ m)
    (hch := ⟨fun c => .rfl, fun c => .rfl, fun c => .rfl, fun c => .rfl, fun c => .rfl, fun c => reg_pre m hbody c, fun c => reg_post m hbody c⟩)
    (hinit := init m ρ)
    (QY := fun c s => Post m c s ∧ s.sem (barCell c) = 0)
    (hfin := fun c s' => by
      dsimp only [Tₙ]; rw [StableHlo.held_sub_split (c.tc : Thread nD τ) named_sub, held_named]
      iintro ⟨⟨⟨⟨H0, H1, H2, H3, H4, H5⟩, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        refine ⟨⟨⟨(Buf.eq_of_forall_mem_univ h0).trans ?_, (Buf.eq_of_forall_mem_univ h1).trans ?_, (Buf.eq_of_forall_mem_univ h2).trans ?_,
          (Buf.eq_of_forall_mem_univ h3).trans ?_, (Buf.eq_of_forall_mem_univ h4).trans ?_⟩, (Buf.eq_of_forall_mem_univ h5).trans (w6_res m c)⟩, by simpa using hb⟩
        · exact (w6_ne m c (by decide)).trans ((w5_eq m c main_arg0).trans (V_main_arg0 m c))
        · exact (w6_ne m c (by decide)).trans ((w5_eq m c main_arg1).trans (V_main_arg1 m c))
        · exact (w6_ne m c (by decide)).trans ((w5_eq m c main_arg2).trans (V_main_arg2 m c))
        · exact (w6_ne m c (by decide)).trans ((w5_eq m c main_arg3).trans (V_main_arg3 m c))
        · exact (w6_ne m c (by decide)).trans ((w5_eq m c main_arg4).trans (V_main_arg4 m c))
      iexact HSI)
    (hQ := fun s h hs => ⟨fun c => (h c).1,
      sem_eq_zero hs fun c sm hsm => by
        obtain rfl := unscoped_eq sm hsm
        exact (h c).2⟩)

/-- The array the result is written to is the window's one block. -/
theorem res_eq (c : Dev nD) : (res m c : Vec F S2x256x512 .f32) = outR (ins m) c := by
  have h : (win0_4.blk t0_0).view.read (Elt F) (res m c) = outR (ins m) c := by
    unfold res
    rw [show cfg0.N = (t0_0 : Fin cfg0.N).val + 1 from N_0, (dat m c).arrAt_succ (4 : Fin 5) t0_0]
    rw [show (cfg0.win (4 : Fin 5)).flush t0_0 = true from by decide, if_pos rfl]
    exact View.read_write_univ _ _
  rw [← h]
  funext j
  show res m c j = res m c _
  congr 1
  symm
  funext a
  apply Fin.ext
  exact Pipeline.Window.rect_emb_val_of_index_zero win0_4 t0_0 a (by revert a; decide) j

end Cert.KernelIdeal.Prf
-- ==== Proof.Sends.lean ====
module

public import proofs.«01_k».proof.Proof.Steps

@[expose] public section

set_option maxRecDepth 16384

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Rectangles and parts -/

/-- A device's block as a unit rectangle. -/
theorem unit5 (j : Dev nD) {off : Fin 6 → ℕ} (h : off = ![j.val, 0, 0, 0, 0, 0])
    (inb : ∀ a, off a + S1x2x2x4x256x64.size a ≤ S4x2x2x4x256x64.size a) :
    (Rect.unit (s := S4x2x2x4x256x64) off S1x2x2x4x256x64.size inb).set = s5 j := by
  subst h
  ext i
  rw [Rect.mem_set_unit, s5, Finset.mem_filter]
  constructor
  · intro H
    have h0 := H 0
    have h1 : j.val ≤ (i 0).val ∧ (i 0).val < j.val + 1 := h0
    exact ⟨Finset.mem_univ _, by omega⟩
  · rintro ⟨-, h⟩ a
    have hb := (i a).isLt
    fin_cases a
    · show j.val ≤ (i 0).val ∧ (i 0).val < j.val + 1; omega
    all_goals exact ⟨Nat.zero_le _, by simpa using hb⟩

/-- A load inside a device's block. -/
theorem sub5 (j : Dev nD) {off size : Fin 6 → ℕ} (h : off 0 = j.val) (hs : size 0 = 1)
    (inb : ∀ a, off a + size a ≤ S4x2x2x4x256x64.size a) :
    (Rect.unit (s := S4x2x2x4x256x64) off size inb).set ⊆ s5 j := by
  intro i hi
  rw [Rect.mem_set_unit] at hi
  rw [s5, Finset.mem_filter]
  have h0 := hi 0
  rw [h, hs] at h0
  exact ⟨Finset.mem_univ _, by omega⟩

/-- A row block of a batch as a unit rectangle. -/
theorem unit7 (j : Dev nD) (b : Fin 2) {off : Fin 4 → ℕ} (h : off = ![j.val, b.val, 0, 0])
    (inb : ∀ a, off a + S1x1x64x512.size a ≤ S4x2x64x512.size a) :
    (Rect.unit (s := S4x2x64x512) off S1x1x64x512.size inb).set = s7 j b := by
  subst h
  ext i
  rw [Rect.mem_set_unit, s7, Finset.mem_filter]
  constructor
  · intro H
    have h1 : j.val ≤ (i 0).val ∧ (i 0).val < j.val + 1 := H 0
    have h2 : b.val ≤ (i 1).val ∧ (i 1).val < b.val + 1 := H 1
    exact ⟨Finset.mem_univ _, by omega, by omega⟩
  · rintro ⟨-, h, h'⟩ a
    have hb := (i a).isLt
    fin_cases a
    · show j.val ≤ (i 0).val ∧ (i 0).val < j.val + 1; omega
    · show b.val ≤ (i 1).val ∧ (i 1).val < b.val + 1; omega
    all_goals exact ⟨Nat.zero_le _, by simpa using hb⟩

/-- A row block as a unit rectangle. -/
theorem unit4 (j : Dev nD) {off : Fin 4 → ℕ} (h : off = ![j.val, 0, 0, 0])
    (inb : ∀ a, off a + S1x2x64x512.size a ≤ S4x2x64x512.size a) :
    (Rect.unit (s := S4x2x64x512) off S1x2x64x512.size inb).set = s4 j := by
  subst h
  ext i
  rw [Rect.mem_set_unit, s4, Finset.mem_filter]
  constructor
  · intro H
    have h1 : j.val ≤ (i 0).val ∧ (i 0).val < j.val + 1 := H 0
    exact ⟨Finset.mem_univ _, by omega⟩
  · rintro ⟨-, h⟩ a
    have hb := (i a).isLt
    fin_cases a
    · show j.val ≤ (i 0).val ∧ (i 0).val < j.val + 1; omega
    all_goals exact ⟨Nat.zero_le _, by simpa using hb⟩

/-- The result's row block as a unit rectangle. -/
theorem unitO (j : Dev nD) {off : Fin 3 → ℕ} (h : off = ![0, 64 * j.val, 0])
    (inb : ∀ a, off a + S2x64x512.size a ≤ S2x256x512.size a) :
    (Rect.unit (s := S2x256x512) off S2x64x512.size inb).set = sO j := by
  subst h
  ext i
  rw [Rect.mem_set_unit, sO, Finset.mem_filter]
  constructor
  · intro H
    have h1 : 64 * j.val ≤ (i 1).val ∧ (i 1).val < 64 * j.val + 64 := H 1
    exact ⟨Finset.mem_univ _, by omega⟩
  · rintro ⟨-, h⟩ a
    have hb := (i a).isLt
    fin_cases a
    · exact ⟨Nat.zero_le _, by simpa using hb⟩
    · show 64 * j.val ≤ (i 1).val ∧ (i 1).val < 64 * j.val + 64; omega
    · exact ⟨Nat.zero_le _, by simpa using hb⟩

/-- A row block is its two batches. -/
theorem s4_join (j : Dev nD) : s7 j 0 ∪ s7 j 1 = s4 j := by
  ext i
  have h1 : (i 1).val < 2 := (i 1).isLt
  simp only [s7, s4, Finset.mem_union, Finset.mem_filter, Finset.mem_univ, true_and]
  constructor
  · rintro (⟨h, -⟩ | ⟨h, -⟩) <;> exact h
  · intro h
    rcases (show (i 1).val = 0 ∨ (i 1).val = 1 by omega) with h0 | h0
    · exact .inl ⟨h, h0⟩
    · exact .inr ⟨h, h0⟩
/-- The batches are disjoint. -/
theorem s7_disj (j : Dev nD) : Disjoint (s7 j 0) (s7 j 1) := by
  rw [Finset.disjoint_left]
  intro i h h'
  rw [s7, Finset.mem_filter] at h h'
  have a : (i 1).val = 0 := h.2.2
  have b : (i 1).val = 1 := h'.2.2
  omega

/-! ## The four sends -/

section Sends
variable (I : Ins F) (K : GSem nD τ sig → ℕ) (c : Dev nD)

/-- A squeezed slot of the buffer to send from. -/
abbrev srcKv (off : Fin 6 → ℕ) (inb : ∀ a, off a + S1x2x2x4x256x64.size a ≤ S4x2x2x4x256x64.size a) : Memref sig .tc .vmem S2x2x4x256x64 .i8 :=
  ((Memref.whole cc0_stg2_0).slice (Rect.unit (s := S4x2x2x4x256x64) off S1x2x2x4x256x64.size inb) (fun _ => rfl)).squeeze
    S2x2x4x256x64 squeezes_S1x2x2x4x256x64_S2x2x4x256x64
/-- A block of the gathered keys and values. -/
abbrev dstKv (off : Fin 6 → ℕ) (inb : ∀ a, off a + S1x2x2x4x256x64.size a ≤ S4x2x2x4x256x64.size a) : Memref sig .tc .vmem S2x2x4x256x64 .i8 :=
  ((Memref.whole cc0_scratch0).slice (Rect.unit (s := S4x2x2x4x256x64) off S1x2x2x4x256x64.size inb) (fun _ => rfl)).squeeze
    S2x2x4x256x64 squeezes_S1x2x2x4x256x64_S2x2x4x256x64
/-- A block of the partial rows. -/
abbrev srcRs (off : Fin 4 → ℕ) (inb : ∀ a, off a + S1x1x64x512.size a ≤ S4x2x64x512.size a) : Memref sig .tc .vmem S64x512 .bf16 :=
  ((Memref.whole cc0_scratch1).slice (Rect.unit (s := S4x2x64x512) off S1x1x64x512.size inb) (fun _ => rfl)).squeeze
    S64x512 squeezes_S1x1x64x512_S64x512
/-- A block of the received rows. -/
abbrev dstRs (off : Fin 4 → ℕ) (inb : ∀ a, off a + S1x1x64x512.size a ≤ S4x2x64x512.size a) : Memref sig .tc .vmem S64x512 .bf16 :=
  ((Memref.whole cc0_scratch2).slice (Rect.unit (s := S4x2x64x512) off S1x1x64x512.size inb) (fun _ => rfl)).squeeze
    S64x512 squeezes_S1x1x64x512_S64x512
/-- A block of the gathered rows. -/
abbrev agM (off : Fin 4 → ℕ) (inb : ∀ a, off a + S1x2x64x512.size a ≤ S4x2x64x512.size a) : Memref sig .tc .vmem S2x64x512 .bf16 :=
  ((Memref.whole cc0_scratch3).slice (Rect.unit (s := S4x2x64x512) off S1x2x64x512.size inb) (fun _ => rfl)).squeeze
    S2x64x512 squeezes_S1x2x64x512_S2x64x512

/-- The source block's elements. -/
theorem srcKv_set (j : Dev nD) {off} (h : off = ![j.val, 0, 0, 0, 0, 0]) (inb) : (srcKv off inb).view.set = s5 j := by
  show (((View.whole cc0_stg2_0).slice (Rect.unit (s := S4x2x2x4x256x64) off S1x2x2x4x256x64.size inb)).reshape _ _).set = _
  rw [View.set_reshape, View.set_slice_whole]; exact unit5 j h inb
/-- The target block's elements. -/
theorem dstKv_set (j : Dev nD) {off} (h : off = ![j.val, 0, 0, 0, 0, 0]) (inb) : (dstKv off inb).view.set = s5 j := by
  show (((View.whole cc0_scratch0).slice (Rect.unit (s := S4x2x2x4x256x64) off S1x2x2x4x256x64.size inb)).reshape _ _).set = _
  rw [View.set_reshape, View.set_slice_whole]; exact unit5 j h inb
/-- The partial rows' elements. -/
theorem srcRs_set (j : Dev nD) (b : Fin 2) {off} (h : off = ![j.val, b.val, 0, 0]) (inb) : (srcRs off inb).view.set = s7 j b := by
  show (((View.whole cc0_scratch1).slice (Rect.unit (s := S4x2x64x512) off S1x1x64x512.size inb)).reshape _ _).set = _
  rw [View.set_reshape, View.set_slice_whole]; exact unit7 j b h inb
/-- The received rows' elements. -/
theorem dstRs_set (j : Dev nD) (b : Fin 2) {off} (h : off = ![j.val, b.val, 0, 0]) (inb) : (dstRs off inb).view.set = s7 j b := by
  show (((View.whole cc0_scratch2).slice (Rect.unit (s := S4x2x64x512) off S1x1x64x512.size inb)).reshape _ _).set = _
  rw [View.set_reshape, View.set_slice_whole]; exact unit7 j b h inb
/-- The gathered rows' elements. -/
theorem agM_set (j : Dev nD) {off} (h : off = ![j.val, 0, 0, 0]) (inb) : (agM off inb).view.set = s4 j := by
  show (((View.whole cc0_scratch3).slice (Rect.unit (s := S4x2x64x512) off S1x2x64x512.size inb)).reshape _ _).set = _
  rw [View.set_reshape, View.set_slice_whole]; exact unit4 j h inb

/-- Sent keys and values land as gathered. -/
theorem kv_landed (o : Fin 3) {off off' : Fin 6 → ℕ} (h : off = ![(peer c o).val, 0, 0, 0, 0, 0]) (h' : off' = ![c.val, 0, 0, 0, 0, 0]) (inb inb')
    (fd : Vec F S4x2x2x4x256x64 .i8) : ∀ x ∈ s5 c,
    (dstKv off' inb').view.write (Elt F) fd ((srcKv off inb).view.read (Elt F) (I.kv c)) Finset.univ x = kvR I (peer c o) x := by
  intro x hx
  rw [← unit5 c h' inb'] at hx
  obtain ⟨j, -, rfl⟩ := Finset.mem_map.mp (by rw [Rect.map_emb_univ]; exact hx)
  refine (landed_at (View.whole cc0_stg2_0) (View.whole cc0_scratch0) off off' S1x2x2x4x256x64.size inb inb' _ _ (I.kv c) fd j).trans ?_
  subst h h'
  have e0 : (((Rect.unit (s := S4x2x2x4x256x64) ![c.val, 0, 0, 0, 0, 0] S1x2x2x4x256x64.size inb').emb j) 0 : Fin 4) = c := by
    apply Fin.ext
    have : (j 0).val < 1 := (j 0).isLt
    show c.val + 1 * (j 0).val = c.val
    omega
  show I.kv c _ = I.kv (((Rect.unit (s := S4x2x2x4x256x64) ![c.val, 0, 0, 0, 0, 0] S1x2x2x4x256x64.size inb').emb j) 0) _
  rw [e0]
  congr 1
  funext a
  have : (j 0).val < 1 := (j 0).isLt
  fin_cases a
  · apply Fin.ext; show (peer c o).val + 1 * (j 0).val = (peer c o).val; omega
  all_goals rfl

/-- Sent partial rows land as received. -/
theorem rs_landed (o : Fin 3) (b : Fin 2) {off off' : Fin 4 → ℕ} (h : off = ![(peer c o).val, b.val, 0, 0]) (h' : off' = ![c.val, b.val, 0, 0]) (inb inb')
    (fd : Vec F S4x2x64x512 .bf16) : ∀ x ∈ s7 c b,
    (dstRs off' inb').view.write (Elt F) fd ((srcRs off inb).view.read (Elt F) (pqR I c)) Finset.univ x = rsR I (peer c o) x := by
  intro x hx
  rw [← unit7 c b h' inb'] at hx
  obtain ⟨j, -, rfl⟩ := Finset.mem_map.mp (by rw [Rect.map_emb_univ]; exact hx)
  refine (landed_at (View.whole cc0_scratch1) (View.whole cc0_scratch2) off off' S1x1x64x512.size inb inb' _ _ (pqR I c) fd j).trans ?_
  subst h h'
  have e0 : (((Rect.unit (s := S4x2x64x512) ![c.val, b.val, 0, 0] S1x1x64x512.size inb').emb j) 0 : Fin 4) = c := by
    apply Fin.ext
    have : (j 0).val < 1 := (j 0).isLt
    show c.val + 1 * (j 0).val = c.val
    omega
  show pqR I c _ = pqR I (((Rect.unit (s := S4x2x64x512) ![c.val, b.val, 0, 0] S1x1x64x512.size inb').emb j) 0) _
  rw [e0]
  congr 1
  funext a
  have : (j 0).val < 1 := (j 0).isLt
  fin_cases a
  · apply Fin.ext; show (peer c o).val + 1 * (j 0).val = (peer c o).val; omega
  all_goals rfl

/-- Sent sums land as gathered. -/
theorem ag_landed (o : Fin 3) {off : Fin 4 → ℕ} (h : off = ![c.val, 0, 0, 0]) (inb inb')
    (fd : Vec F S4x2x64x512 .bf16) : ∀ x ∈ s4 c,
    (agM off inb').view.write (Elt F) fd ((agM off inb).view.read (Elt F) (agR I)) Finset.univ x = agR I x := by
  intro x hx
  rw [← unit4 c h inb'] at hx
  obtain ⟨j, -, rfl⟩ := Finset.mem_map.mp (by rw [Rect.map_emb_univ]; exact hx)
  exact landed_at (View.whole cc0_scratch3) (View.whole cc0_scratch3) off off S1x2x64x512.size inb inb' _ _ (agR I) fd j

/-- Sending keys and values to a peer. -/
theorem send_kv {α : Type} {Q : α → sProp 𝕄} (o : Fin 3) (l : List (GSem nD τ sig × ℕ)) {c' : Dev nD} (hc : c' = peer c o)
    {off off' : Fin 6 → ℕ} {inb inb'} {sS sem : DmaSem sig}
    {h₁ : (srcKv off inb).view.WordExact} {h₂ : (dstKv off' inb').view.WordExact}
    {hsc : (dstKv off' inb').view.ref.isScScratch = false}
    {hsem : DmaTarget.Typed .vmem (.dma sem) (.remote ((c' : Dev nD) : Thread nD τ) (dstKv off' inb') (.dma sS) hsc)}
    (h : off = ![(peer c o).val, 0, 0, 0, 0, 0]) (h' : off' = ![c.val, 0, 0, 0, 0, 0])
    (hsS : sS = sndN 0 o) (hsm : sem = rcvN 0 c)
    {kk : PUnit → Pg F α} :
    iprop(allInv I K ∗ owesE (F := F) c (du 0 c o :: l) ∗ tx (F := F) 0 c o ∗ lend (F := F) 0 (peer c o) c ∗ A2 c (s5 (peer c o)) (I.kv c))
      ⊢ iprop(((owesE (F := F) c l ∗ txs (F := F) 0 c o)
          -∗ W c (kk ⟨⟩) Q)
        -∗ W c (.op (.enqueueDma (srcKv off inb) (.remote ((c' : Dev nD) : Thread nD τ) (dstKv off' inb') (.dma sS) hsc) (.dma sem) h₁ h₂ hsem) kk) Q) := by
  unfold lend
  dsimp only
  iintro ⟨#HI, HO, Ht, ⟨⟨%fd, Hd⟩, #Hr⟩, Hs⟩ Hk
  iapply (send_step I K c 0 o l hc (src := srcKv off inb) (dst := dstKv off' inb') (fs := I.kv c) (q := fullShare) (fd := fd) hsS hsm rfl
      (Entails.of_eq (by rw [srcKv_set (peer c o) h inb]; rfl))
      (Entails.of_eq (by rw [dstKv_set c h' inb']; exact pointsTo_congr (kv_landed I c o h h' inb inb' fd)))) $$ [HO Ht Hd Hs]
  · isplitr; · iexact HI
    isplitl [HO]; · iexact HO
    isplitl [Ht]; · iexact Ht
    isplitr; · iexact Hr
    rw [srcKv_set (peer c o) h inb, dstKv_set c h' inb']
    iframe
  iexact Hk

/-- Sending a batch's partial rows to a peer. -/
theorem send_rs {α : Type} {Q : α → sProp 𝕄} (k : Kd) (b : Fin 2) (hk : k = 1 ∧ b = 0 ∨ k = 2 ∧ b = 1)
    (o : Fin 3) (l : List (GSem nD τ sig × ℕ)) {c' : Dev nD} (hc : c' = peer c o)
    {off off' : Fin 4 → ℕ} {inb inb'} {sS sem : DmaSem sig}
    {h₁ : (srcRs off inb).view.WordExact} {h₂ : (dstRs off' inb').view.WordExact}
    {hsc : (dstRs off' inb').view.ref.isScScratch = false}
    {hsem : DmaTarget.Typed .vmem (.dma sem) (.remote ((c' : Dev nD) : Thread nD τ) (dstRs off' inb') (.dma sS) hsc)}
    (h : off = ![(peer c o).val, b.val, 0, 0]) (h' : off' = ![c.val, b.val, 0, 0])
    (hsS : sS = sndN k o) (hsm : sem = rcvN k c)
    {kk : PUnit → Pg F α} :
    iprop(allInv I K ∗ owesE (F := F) c (du k c o :: l) ∗ tx (F := F) k c o ∗ lend (F := F) k (peer c o) c ∗ A6 c (s7 (peer c o) b) (pqR I c))
      ⊢ iprop(((owesE (F := F) c l ∗ txs (F := F) k c o)
          -∗ W c (kk ⟨⟩) Q)
        -∗ W c (.op (.enqueueDma (srcRs off inb) (.remote ((c' : Dev nD) : Thread nD τ) (dstRs off' inb') (.dma sS) hsc) (.dma sem) h₁ h₂ hsem) kk) Q) := by
  have hl : lend (F := F) k (peer c o) c = iprop((∃ f, A7 (F := F) (peer c o) (s7 c b) f) ∗ reached ER (rcvCell k (peer c o) c) 0) := by
    rcases hk with ⟨rfl, rfl⟩ | ⟨rfl, rfl⟩ <;> rfl
  have hsp : sndPay I k c o = A6 c (s7 (peer c o) b) (pqR I c) := by
    rcases hk with ⟨rfl, rfl⟩ | ⟨rfl, rfl⟩ <;> rfl
  have hrp : rcvPay I k (peer c o) c = A7 (peer c o) (s7 c b) (rsR I (peer c o)) := by
    rcases hk with ⟨rfl, rfl⟩ | ⟨rfl, rfl⟩ <;> rfl
  have ha : amt k = rsV.view.dmaCredit := by
    rcases hk with ⟨rfl, rfl⟩ | ⟨rfl, rfl⟩ <;> rfl
  rw [hl]
  iintro ⟨#HI, HO, Ht, ⟨⟨%fd, Hd⟩, #Hr⟩, Hs⟩ Hk
  iapply (send_step I K c k o l hc (src := srcRs off inb) (dst := dstRs off' inb') (fs := pqR I c) (q := fullShare) (fd := fd) hsS hsm
      ha.symm
      (Entails.of_eq (by rw [srcRs_set (peer c o) b h inb, hsp]))
      (Entails.of_eq (by rw [dstRs_set c b h' inb', hrp]; exact pointsTo_congr (rs_landed I c o b h h' inb inb' fd)))) $$ [HO Ht Hd Hs]
  · isplitr; · iexact HI
    isplitl [HO]; · iexact HO
    isplitl [Ht]; · iexact Ht
    isplitr; · iexact Hr
    rw [srcRs_set (peer c o) b h inb, dstRs_set c b h' inb']
    iframe
  iexact Hk

/-- Sending the sums to a peer. -/
theorem send_ag {α : Type} {Q : α → sProp 𝕄} (o : Fin 3) (l : List (GSem nD τ sig × ℕ)) {c' : Dev nD} (hc : c' = peer c o)
    {off : Fin 4 → ℕ} {inb inb'} {sS sem : DmaSem sig}
    {h₁ : (agM off inb).view.WordExact} {h₂ : (agM off inb').view.WordExact}
    {hsc : (agM off inb').view.ref.isScScratch = false}
    {hsem : DmaTarget.Typed .vmem (.dma sem) (.remote ((c' : Dev nD) : Thread nD τ) (agM off inb') (.dma sS) hsc)}
    (h : off = ![c.val, 0, 0, 0])
    (hsS : sS = sndN 3 o) (hsm : sem = rcvN 3 c)
    {kk : PUnit → Pg F α} :
    iprop(allInv I K ∗ owesE (F := F) c (du 3 c o :: l) ∗ tx (F := F) 3 c o ∗ lend (F := F) 3 (peer c o) c ∗ A8 c (s4 c) (third o) (agR I))
      ⊢ iprop(((owesE (F := F) c l ∗ txs (F := F) 3 c o)
          -∗ W c (kk ⟨⟩) Q)
        -∗ W c (.op (.enqueueDma (agM off inb) (.remote ((c' : Dev nD) : Thread nD τ) (agM off inb') (.dma sS) hsc) (.dma sem) h₁ h₂ hsem) kk) Q) := by
  unfold lend
  dsimp only
  iintro ⟨#HI, HO, Ht, ⟨⟨%fd, Hd⟩, #Hr⟩, Hs⟩ Hk
  iapply (send_step I K c 3 o l hc (src := agM off inb) (dst := agM off inb') (fs := agR I) (q := third o) (fd := fd) hsS hsm rfl
      (Entails.of_eq (by rw [agM_set c h inb]; rfl))
      (Entails.of_eq (by rw [agM_set c h inb']; exact pointsTo_congr (ag_landed I c o h inb inb' fd)))) $$ [HO Ht Hd Hs]
  · isplitr; · iexact HI
    isplitl [HO]; · iexact HO
    isplitl [Ht]; · iexact Ht
    isplitr; · iexact Hr
    rw [agM_set c h inb]
    iframe
  iexact Hk

/-- Waiting for the keys and values to be sent. -/
theorem wait_snd0 {α : Type} {Q : α → sProp 𝕄} (o : Fin 3) (l : List (GSem nD τ sig × ℕ)) (hl : Above 0 l)
    {sp' : Space} {s' : Shape} {e' : EltTy} {src : Memref sig .tc sp' s' e'}
    {off : Fin 6 → ℕ} {inb : ∀ a, off a + S1x2x2x4x256x64.size a ≤ S4x2x2x4x256x64.size a}
    {h₁ : src.view.WordExact} {h₂ : (srcKv off inb).view.WordExact} {sem : DmaSem sig} (hs : sem = sndN 0 o)
    {kk : PUnit → Pg F α} :
    iprop(allInv I K ∗ levAts L lv ∗ owesE (F := F) c l ∗ txs (F := F) 0 c o)
      ⊢ iprop(((owesE (F := F) c l ∗ txd (F := F) 0 c o ∗ A2 (F := F) c (s5 (peer c o)) (I.kv c))
          -∗ W c (kk ⟨⟩) Q)
        -∗ W c (.op (.waitDma2 sem src (srcKv off inb) h₁ h₂) kk) Q) :=
  wait_snd I K c 0 o l hl (src := src) (dst := srcKv off inb) hs rfl

/-- Waiting for a peer's keys and values. -/
theorem wait_rcv0 {α : Type} {Q : α → sProp 𝕄} (o : Fin 3) (l : List (GSem nD τ sig × ℕ)) (hl : Above 2 l)
    {sp' : Space} {s' : Shape} {e' : EltTy} {src : Memref sig .tc sp' s' e'}
    {off : Fin 6 → ℕ} {inb : ∀ a, off a + S1x2x2x4x256x64.size a ≤ S4x2x2x4x256x64.size a}
    {h₁ : src.view.WordExact} {h₂ : (dstKv off inb).view.WordExact} {sem : DmaSem sig} (hs : sem = rcvN 0 (peer c o))
    {kk : PUnit → Pg F α} :
    iprop(allInv I K ∗ levAts L lv ∗ owesE (F := F) c l ∗ rx (F := F) 0 c o)
      ⊢ iprop(((owesE (F := F) c l ∗ rxd (F := F) 0 c o ∗ A5 (F := F) c (s5 (peer c o)) (kvR I c))
          -∗ W c (kk ⟨⟩) Q)
        -∗ W c (.op (.waitDma2 sem src (dstKv off inb) h₁ h₂) kk) Q) :=
  wait_rcv I K c 0 o l hl (src := src) (dst := dstKv off inb) hs rfl

/-- Waiting for batch 0's rows to be sent. -/
theorem wait_snd1 {α : Type} {Q : α → sProp 𝕄} (o : Fin 3) (l : List (GSem nD τ sig × ℕ)) (hl : Above 0 l)
    {sp' : Space} {s' : Shape} {e' : EltTy} {src : Memref sig .tc sp' s' e'}
    {off : Fin 4 → ℕ} {inb : ∀ a, off a + S1x1x64x512.size a ≤ S4x2x64x512.size a}
    {h₁ : src.view.WordExact} {h₂ : (srcRs off inb).view.WordExact} {sem : DmaSem sig} (hs : sem = sndN 1 o)
    {kk : PUnit → Pg F α} :
    iprop(allInv I K ∗ levAts L lv ∗ owesE (F := F) c l ∗ txs (F := F) 1 c o)
      ⊢ iprop(((owesE (F := F) c l ∗ txd (F := F) 1 c o ∗ A6 (F := F) c (s7 (peer c o) 0) (pqR I c))
          -∗ W c (kk ⟨⟩) Q)
        -∗ W c (.op (.waitDma2 sem src (srcRs off inb) h₁ h₂) kk) Q) :=
  wait_snd I K c 1 o l hl (src := src) (dst := srcRs off inb) hs rfl

/-- Waiting for a peer's batch 0 rows. -/
theorem wait_rcv1 {α : Type} {Q : α → sProp 𝕄} (o : Fin 3) (l : List (GSem nD τ sig × ℕ)) (hl : Above 3 l)
    {sp' : Space} {s' : Shape} {e' : EltTy} {src : Memref sig .tc sp' s' e'}
    {off : Fin 4 → ℕ} {inb : ∀ a, off a + S1x1x64x512.size a ≤ S4x2x64x512.size a}
    {h₁ : src.view.WordExact} {h₂ : (dstRs off inb).view.WordExact} {sem : DmaSem sig} (hs : sem = rcvN 1 (peer c o))
    {kk : PUnit → Pg F α} :
    iprop(allInv I K ∗ levAts L lv ∗ owesE (F := F) c l ∗ rx (F := F) 1 c o)
      ⊢ iprop(((owesE (F := F) c l ∗ rxd (F := F) 1 c o ∗ A7 (F := F) c (s7 (peer c o) 0) (rsR I c))
          -∗ W c (kk ⟨⟩) Q)
        -∗ W c (.op (.waitDma2 sem src (dstRs off inb) h₁ h₂) kk) Q) :=
  wait_rcv I K c 1 o l hl (src := src) (dst := dstRs off inb) hs rfl

/-- Waiting for batch 1's rows to be sent. -/
theorem wait_snd2 {α : Type} {Q : α → sProp 𝕄} (o : Fin 3) (l : List (GSem nD τ sig × ℕ)) (hl : Above 0 l)
    {sp' : Space} {s' : Shape} {e' : EltTy} {src : Memref sig .tc sp' s' e'}
    {off : Fin 4 → ℕ} {inb : ∀ a, off a + S1x1x64x512.size a ≤ S4x2x64x512.size a}
    {h₁ : src.view.WordExact} {h₂ : (srcRs off inb).view.WordExact} {sem : DmaSem sig} (hs : sem = sndN 2 o)
    {kk : PUnit → Pg F α} :
    iprop(allInv I K ∗ levAts L lv ∗ owesE (F := F) c l ∗ txs (F := F) 2 c o)
      ⊢ iprop(((owesE (F := F) c l ∗ txd (F := F) 2 c o ∗ A6 (F := F) c (s7 (peer c o) 1) (pqR I c))
          -∗ W c (kk ⟨⟩) Q)
        -∗ W c (.op (.waitDma2 sem src (srcRs off inb) h₁ h₂) kk) Q) :=
  wait_snd I K c 2 o l hl (src := src) (dst := srcRs off inb) hs rfl

/-- Waiting for a peer's batch 1 rows. -/
theorem wait_rcv2 {α : Type} {Q : α → sProp 𝕄} (o : Fin 3) (l : List (GSem nD τ sig × ℕ)) (hl : Above 3 l)
    {sp' : Space} {s' : Shape} {e' : EltTy} {src : Memref sig .tc sp' s' e'}
    {off : Fin 4 → ℕ} {inb : ∀ a, off a + S1x1x64x512.size a ≤ S4x2x64x512.size a}
    {h₁ : src.view.WordExact} {h₂ : (dstRs off inb).view.WordExact} {sem : DmaSem sig} (hs : sem = rcvN 2 (peer c o))
    {kk : PUnit → Pg F α} :
    iprop(allInv I K ∗ levAts L lv ∗ owesE (F := F) c l ∗ rx (F := F) 2 c o)
      ⊢ iprop(((owesE (F := F) c l ∗ rxd (F := F) 2 c o ∗ A7 (F := F) c (s7 (peer c o) 1) (rsR I c))
          -∗ W c (kk ⟨⟩) Q)
        -∗ W c (.op (.waitDma2 sem src (dstRs off inb) h₁ h₂) kk) Q) :=
  wait_rcv I K c 2 o l hl (src := src) (dst := dstRs off inb) hs rfl

/-- Waiting for the sums to be sent. -/
theorem wait_snd3 {α : Type} {Q : α → sProp 𝕄} (o : Fin 3) (l : List (GSem nD τ sig × ℕ)) (hl : Above 0 l)
    {sp' : Space} {s' : Shape} {e' : EltTy} {src : Memref sig .tc sp' s' e'}
    {off : Fin 4 → ℕ} {inb : ∀ a, off a + S1x2x64x512.size a ≤ S4x2x64x512.size a}
    {h₁ : src.view.WordExact} {h₂ : (agM off inb).view.WordExact} {sem : DmaSem sig} (hs : sem = sndN 3 o)
    {kk : PUnit → Pg F α} :
    iprop(allInv I K ∗ levAts L lv ∗ owesE (F := F) c l ∗ txs (F := F) 3 c o)
      ⊢ iprop(((owesE (F := F) c l ∗ txd (F := F) 3 c o ∗ A8 (F := F) c (s4 c) (third o) (agR I))
          -∗ W c (kk ⟨⟩) Q)
        -∗ W c (.op (.waitDma2 sem src (agM off inb) h₁ h₂) kk) Q) :=
  wait_snd I K c 3 o l hl (src := src) (dst := agM off inb) hs rfl

/-- Waiting for a peer's sums. -/
theorem wait_rcv3 {α : Type} {Q : α → sProp 𝕄} (o : Fin 3) (l : List (GSem nD τ sig × ℕ)) (hl : Above 4 l)
    {sp' : Space} {s' : Shape} {e' : EltTy} {src : Memref sig .tc sp' s' e'}
    {off : Fin 4 → ℕ} {inb : ∀ a, off a + S1x2x64x512.size a ≤ S4x2x64x512.size a}
    {h₁ : src.view.WordExact} {h₂ : (agM off inb).view.WordExact} {sem : DmaSem sig} (hs : sem = rcvN 3 (peer c o))
    {kk : PUnit → Pg F α} :
    iprop(allInv I K ∗ levAts L lv ∗ owesE (F := F) c l ∗ rx (F := F) 3 c o)
      ⊢ iprop(((owesE (F := F) c l ∗ rxd (F := F) 3 c o ∗ A8 (F := F) c (s4 (peer c o)) fullShare (agR I))
          -∗ W c (kk ⟨⟩) Q)
        -∗ W c (.op (.waitDma2 sem src (agM off inb) h₁ h₂) kk) Q) :=
  wait_rcv I K c 3 o l hl (src := src) (dst := agM off inb) hs rfl

end Sends

/-! ## Stores by buffer -/

section Stores
variable (c : Dev nD)

/-- A store to the gathered keys and values. -/
theorem store5 {α : Type} {Q : α → sProp 𝕄} (r : Rect S4x2x2x4x256x64) (w : r.shape.Idx → Elt F .i8)
    {hx : ((Memref.whole cc0_scratch0 : Memref sig .tc _ _ _).access r).Stores Finset.univ}
    {hm : Finset.univ = Finset.univ ∨ ∀ a, r.stride a = 1}
    {kk : PUnit → Pg F α}
    {S : Finset S4x2x2x4x256x64.Idx} {f : Vec F S4x2x2x4x256x64 .i8} (g : Vec F S4x2x2x4x256x64 .i8) (hS : r.set = S) (hg : ∀ j, g (r.emb j) = w j) :
    (A5 c S f : sProp 𝕄)
      ⊢ iprop((A5 c S g -∗ W c (kk ⟨⟩) Q)
        -∗ W c (.op (.store (Memref.whole cc0_scratch0) r w Finset.univ hx hm) kk) Q) :=
  store_step (cs := .vmem) (i := cc0_scratch0.idx) (hκ := cc0_scratch0.names) c r w g hS hg

/-- A store to the partial rows. -/
theorem store6 {α : Type} {Q : α → sProp 𝕄} (r : Rect S4x2x64x512) (w : r.shape.Idx → Elt F .bf16)
    {hx : ((Memref.whole cc0_scratch1 : Memref sig .tc _ _ _).access r).Stores Finset.univ}
    {hm : Finset.univ = Finset.univ ∨ ∀ a, r.stride a = 1}
    {kk : PUnit → Pg F α}
    {S : Finset S4x2x64x512.Idx} {f : Vec F S4x2x64x512 .bf16} (g : Vec F S4x2x64x512 .bf16) (hS : r.set = S) (hg : ∀ j, g (r.emb j) = w j) :
    (A6 c S f : sProp 𝕄)
      ⊢ iprop((A6 c S g -∗ W c (kk ⟨⟩) Q)
        -∗ W c (.op (.store (Memref.whole cc0_scratch1) r w Finset.univ hx hm) kk) Q) :=
  store_step (cs := .vmem) (i := cc0_scratch1.idx) (hκ := cc0_scratch1.names) c r w g hS hg

/-- A store to the gathered rows. -/
theorem store8 {α : Type} {Q : α → sProp 𝕄} (r : Rect S4x2x64x512) (w : r.shape.Idx → Elt F .bf16)
    {hx : ((Memref.whole cc0_scratch3 : Memref sig .tc _ _ _).access r).Stores Finset.univ}
    {hm : Finset.univ = Finset.univ ∨ ∀ a, r.stride a = 1}
    {kk : PUnit → Pg F α}
    {S : Finset S4x2x64x512.Idx} {f : Vec F S4x2x64x512 .bf16} (g : Vec F S4x2x64x512 .bf16) (hS : r.set = S) (hg : ∀ j, g (r.emb j) = w j) :
    (A8 c S fullShare f : sProp 𝕄)
      ⊢ iprop((A8 c S fullShare g -∗ W c (kk ⟨⟩) Q)
        -∗ W c (.op (.store (Memref.whole cc0_scratch3) r w Finset.univ hx hm) kk) Q) :=
  store_step (cs := .vmem) (i := cc0_scratch3.idx) (hκ := cc0_scratch3.names) c r w g hS hg

/-- A store to the result. -/
theorem store4 {α : Type} {Q : α → sProp 𝕄} (r : Rect S2x256x512) (w : r.shape.Idx → Elt F .f32)
    {hx : ((Memref.whole cc0_stg4_0 : Memref sig .tc _ _ _).access r).Stores Finset.univ}
    {hm : Finset.univ = Finset.univ ∨ ∀ a, r.stride a = 1}
    {kk : PUnit → Pg F α}
    {S : Finset S2x256x512.Idx} {f : Vec F S2x256x512 .f32} (g : Vec F S2x256x512 .f32) (hS : r.set = S) (hg : ∀ j, g (r.emb j) = w j) :
    (A4 c S f : sProp 𝕄)
      ⊢ iprop((A4 c S g -∗ W c (kk ⟨⟩) Q)
        -∗ W c (.op (.store (Memref.whole cc0_stg4_0) r w Finset.univ hx hm) kk) Q) :=
  store_step (cs := .vmem) (i := cc0_stg4_0.idx) (hκ := cc0_stg4_0.names) c r w g hS hg

end Stores

end Cert.KernelIdeal.Prf
-- ==== Proof.BodyLib.lean ====
module

public import proofs.«01_k».proof.Proof.Sends
public import Idealize.ShloMosaic.Lib.Pipeline.Value

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- A piece of the body, given the call's own buffers and semaphores. -/
abbrev bufs {α : Type 1} (f : (a0 : Memref sig .tc .vmem S2x256x512 .bf16) → a0.IsWhole → (a1 : Memref sig .tc .vmem S4x512x64 .bf16) → a1.IsWhole → (a2 : Memref sig .tc .vmem S4x2x2x4x256x64 .i8) → a2.IsWhole → (a3 : Memref sig .tc .vmem S4x64x512 .bf16) → a3.IsWhole → (a4 : Memref sig .tc .vmem S2x256x512 .f32) → a4.IsWhole → (a5 : Memref sig .tc .vmem S4x2x2x4x256x64 .i8) → a5.IsWhole → (a6 : Memref sig .tc .vmem S4x2x64x512 .bf16) → a6.IsWhole → (a7 : Memref sig .tc .vmem S4x2x64x512 .bf16) → a7.IsWhole → (a8 : Memref sig .tc .vmem S4x2x64x512 .bf16) → a8.IsWhole → DmaSems sig S3 → DmaSems sig S4 → DmaSems sig S3x2 → DmaSems sig S4x2 → DmaSems sig S3 → DmaSems sig S4 → α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9

/-! ## Stored values -/

/-- The own block is the device's keys and values. -/
theorem kvR_own {off : Fin 6 → ℕ} (h : off = ![c.val, 0, 0, 0, 0, 0]) (inb : ∀ a, off a + S1x2x2x4x256x64.size a ≤ S4x2x2x4x256x64.size a)
    (j : S1x2x2x4x256x64.Idx) :
    kvR I c ((Rect.unit (s := S4x2x2x4x256x64) off S1x2x2x4x256x64.size inb).emb j)
      = k0_pay1 (ld (I.kv c) (Rect.unit (s := S4x2x2x4x256x64) off S1x2x2x4x256x64.size inb)) j := by
  have hp : ∀ v : Vec F S1x2x2x4x256x64 .i8, k0_pay1 v = v := fun v => by
    unfold k0_pay1
    dsimp only
    rw [shapeCast_self, shapeCast_self]
  rw [hp]
  subst h
  have hj : (j 0).val < 1 := (j 0).isLt
  have e0 : (((Rect.unit (s := S4x2x2x4x256x64) ![c.val, 0, 0, 0, 0, 0] S1x2x2x4x256x64.size inb).emb j) 0 : Fin 4) = c := by
    apply Fin.ext
    show c.val + 1 * (j 0).val = c.val
    omega
  show I.kv (((Rect.unit (s := S4x2x2x4x256x64) ![c.val, 0, 0, 0, 0, 0] S1x2x2x4x256x64.size inb).emb j) 0) _ = I.kv c _
  rw [e0]
  congr 1
  funext a
  fin_cases a
  · exact e0.symm
  all_goals rfl

/-- The partial rows at a row block and batch. -/
theorem pqR_emb (q : Fin 4) (b : Fin 2) {off : Fin 4 → ℕ} (h : off = ![q.val, b.val, 0, 0]) (inb : ∀ a, off a + S1x1x64x512.size a ≤ S4x2x64x512.size a)
    (j : S1x1x64x512.Idx) : pqR I c ((Rect.unit (s := S4x2x64x512) off S1x1x64x512.size inb).emb j) = pqT I c q b j := by
  subst h
  have h0 : (j 0).val < 1 := (j 0).isLt
  have h1 : (j 1).val < 1 := (j 1).isLt
  have e0 : (((Rect.unit (s := S4x2x64x512) ![q.val, b.val, 0, 0] S1x1x64x512.size inb).emb j) 0 : Fin 4) = q := by
    apply Fin.ext; show q.val + 1 * (j 0).val = q.val; omega
  have e1 : (((Rect.unit (s := S4x2x64x512) ![q.val, b.val, 0, 0] S1x1x64x512.size inb).emb j) 1 : Fin 2) = b := by
    apply Fin.ext; show b.val + 1 * (j 1).val = b.val; omega
  show pqT I c (((Rect.unit (s := S4x2x64x512) ![q.val, b.val, 0, 0] S1x1x64x512.size inb).emb j) 0)
    (((Rect.unit (s := S4x2x64x512) ![q.val, b.val, 0, 0] S1x1x64x512.size inb).emb j) 1) _ = _
  rw [e0, e1]
  congr 1
  funext a
  fin_cases a
  · apply Fin.ext; show 0 = (j 0).val; omega
  · apply Fin.ext; show 0 = (j 1).val; omega
  · apply Fin.ext; show 0 + 1 * (j 2).val = (j 2).val; omega
  · apply Fin.ext; show 0 + 1 * (j 3).val = (j 3).val; omega

/-- The gathered rows at the own block. -/
theorem agR_emb {off : Fin 4 → ℕ} (h : off = ![c.val, 0, 0, 0]) (inb : ∀ a, off a + S1x2x64x512.size a ≤ S4x2x64x512.size a)
    (j : S1x2x64x512.Idx) : agR I ((Rect.unit (s := S4x2x64x512) off S1x2x64x512.size inb).emb j) = k0_pay260 (v1461 I c) j := by
  subst h
  have h0 : (j 0).val < 1 := (j 0).isLt
  have e0 : (((Rect.unit (s := S4x2x64x512) ![c.val, 0, 0, 0] S1x2x64x512.size inb).emb j) 0 : Fin 4) = c := by
    apply Fin.ext; show c.val + 1 * (j 0).val = c.val; omega
  show k0_pay260 (v1461 I (((Rect.unit (s := S4x2x64x512) ![c.val, 0, 0, 0] S1x2x64x512.size inb).emb j) 0)) _ = _
  rw [e0]
  congr 1
  funext a
  fin_cases a
  · apply Fin.ext; show 0 = (j 0).val; omega
  · apply Fin.ext; show 0 + 1 * (j 1).val = (j 1).val; omega
  · apply Fin.ext; show 0 + 1 * (j 2).val = (j 2).val; omega
  · apply Fin.ext; show 0 + 1 * (j 3).val = (j 3).val; omega

/-- The result at a row block. -/
theorem outR_emb (p : Dev nD) {off : Fin 3 → ℕ} (h : off = ![0, 64 * p.val, 0]) (inb : ∀ a, off a + S2x64x512.size a ≤ S2x256x512.size a)
    (j : S2x64x512.Idx) : outR I c ((Rect.unit (s := S2x256x512) off S2x64x512.size inb).emb j) = outT I c p j := by
  subst h
  have h1 : (j 1).val < 64 := (j 1).isLt
  have e : ∀ h', (⟨(((Rect.unit (s := S2x256x512) ![0, 64 * p.val, 0] S2x64x512.size inb).emb j) 1).val / 64, h'⟩ : Dev nD) = p := fun h' => by
    apply Fin.ext; show (64 * p.val + 1 * (j 1).val) / 64 = p.val; omega
  unfold outR
  dsimp only
  rw [e]
  congr 1
  funext a
  fin_cases a
  · apply Fin.ext; show 0 + 1 * (j 0).val = (j 0).val; omega
  · apply Fin.ext; show (64 * p.val + 1 * (j 1).val) % 64 = (j 1).val; omega
  · apply Fin.ext; show 0 + 1 * (j 2).val = (j 2).val; omega

/-- The own rows of the result. -/
theorem outT_0 : outT I c c = v1459 I c := by
  have h := c.isLt
  unfold outT
  rw [if_neg (by omega), if_neg (by omega), if_neg (by omega)]
/-- The first peer's rows. -/
theorem outT_1 : outT I c (peer c 0) = v1518 I c := by
  unfold outT
  exact if_pos rfl
/-- The second peer's rows. -/
theorem outT_2 : outT I c (peer c 1) = k0_pay263 (v1550 I c) := by
  have h : (peer c 1).val = (c.val + 2) % 4 := rfl
  have h' := c.isLt
  unfold outT
  rw [if_neg (by omega), if_neg (by omega), if_pos h]
/-- The third peer's rows. -/
theorem outT_3 : outT I c (peer c 2) = k0_pay262 (v1533 I c) := by
  have h : (peer c 2).val = (c.val + 3) % 4 := rfl
  have h' := c.isLt
  unfold outT
  rw [if_neg (by omega), if_pos h]

/-! ## Parts put together and taken apart -/

/-- Received rows of both batches joined. -/
theorem join7 (j : Dev nD) (f : Vec F S4x2x64x512 .bf16) : iprop(A7 c (s7 j 0) f ∗ A7 c (s7 j 1) f) ⊢ (A7 c (s4 j) f : sProp 𝕄) := by
  rw [← s4_join j]
  exact (pointsTo_union (s7_disj j)).2
/-- Partial rows of both batches joined. -/
theorem join6 (j : Dev nD) (f : Vec F S4x2x64x512 .bf16) : iprop(A6 c (s7 j 0) f ∗ A6 c (s7 j 1) f) ⊢ (A6 c (s4 j) f : sProp 𝕄) := by
  rw [← s4_join j]
  exact (pointsTo_union (s7_disj j)).2

/-- A family over the devices, from one device's seat. -/
theorem seat (Φ : Fin 4 → sProp 𝕄) : iprop(Φ 0 ∗ Φ 1 ∗ Φ 2 ∗ Φ 3) = iprop(Φ c ∗ Φ (peer c 0) ∗ Φ (peer c 1) ∗ Φ (peer c 2)) := by
  have h1 : bigSep (Finset.univ : Finset (Fin 4)) Φ = iprop(Φ 0 ∗ Φ 1 ∗ Φ 2 ∗ Φ 3) := by
    rw [bigSep_univ_eq_bigSepL [0, 1, 2, 3] (by decide) (by decide)]; rfl
  have h2 : bigSep (Finset.univ : Finset (Fin 4)) Φ = iprop(Φ c ∗ Φ (peer c 0) ∗ Φ (peer c 1) ∗ Φ (peer c 2)) := by
    rw [bigSep_univ_eq_bigSepL [c, peer c 0, peer c 1, peer c 2] (by revert c; decide) (by revert c; decide)]; rfl
  rw [← h1, h2]
/-- Row blocks named by peers. -/
theorem regroup6 (b : Fin 2) (f : Vec F S4x2x64x512 .bf16) :
    iprop(A6 c (s7 0 b) f ∗ A6 c (s7 1 b) f ∗ A6 c (s7 2 b) f ∗ A6 c (s7 3 b) f)
      ⊢ (iprop(A6 c (s7 c b) f ∗ A6 c (s7 (peer c 0) b) f ∗ A6 c (s7 (peer c 1) b) f ∗ A6 c (s7 (peer c 2) b) f) : sProp 𝕄) :=
  Entails.of_eq (seat c fun j => A6 c (s7 j b) f)
/-- A block in three shares. -/
theorem split8 (S : Finset S4x2x64x512.Idx) (f : Vec F S4x2x64x512 .bf16) :
    (A8 c S fullShare f : sProp 𝕄) ⊢ iprop(A8 c S (third 0) f ∗ A8 c S (third 2) f ∗ A8 c S (third 1) f) := by
  have h1 : (A8 c S fullShare f : sProp 𝕄) ⊢ iprop(A8 c S fullShare.left f ∗ A8 c S fullShare.right f) :=
    (pointsTo_share (PosShare.mem_left_op_right fullShare)).1
  have h2 : (A8 c S fullShare.right f : sProp 𝕄) ⊢ iprop(A8 c S fullShare.right.left f ∗ A8 c S fullShare.right.right f) :=
    (pointsTo_share (PosShare.mem_left_op_right fullShare.right)).1
  iintro H
  ihave H := h1 $$ H
  icases H with ⟨Ha, Hb⟩
  ihave Hb := h2 $$ Hb
  icases Hb with ⟨Hb, Hc⟩
  isplitl [Ha]; · iexact Ha
  isplitl [Hc]; · iexact Hc
  iexact Hb

/-! ## Semaphores and devices by name -/

/-- A sliced semaphore is this one. -/
theorem sem_arg9_0 (c : Dev nD) : ((cc0_scratch4.slice (Rect.unit (s := S3) ![0] S1.size inb_S3_S1_0)).squeeze S_ squeezes_S1_S_).sem = sndN 0 0 := by revert c; decide
/-- A sliced semaphore is this one. -/
theorem sem_arg10_k0_off1_d0 (c : Dev nD) : ((cc0_scratch5.slice (Rect.unit (s := S4) (k0_off1 c) S1.size (k0_off1_inb c))).squeeze S_ squeezes_S1_S_).sem = rcvN 0 c := by revert c; decide
/-- A sliced semaphore is this one. -/
theorem sem_arg9_2 (c : Dev nD) : ((cc0_scratch4.slice (Rect.unit (s := S3) ![2] S1.size inb_S3_S1_2)).squeeze S_ squeezes_S1_S_).sem = sndN 0 2 := by revert c; decide
/-- A sliced semaphore is this one. -/
theorem sem_arg9_1 (c : Dev nD) : ((cc0_scratch4.slice (Rect.unit (s := S3) ![1] S1.size inb_S3_S1_1)).squeeze S_ squeezes_S1_S_).sem = sndN 0 1 := by revert c; decide
/-- A sliced semaphore is this one. -/
theorem sem_arg10_k0_off21_d0_1 (c : Dev nD) : ((cc0_scratch5.slice (Rect.unit (s := S4) (k0_off21 c 1#32) S1.size (k0_off21_inb c 0))).squeeze S_ squeezes_S1_S_).sem = rcvN 0 (peer c 0) := by revert c; decide
/-- A sliced semaphore is this one. -/
theorem sem_arg10_k0_off21_d0_3 (c : Dev nD) : ((cc0_scratch5.slice (Rect.unit (s := S4) (k0_off21 c 3#32) S1.size (k0_off21_inb c 2))).squeeze S_ squeezes_S1_S_).sem = rcvN 0 (peer c 2) := by revert c; decide
/-- A sliced semaphore is this one. -/
theorem sem_arg10_k0_off21_d0_2 (c : Dev nD) : ((cc0_scratch5.slice (Rect.unit (s := S4) (k0_off21 c 2#32) S1.size (k0_off21_inb c 1))).squeeze S_ squeezes_S1_S_).sem = rcvN 0 (peer c 1) := by revert c; decide
/-- A sliced semaphore is this one. -/
theorem sem_arg11_0_0 (c : Dev nD) : ((cc0_scratch6.slice (Rect.unit (s := S3x2) ![0, 0] S1x1.size inb_S3x2_S1x1_0_0)).squeeze S_ squeezes_S1x1_S_).sem = sndN 1 0 := by revert c; decide
/-- A sliced semaphore is this one. -/
theorem sem_arg12_k0_off22_d0 (c : Dev nD) : ((cc0_scratch7.slice (Rect.unit (s := S4x2) (k0_off22 c) S1x1.size (k0_off22_inb c))).squeeze S_ squeezes_S1x1_S_).sem = rcvN 1 c := by revert c; decide
/-- A sliced semaphore is this one. -/
theorem sem_arg11_2_0 (c : Dev nD) : ((cc0_scratch6.slice (Rect.unit (s := S3x2) ![2, 0] S1x1.size inb_S3x2_S1x1_2_0)).squeeze S_ squeezes_S1x1_S_).sem = sndN 1 2 := by revert c; decide
/-- A sliced semaphore is this one. -/
theorem sem_arg11_1_0 (c : Dev nD) : ((cc0_scratch6.slice (Rect.unit (s := S3x2) ![1, 0] S1x1.size inb_S3x2_S1x1_1_0)).squeeze S_ squeezes_S1x1_S_).sem = sndN 1 1 := by revert c; decide
/-- A sliced semaphore is this one. -/
theorem sem_arg11_0_1 (c : Dev nD) : ((cc0_scratch6.slice (Rect.unit (s := S3x2) ![0, 1] S1x1.size inb_S3x2_S1x1_0_1)).squeeze S_ squeezes_S1x1_S_).sem = sndN 2 0 := by revert c; decide
/-- A sliced semaphore is this one. -/
theorem sem_arg12_k0_off25_d0 (c : Dev nD) : ((cc0_scratch7.slice (Rect.unit (s := S4x2) (k0_off25 c) S1x1.size (k0_off25_inb c))).squeeze S_ squeezes_S1x1_S_).sem = rcvN 2 c := by revert c; decide
/-- A sliced semaphore is this one. -/
theorem sem_arg11_2_1 (c : Dev nD) : ((cc0_scratch6.slice (Rect.unit (s := S3x2) ![2, 1] S1x1.size inb_S3x2_S1x1_2_1)).squeeze S_ squeezes_S1x1_S_).sem = sndN 2 2 := by revert c; decide
/-- A sliced semaphore is this one. -/
theorem sem_arg11_1_1 (c : Dev nD) : ((cc0_scratch6.slice (Rect.unit (s := S3x2) ![1, 1] S1x1.size inb_S3x2_S1x1_1_1)).squeeze S_ squeezes_S1x1_S_).sem = sndN 2 1 := by revert c; decide
/-- A sliced semaphore is this one. -/
theorem sem_arg12_k0_off29_d0_1 (c : Dev nD) : ((cc0_scratch7.slice (Rect.unit (s := S4x2) (k0_off29 c 1#32) S1x1.size (k0_off29_inb c 0))).squeeze S_ squeezes_S1x1_S_).sem = rcvN 1 (peer c 0) := by revert c; decide
/-- A sliced semaphore is this one. -/
theorem sem_arg12_k0_off30_d0_1 (c : Dev nD) : ((cc0_scratch7.slice (Rect.unit (s := S4x2) (k0_off30 c 1#32) S1x1.size (k0_off30_inb c 0))).squeeze S_ squeezes_S1x1_S_).sem = rcvN 2 (peer c 0) := by revert c; decide
/-- A sliced semaphore is this one. -/
theorem sem_arg12_k0_off29_d0_3 (c : Dev nD) : ((cc0_scratch7.slice (Rect.unit (s := S4x2) (k0_off29 c 3#32) S1x1.size (k0_off29_inb c 2))).squeeze S_ squeezes_S1x1_S_).sem = rcvN 1 (peer c 2) := by revert c; decide
/-- A sliced semaphore is this one. -/
theorem sem_arg12_k0_off30_d0_3 (c : Dev nD) : ((cc0_scratch7.slice (Rect.unit (s := S4x2) (k0_off30 c 3#32) S1x1.size (k0_off30_inb c 2))).squeeze S_ squeezes_S1x1_S_).sem = rcvN 2 (peer c 2) := by revert c; decide
/-- A sliced semaphore is this one. -/
theorem sem_arg12_k0_off29_d0_2 (c : Dev nD) : ((cc0_scratch7.slice (Rect.unit (s := S4x2) (k0_off29 c 2#32) S1x1.size (k0_off29_inb c 1))).squeeze S_ squeezes_S1x1_S_).sem = rcvN 1 (peer c 1) := by revert c; decide
/-- A sliced semaphore is this one. -/
theorem sem_arg12_k0_off30_d0_2 (c : Dev nD) : ((cc0_scratch7.slice (Rect.unit (s := S4x2) (k0_off30 c 2#32) S1x1.size (k0_off30_inb c 1))).squeeze S_ squeezes_S1x1_S_).sem = rcvN 2 (peer c 1) := by revert c; decide
/-- A sliced semaphore is this one. -/
theorem sem_arg13_0 (c : Dev nD) : ((cc0_scratch8.slice (Rect.unit (s := S3) ![0] S1.size inb_S3_S1_0)).squeeze S_ squeezes_S1_S_).sem = sndN 3 0 := by revert c; decide
/-- A sliced semaphore is this one. -/
theorem sem_arg14_k0_off1_d0 (c : Dev nD) : ((cc0_scratch9.slice (Rect.unit (s := S4) (k0_off1 c) S1.size (k0_off1_inb c))).squeeze S_ squeezes_S1_S_).sem = rcvN 3 c := by revert c; decide
/-- A sliced semaphore is this one. -/
theorem sem_arg13_2 (c : Dev nD) : ((cc0_scratch8.slice (Rect.unit (s := S3) ![2] S1.size inb_S3_S1_2)).squeeze S_ squeezes_S1_S_).sem = sndN 3 2 := by revert c; decide
/-- A sliced semaphore is this one. -/
theorem sem_arg13_1 (c : Dev nD) : ((cc0_scratch8.slice (Rect.unit (s := S3) ![1] S1.size inb_S3_S1_1)).squeeze S_ squeezes_S1_S_).sem = sndN 3 1 := by revert c; decide
/-- A sliced semaphore is this one. -/
theorem sem_arg14_k0_off21_d0_1 (c : Dev nD) : ((cc0_scratch9.slice (Rect.unit (s := S4) (k0_off21 c 1#32) S1.size (k0_off21_inb c 0))).squeeze S_ squeezes_S1_S_).sem = rcvN 3 (peer c 0) := by revert c; decide
/-- A sliced semaphore is this one. -/
theorem sem_arg14_k0_off21_d0_3 (c : Dev nD) : ((cc0_scratch9.slice (Rect.unit (s := S4) (k0_off21 c 3#32) S1.size (k0_off21_inb c 2))).squeeze S_ squeezes_S1_S_).sem = rcvN 3 (peer c 2) := by revert c; decide
/-- A sliced semaphore is this one. -/
theorem sem_arg14_k0_off21_d0_2 (c : Dev nD) : ((cc0_scratch9.slice (Rect.unit (s := S4) (k0_off21 c 2#32) S1.size (k0_off21_inb c 1))).squeeze S_ squeezes_S1_S_).sem = rcvN 3 (peer c 1) := by revert c; decide
/-- A computed device is this peer. -/
theorem k0_dev1_peer (c : Dev nD) : (⟨k0_dev1 c, k0_dev1_lt c⟩ : Dev nD) = peer c 0 := by revert c; decide
/-- A computed device is this peer. -/
theorem k0_dev2_peer (c : Dev nD) : (⟨k0_dev2 c, k0_dev2_lt c⟩ : Dev nD) = peer c 1 := by revert c; decide
/-- A computed device is this peer. -/
theorem k0_dev3_peer (c : Dev nD) : (⟨k0_dev3 c, k0_dev3_lt c⟩ : Dev nD) = peer c 2 := by revert c; decide
/-- A computed device is this peer. -/
theorem k0_dev4_peer (c : Dev nD) : (⟨k0_dev4 c, k0_dev4_lt c⟩ : Dev nD) = peer c 0 := by revert c; decide
/-- A computed device is this peer. -/
theorem k0_dev5_peer (c : Dev nD) : (⟨k0_dev5 c, k0_dev5_lt c⟩ : Dev nD) = peer c 2 := by revert c; decide
/-- A computed device is this peer. -/
theorem k0_dev6_peer (c : Dev nD) : (⟨k0_dev6 c, k0_dev6_lt c⟩ : Dev nD) = peer c 1 := by revert c; decide
/-- A computed device is this peer. -/
theorem k0_dev7_peer (c : Dev nD) : (⟨k0_dev7 c, k0_dev7_lt c⟩ : Dev nD) = peer c 0 := by revert c; decide
/-- A computed device is this peer. -/
theorem k0_dev8_peer (c : Dev nD) : (⟨k0_dev8 c, k0_dev8_lt c⟩ : Dev nD) = peer c 2 := by revert c; decide
/-- A computed device is this peer. -/
theorem k0_dev9_peer (c : Dev nD) : (⟨k0_dev9 c, k0_dev9_lt c⟩ : Dev nD) = peer c 1 := by revert c; decide
/-- A computed device is this peer. -/
theorem k0_dev10_peer (c : Dev nD) : (⟨k0_dev10 c, k0_dev10_lt c⟩ : Dev nD) = peer c 0 := by revert c; decide
/-- A computed device is this peer. -/
theorem k0_dev11_peer (c : Dev nD) : (⟨k0_dev11 c, k0_dev11_lt c⟩ : Dev nD) = peer c 2 := by revert c; decide
/-- A computed device is this peer. -/
theorem k0_dev12_peer (c : Dev nD) : (⟨k0_dev12 c, k0_dev12_lt c⟩ : Dev nD) = peer c 1 := by revert c; decide
/-- A computed device is this peer. -/
theorem k0_dev13_peer (c : Dev nD) : (⟨k0_dev13 c, k0_dev13_lt c⟩ : Dev nD) = peer c 0 := by revert c; decide
/-- A computed device is this peer. -/
theorem k0_dev14_peer (c : Dev nD) : (⟨k0_dev14 c, k0_dev14_lt c⟩ : Dev nD) = peer c 2 := by revert c; decide
/-- A computed device is this peer. -/
theorem k0_dev15_peer (c : Dev nD) : (⟨k0_dev15 c, k0_dev15_lt c⟩ : Dev nD) = peer c 1 := by revert c; decide

end Cert.KernelIdeal.Prf
-- ==== Proof.BodyA.lean ====
module

public import proofs.«01_k».proof.Proof.BodyLib

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- Part 2 sends keys and values to two peers and copies the own. -/
theorem k0_part2_wp {β : Type} {Q : β → sProp 𝕄} {f5 : Vec F S4x2x2x4x256x64 .i8}
    {k : _ → Pg F β} :
    iprop(allInv I K ∗ levAts L lv ∗ owesE (F := F) c (kvL c) ∗ tx (F := F) 0 c 0 ∗ lend (F := F) 0 (peer c 0) c ∗ A2 (F := F) c (s5 (peer c 0)) (I.kv c) ∗ tx (F := F) 0 c 2 ∗ lend (F := F) 0 (peer c 2) c ∗ A2 (F := F) c (s5 (peer c 2)) (I.kv c) ∗ A2 (F := F) c (s5 c) (I.kv c) ∗ A5 (F := F) c (s5 c) f5 ∗ A0 (F := F) c (I.x c))
      ⊢ iprop(((owesE (F := F) c (du 0 c 1 :: rs0L c) ∗ txs (F := F) 0 c 0 ∗ txs (F := F) 0 c 2 ∗ A2 (F := F) c (s5 c) (I.kv c) ∗ A5 (F := F) c (s5 c) (kvR I c) ∗ A0 (F := F) c (I.x c)) -∗ W c (k (v48 I c)) Q)
        -∗ W c (bufs k0_part2 c (v2 I c) >>= k) Q) := by
  unfold bufs W
  rw [k0_part2_eq_skeleton]
  unfold k0_part2_skel
  simp only [Prog.bind_lift, Prog.bind_assoc, Prog.bind_op, Prog.bind_ret, Prog.pure_eq_ret]
  iintro ⟨#HI, #HL, HO, T00, D00, K1, T02, D02, K3, K0, R0, B0⟩ Hk
  ihave HO := (Entails.of_eq (show owesE (F := F) c (kvL c) = owesE (F := F) c (du 0 c 0 :: du 0 c 2 :: du 0 c 1 :: rs0L c) from rfl)) $$ HO
  iapply (send_kv I K c 0 (du 0 c 2 :: du 0 c 1 :: rs0L c) (k0_dev4_peer c) (k0_off3_eq c 0) (k0_off2_eq c) (sem_arg9_0 c) (sem_arg10_k0_off1_d0 c)) $$ [HO T00 D00 K1]
  · iframe # ∗
  iintro ⟨HO, T00⟩
  iapply (send_kv I K c 2 (du 0 c 1 :: rs0L c) (k0_dev5_peer c) (k0_off3_eq c 2) (k0_off2_eq c) (sem_arg9_2 c) (sem_arg10_k0_off1_d0 c)) $$ [HO T02 D02 K3]
  · iframe # ∗
  iintro ⟨HO, T02⟩
  iapply (load_step c _ ((unit5 c (k0_off4_eq c) (k0_off4_inb c)).subset)) $$ K0
  iintro K0
  iapply (load_step c _ ((unit5 c (k0_off4_eq c) (k0_off4_inb c)).subset)) $$ R0
  iintro R0
  iapply (store5 c (Rect.unit (s := S4x2x2x4x256x64) (k0_off4 c) S1x2x2x4x256x64.size (k0_off4_inb c)) _ (kvR I c) (unit5 c (k0_off4_eq c) (k0_off4_inb c)) (kvR_own I c (k0_off4_eq c) (k0_off4_inb c))) $$ R0
  iintro R0
  iapply (load_step c _ (Finset.subset_univ _)) $$ B0
  iintro B0
  iapply Hk
  iframe

/-- Part 3 loads activations and query weights. -/
theorem k0_part3_wp {β : Type} {Q : β → sProp 𝕄}
    {k : _ → Pg F β} :
    iprop(allInv I K ∗ levAts L lv ∗ A1 (F := F) c (I.wq c) ∗ A0 (F := F) c (I.x c))
      ⊢ iprop(((A1 (F := F) c (I.wq c) ∗ A0 (F := F) c (I.x c)) -∗ W c (k ⟨(v54 I c), (v62 I c), (v70 I c), (v78 I c)⟩) Q)
        -∗ W c (bufs k0_part3 (v48 I c) >>= k) Q) := by
  unfold bufs W
  rw [k0_part3_eq_skeleton]
  unfold k0_part3_skel
  simp only [Prog.bind_lift, Prog.bind_assoc, Prog.bind_op, Prog.bind_ret, Prog.pure_eq_ret]
  iintro ⟨#HI, #HL, B1, B0⟩ Hk
  iapply (load_step c _ (Finset.subset_univ _)) $$ B1
  iintro B1
  iapply (load_step c _ (Finset.subset_univ _)) $$ B0
  iintro B0
  iapply (load_step c _ (Finset.subset_univ _)) $$ B1
  iintro B1
  iapply (load_step c _ (Finset.subset_univ _)) $$ B0
  iintro B0
  iapply (load_step c _ (Finset.subset_univ _)) $$ B1
  iintro B1
  iapply (load_step c _ (Finset.subset_univ _)) $$ B0
  iintro B0
  iapply (load_step c _ (Finset.subset_univ _)) $$ B1
  iintro B1
  iapply Hk
  iframe

/-- Part 4 loads activations and query weights. -/
theorem k0_part4_wp {β : Type} {Q : β → sProp 𝕄}
    {k : _ → Pg F β} :
    iprop(allInv I K ∗ levAts L lv ∗ A0 (F := F) c (I.x c) ∗ A1 (F := F) c (I.wq c))
      ⊢ iprop(((A0 (F := F) c (I.x c) ∗ A1 (F := F) c (I.wq c)) -∗ W c (k ⟨(v86 I c), (v94 I c), (v102 I c), (v107 I c), (v108 I c)⟩) Q)
        -∗ W c (bufs k0_part4 >>= k) Q) := by
  unfold bufs W
  rw [k0_part4_eq_skeleton]
  unfold k0_part4_skel
  simp only [Prog.bind_lift, Prog.bind_assoc, Prog.bind_op, Prog.bind_ret, Prog.pure_eq_ret]
  iintro ⟨#HI, #HL, B0, B1⟩ Hk
  iapply (load_step c _ (Finset.subset_univ _)) $$ B0
  iintro B0
  iapply (load_step c _ (Finset.subset_univ _)) $$ B1
  iintro B1
  iapply (load_step c _ (Finset.subset_univ _)) $$ B0
  iintro B0
  iapply (load_step c _ (Finset.subset_univ _)) $$ B1
  iintro B1
  iapply (load_step c _ (Finset.subset_univ _)) $$ B0
  iintro B0
  iapply (load_step c _ (Finset.subset_univ _)) $$ B1
  iintro B1
  iapply (load_step c _ (Finset.subset_univ _)) $$ B0
  iintro B0
  iapply (load_step c _ (Finset.subset_univ _)) $$ B1
  iintro B1
  iapply Hk
  iframe

/-- Part 5 waits for two sends. -/
theorem k0_part5_wp {β : Type} {Q : β → sProp 𝕄}
    {k : _ → Pg F β} :
    iprop(allInv I K ∗ levAts L lv ∗ owesE (F := F) c (du 0 c 1 :: rs0L c) ∗ txs (F := F) 0 c 0 ∗ txs (F := F) 0 c 2)
      ⊢ iprop(((owesE (F := F) c (du 0 c 1 :: rs0L c) ∗ txd (F := F) 0 c 0 ∗ A2 (F := F) c (s5 (peer c 0)) (I.kv c) ∗ txd (F := F) 0 c 2 ∗ A2 (F := F) c (s5 (peer c 2)) (I.kv c)) -∗ W c (k (v110 I c)) Q)
        -∗ W c (bufs k0_part5 c (v2 I c) (v107 I c) (v108 I c) >>= k) Q) := by
  unfold bufs W
  rw [k0_part5_eq_skeleton]
  unfold k0_part5_skel
  simp only [Prog.bind_lift, Prog.bind_assoc, Prog.bind_op, Prog.bind_ret, Prog.pure_eq_ret]
  iintro ⟨#HI, #HL, HO, T00, T02⟩ Hk
  iapply (wait_snd0 I K c 0 (du 0 c 1 :: rs0L c) (above_du (by decide) (above_rs0 c (by decide))) (sem_arg9_0 c)) $$ [HO T00]
  · iframe # ∗
  iintro ⟨HO, T00, K1⟩
  iapply (wait_snd0 I K c 2 (du 0 c 1 :: rs0L c) (above_du (by decide) (above_rs0 c (by decide))) (sem_arg9_2 c)) $$ [HO T02]
  · iframe # ∗
  iintro ⟨HO, T02, K3⟩
  iapply Hk
  iframe

/-- Part 6 sends keys and values to the third peer. -/
theorem k0_part6_wp {β : Type} {Q : β → sProp 𝕄}
    {k : _ → Pg F β} :
    iprop(allInv I K ∗ levAts L lv ∗ owesE (F := F) c (du 0 c 1 :: rs0L c) ∗ tx (F := F) 0 c 1 ∗ lend (F := F) 0 (peer c 1) c ∗ A2 (F := F) c (s5 (peer c 1)) (I.kv c))
      ⊢ iprop(((owesE (F := F) c (rs0L c) ∗ txs (F := F) 0 c 1) -∗ W c (k ⟨(v159 I c), (v160 I c), (c64_i32_157 I c), (v162 I c), (v169 I c), (v174 I c)⟩) Q)
        -∗ W c (bufs k0_part6 c >>= k) Q) := by
  unfold bufs W
  rw [k0_part6_eq_skeleton]
  unfold k0_part6_skel
  simp only [Prog.bind_lift, Prog.bind_assoc, Prog.bind_op, Prog.bind_ret, Prog.pure_eq_ret]
  iintro ⟨#HI, #HL, HO, T01, D01, K2⟩ Hk
  iapply (send_kv I K c 1 (rs0L c) (k0_dev6_peer c) (k0_off3_eq c 1) (k0_off2_eq c) (sem_arg9_1 c) (sem_arg10_k0_off1_d0 c)) $$ [HO T01 D01 K2]
  · iframe # ∗
  iintro ⟨HO, T01⟩
  iapply Hk
  iframe

/-- Part 7 is arithmetic. -/
theorem k0_part7_wp {β : Type} {Q : β → sProp 𝕄}
    {k : _ → Pg F β} :
    iprop(allInv I K ∗ levAts L lv)
      ⊢ iprop((W c (k ⟨(v184 I c), (v186 I c), (v216 I c)⟩) Q)
        -∗ W c (bufs k0_part7 (v2 I c) (v159 I c) (v160 I c) (c64_i32_157 I c) (v162 I c) (v169 I c) (v174 I c) >>= k) Q) := by
  unfold bufs W
  rw [k0_part7_eq_skeleton]
  unfold k0_part7_skel
  simp only [Prog.bind_lift, Prog.bind_assoc, Prog.bind_op, Prog.bind_ret, Prog.pure_eq_ret]
  iintro ⟨#HI, #HL⟩ Hk
  iexact Hk

/-- Part 8 loads own keys and values. -/
theorem k0_part8_wp {β : Type} {Q : β → sProp 𝕄}
    {k : _ → Pg F β} :
    iprop(allInv I K ∗ levAts L lv ∗ A5 (F := F) c (s5 c) (kvR I c))
      ⊢ iprop(((A5 (F := F) c (s5 c) (kvR I c)) -∗ W c (k ⟨(v230 I c), (v235 I c), (v237 I c), (v247 I c), (v251 I c), (v253 I c)⟩) Q)
        -∗ W c (bufs k0_part8 c (v54 I c) (v62 I c) (v186 I c) (v216 I c) >>= k) Q) := by
  unfold bufs W
  rw [k0_part8_eq_skeleton]
  unfold k0_part8_skel
  simp only [Prog.bind_lift, Prog.bind_assoc, Prog.bind_op, Prog.bind_ret, Prog.pure_eq_ret]
  iintro ⟨#HI, #HL, R0⟩ Hk
  iapply (load_step c _ (sub5 c ((congrFun (k0_off5_eq c 0) 0).trans (Nat.mod_eq_of_lt c.isLt)) rfl (k0_off5_inb c 0))) $$ R0
  iintro R0
  iapply (load_step c _ (sub5 c ((congrFun (k0_off6_eq c 0) 0).trans (Nat.mod_eq_of_lt c.isLt)) rfl (k0_off6_inb c 0))) $$ R0
  iintro R0
  iapply (load_step c _ (sub5 c ((congrFun (k0_off7_eq c 0) 0).trans (Nat.mod_eq_of_lt c.isLt)) rfl (k0_off7_inb c 0))) $$ R0
  iintro R0
  iapply (load_step c _ (sub5 c ((congrFun (k0_off8_eq c 0) 0).trans (Nat.mod_eq_of_lt c.isLt)) rfl (k0_off8_inb c 0))) $$ R0
  iintro R0
  iapply Hk
  iexact R0

/-- Part 9 loads own keys and values. -/
theorem k0_part9_wp {β : Type} {Q : β → sProp 𝕄}
    {k : _ → Pg F β} :
    iprop(allInv I K ∗ levAts L lv ∗ A5 (F := F) c (s5 c) (kvR I c))
      ⊢ iprop(((A5 (F := F) c (s5 c) (kvR I c)) -∗ W c (k ⟨(v256 I c), (v258 I c), (v272 I c), (v277 I c), (v279 I c), (v284 I c), (v287 I c)⟩) Q)
        -∗ W c (bufs k0_part9 c (v70 I c) (v186 I c) (v216 I c) (v247 I c) (v253 I c) >>= k) Q) := by
  unfold bufs W
  rw [k0_part9_eq_skeleton]
  unfold k0_part9_skel
  simp only [Prog.bind_lift, Prog.bind_assoc, Prog.bind_op, Prog.bind_ret, Prog.pure_eq_ret]
  iintro ⟨#HI, #HL, R0⟩ Hk
  iapply (load_step c _ (sub5 c ((congrFun (k0_off9_eq c 0) 0).trans (Nat.mod_eq_of_lt c.isLt)) rfl (k0_off9_inb c 0))) $$ R0
  iintro R0
  iapply (load_step c _ (sub5 c ((congrFun (k0_off10_eq c 0) 0).trans (Nat.mod_eq_of_lt c.isLt)) rfl (k0_off10_inb c 0))) $$ R0
  iintro R0
  iapply (load_step c _ (sub5 c ((congrFun (k0_off11_eq c 0) 0).trans (Nat.mod_eq_of_lt c.isLt)) rfl (k0_off11_inb c 0))) $$ R0
  iintro R0
  iapply (load_step c _ (sub5 c ((congrFun (k0_off12_eq c 0) 0).trans (Nat.mod_eq_of_lt c.isLt)) rfl (k0_off12_inb c 0))) $$ R0
  iintro R0
  iapply Hk
  iexact R0

/-- Part 10 loads own keys and values. -/
theorem k0_part10_wp {β : Type} {Q : β → sProp 𝕄}
    {k : _ → Pg F β} :
    iprop(allInv I K ∗ levAts L lv ∗ A5 (F := F) c (s5 c) (kvR I c))
      ⊢ iprop(((A5 (F := F) c (s5 c) (kvR I c)) -∗ W c (k ⟨(v293 I c), (v298 I c), (v300 I c), (v314 I c), (v319 I c), (v321 I c), (v324 I c)⟩) Q)
        -∗ W c (bufs k0_part10 c (v78 I c) (v86 I c) (v186 I c) (v216 I c) (v284 I c) (v287 I c) >>= k) Q) := by
  unfold bufs W
  rw [k0_part10_eq_skeleton]
  unfold k0_part10_skel
  simp only [Prog.bind_lift, Prog.bind_assoc, Prog.bind_op, Prog.bind_ret, Prog.pure_eq_ret]
  iintro ⟨#HI, #HL, R0⟩ Hk
  iapply (load_step c _ (sub5 c ((congrFun (k0_off13_eq c 0) 0).trans (Nat.mod_eq_of_lt c.isLt)) rfl (k0_off13_inb c 0))) $$ R0
  iintro R0
  iapply (load_step c _ (sub5 c ((congrFun (k0_off14_eq c 0) 0).trans (Nat.mod_eq_of_lt c.isLt)) rfl (k0_off14_inb c 0))) $$ R0
  iintro R0
  iapply (load_step c _ (sub5 c ((congrFun (k0_off15_eq c 0) 0).trans (Nat.mod_eq_of_lt c.isLt)) rfl (k0_off15_inb c 0))) $$ R0
  iintro R0
  iapply Hk
  iexact R0

/-- Part 11 loads own keys and values. -/
theorem k0_part11_wp {β : Type} {Q : β → sProp 𝕄}
    {k : _ → Pg F β} :
    iprop(allInv I K ∗ levAts L lv ∗ A5 (F := F) c (s5 c) (kvR I c))
      ⊢ iprop(((A5 (F := F) c (s5 c) (kvR I c)) -∗ W c (k ⟨(v335 I c), (v340 I c), (v342 I c), (v352 I c), (v356 I c), (v361 I c), (v362 I c)⟩) Q)
        -∗ W c (bufs k0_part11 c (v94 I c) (v102 I c) (v186 I c) (v216 I c) (v324 I c) >>= k) Q) := by
  unfold bufs W
  rw [k0_part11_eq_skeleton]
  unfold k0_part11_skel
  simp only [Prog.bind_lift, Prog.bind_assoc, Prog.bind_op, Prog.bind_ret, Prog.pure_eq_ret]
  iintro ⟨#HI, #HL, R0⟩ Hk
  iapply (load_step c _ (sub5 c ((congrFun (k0_off16_eq c 0) 0).trans (Nat.mod_eq_of_lt c.isLt)) rfl (k0_off16_inb c 0))) $$ R0
  iintro R0
  iapply (load_step c _ (sub5 c ((congrFun (k0_off17_eq c 0) 0).trans (Nat.mod_eq_of_lt c.isLt)) rfl (k0_off17_inb c 0))) $$ R0
  iintro R0
  iapply (load_step c _ (sub5 c ((congrFun (k0_off18_eq c 0) 0).trans (Nat.mod_eq_of_lt c.isLt)) rfl (k0_off18_inb c 0))) $$ R0
  iintro R0
  iapply Hk
  iexact R0

/-- Part 12 loads own keys and values. -/
theorem k0_part12_wp {β : Type} {Q : β → sProp 𝕄}
    {k : _ → Pg F β} :
    iprop(allInv I K ∗ levAts L lv ∗ A5 (F := F) c (s5 c) (kvR I c))
      ⊢ iprop(((A5 (F := F) c (s5 c) (kvR I c)) -∗ W c (k ⟨(v363 I c), (v377 I c), (v382 I c), (v384 I c), (v386 I c)⟩) Q)
        -∗ W c (bufs k0_part12 c (v2 I c) (v110 I c) (v186 I c) (v216 I c) (v352 I c) (v362 I c) >>= k) Q) := by
  unfold bufs W
  rw [k0_part12_eq_skeleton]
  unfold k0_part12_skel
  simp only [Prog.bind_lift, Prog.bind_assoc, Prog.bind_op, Prog.bind_ret, Prog.pure_eq_ret]
  iintro ⟨#HI, #HL, R0⟩ Hk
  iapply (load_step c _ (sub5 c ((congrFun (k0_off19_eq c 0) 0).trans (Nat.mod_eq_of_lt c.isLt)) rfl (k0_off19_inb c 0))) $$ R0
  iintro R0
  iapply (load_step c _ (sub5 c ((congrFun (k0_off20_eq c 0) 0).trans (Nat.mod_eq_of_lt c.isLt)) rfl (k0_off20_inb c 0))) $$ R0
  iintro R0
  iapply Hk
  iexact R0

/-- Part 13 awaits the first peer's keys and values. -/
theorem k0_part13_wp {β : Type} {Q : β → sProp 𝕄}
    {k : _ → Pg F β} :
    iprop(allInv I K ∗ levAts L lv ∗ owesE (F := F) c (rs0L c) ∗ rx (F := F) 0 c 0)
      ⊢ iprop(((owesE (F := F) c (rs0L c) ∗ rxd (F := F) 0 c 0 ∗ A5 (F := F) c (s5 (peer c 0)) (kvR I c)) -∗ W c (k ⟨(v424 I c), (v429 I c)⟩) Q)
        -∗ W c (bufs k0_part13 c (v159 I c) (v184 I c) (v386 I c) >>= k) Q) := by
  unfold bufs W
  rw [k0_part13_eq_skeleton]
  unfold k0_part13_skel
  simp only [Prog.bind_lift, Prog.bind_assoc, Prog.bind_op, Prog.bind_ret, Prog.pure_eq_ret]
  iintro ⟨#HI, #HL, HO, V00⟩ Hk
  iapply (wait_rcv0 I K c 0 (rs0L c) (above_rs0 c (by decide)) (sem_arg10_k0_off21_d0_1 c)) $$ [HO V00]
  · iframe # ∗
  iintro ⟨HO, V00, R1⟩
  iapply (load_step c _ (sub5 (peer c 0) (congrFun (k0_off5_eq c 1) 0) rfl (k0_off5_inb c 1))) $$ R1
  iintro R1
  iapply Hk
  iframe

end Cert.KernelIdeal.Prf
-- ==== Proof.BodyB.lean ====
module

public import proofs.«01_k».proof.Proof.BodyLib

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- Part 14 loads the first peer's keys and values. -/
theorem k0_part14_wp {β : Type} {Q : β → sProp 𝕄}
    {k : _ → Pg F β} :
    iprop(allInv I K ∗ levAts L lv ∗ A5 (F := F) c (s5 (peer c 0)) (kvR I c))
      ⊢ iprop(((A5 (F := F) c (s5 (peer c 0)) (kvR I c)) -∗ W c (k ⟨(v439 I c), (v448 I c), (v453 I c), (v463 I c), (v468 I c), (v470 I c), (v473 I c), (v474 I c)⟩) Q)
        -∗ W c (bufs k0_part14 c (v54 I c) (v62 I c) (v230 I c) (v235 I c) (v237 I c) (v251 I c) (v256 I c) (v386 I c) (v424 I c) (v429 I c) >>= k) Q) := by
  unfold bufs W
  rw [k0_part14_eq_skeleton]
  unfold k0_part14_skel
  simp only [Prog.bind_lift, Prog.bind_assoc, Prog.bind_op, Prog.bind_ret, Prog.pure_eq_ret]
  iintro ⟨#HI, #HL, R1⟩ Hk
  iapply (load_step c _ (sub5 (peer c 0) (congrFun (k0_off6_eq c 1) 0) rfl (k0_off6_inb c 1))) $$ R1
  iintro R1
  iapply (load_step c _ (sub5 (peer c 0) (congrFun (k0_off7_eq c 1) 0) rfl (k0_off7_inb c 1))) $$ R1
  iintro R1
  iapply (load_step c _ (sub5 (peer c 0) (congrFun (k0_off8_eq c 1) 0) rfl (k0_off8_inb c 1))) $$ R1
  iintro R1
  iapply Hk
  iexact R1

/-- Part 15 loads the first peer's keys and values. -/
theorem k0_part15_wp {β : Type} {Q : β → sProp 𝕄}
    {k : _ → Pg F β} :
    iprop(allInv I K ∗ levAts L lv ∗ A5 (F := F) c (s5 (peer c 0)) (kvR I c))
      ⊢ iprop(((A5 (F := F) c (s5 (peer c 0)) (kvR I c)) -∗ W c (k ⟨(v477 I c), (v482 I c), (v497 I c), (v506 I c), (v511 I c), (v513 I c)⟩) Q)
        -∗ W c (bufs k0_part15 c (v70 I c) (v258 I c) (v272 I c) (v277 I c) (v279 I c) (v386 I c) (v424 I c) (v463 I c) (v470 I c) (v473 I c) (v474 I c) >>= k) Q) := by
  unfold bufs W
  rw [k0_part15_eq_skeleton]
  unfold k0_part15_skel
  simp only [Prog.bind_lift, Prog.bind_assoc, Prog.bind_op, Prog.bind_ret, Prog.pure_eq_ret]
  iintro ⟨#HI, #HL, R1⟩ Hk
  iapply (load_step c _ (sub5 (peer c 0) (congrFun (k0_off9_eq c 1) 0) rfl (k0_off9_inb c 1))) $$ R1
  iintro R1
  iapply (load_step c _ (sub5 (peer c 0) (congrFun (k0_off10_eq c 1) 0) rfl (k0_off10_inb c 1))) $$ R1
  iintro R1
  iapply (load_step c _ (sub5 (peer c 0) (congrFun (k0_off11_eq c 1) 0) rfl (k0_off11_inb c 1))) $$ R1
  iintro R1
  iapply Hk
  iexact R1

/-- Part 16 loads the first peer's keys and values. -/
theorem k0_part16_wp {β : Type} {Q : β → sProp 𝕄}
    {k : _ → Pg F β} :
    iprop(allInv I K ∗ levAts L lv ∗ A5 (F := F) c (s5 (peer c 0)) (kvR I c))
      ⊢ iprop(((A5 (F := F) c (s5 (peer c 0)) (kvR I c)) -∗ W c (k ⟨(v526 I c), (v535 I c), (v540 I c), (v550 I c), (v552 I c)⟩) Q)
        -∗ W c (bufs k0_part16 c (v78 I c) (v86 I c) (v293 I c) (v298 I c) (v300 I c) (v386 I c) (v424 I c) (v513 I c) >>= k) Q) := by
  unfold bufs W
  rw [k0_part16_eq_skeleton]
  unfold k0_part16_skel
  simp only [Prog.bind_lift, Prog.bind_assoc, Prog.bind_op, Prog.bind_ret, Prog.pure_eq_ret]
  iintro ⟨#HI, #HL, R1⟩ Hk
  iapply (load_step c _ (sub5 (peer c 0) (congrFun (k0_off12_eq c 1) 0) rfl (k0_off12_inb c 1))) $$ R1
  iintro R1
  iapply (load_step c _ (sub5 (peer c 0) (congrFun (k0_off13_eq c 1) 0) rfl (k0_off13_inb c 1))) $$ R1
  iintro R1
  iapply (load_step c _ (sub5 (peer c 0) (congrFun (k0_off14_eq c 1) 0) rfl (k0_off14_inb c 1))) $$ R1
  iintro R1
  iapply Hk
  iexact R1

/-- Part 17 loads the first peer's keys and values. -/
theorem k0_part17_wp {β : Type} {Q : β → sProp 𝕄}
    {k : _ → Pg F β} :
    iprop(allInv I K ∗ levAts L lv ∗ A5 (F := F) c (s5 (peer c 0)) (kvR I c))
      ⊢ iprop(((A5 (F := F) c (s5 (peer c 0)) (kvR I c)) -∗ W c (k ⟨(v555 I c), (v564 I c), (v569 I c), (v579 I c), (v584 I c), (v593 I c), (v595 I c), (v596 I c), (cst_398 I c)⟩) Q)
        -∗ W c (bufs k0_part17 c (v94 I c) (v314 I c) (v319 I c) (v321 I c) (v335 I c) (v340 I c) (v342 I c) (v386 I c) (v424 I c) (v550 I c) (v552 I c) >>= k) Q) := by
  unfold bufs W
  rw [k0_part17_eq_skeleton]
  unfold k0_part17_skel
  simp only [Prog.bind_lift, Prog.bind_assoc, Prog.bind_op, Prog.bind_ret, Prog.pure_eq_ret]
  iintro ⟨#HI, #HL, R1⟩ Hk
  iapply (load_step c _ (sub5 (peer c 0) (congrFun (k0_off15_eq c 1) 0) rfl (k0_off15_inb c 1))) $$ R1
  iintro R1
  iapply (load_step c _ (sub5 (peer c 0) (congrFun (k0_off16_eq c 1) 0) rfl (k0_off16_inb c 1))) $$ R1
  iintro R1
  iapply Hk
  iexact R1

/-- Part 18 loads the first peer's keys and values. -/
theorem k0_part18_wp {β : Type} {Q : β → sProp 𝕄}
    {k : _ → Pg F β} :
    iprop(allInv I K ∗ levAts L lv ∗ A5 (F := F) c (s5 (peer c 0)) (kvR I c))
      ⊢ iprop(((A5 (F := F) c (s5 (peer c 0)) (kvR I c)) -∗ W c (k ⟨(v598 I c), (v613 I c), (v622 I c), (v627 I c), (v632 I c)⟩) Q)
        -∗ W c (bufs k0_part18 c (v102 I c) (v356 I c) (v361 I c) (v363 I c) (v386 I c) (v424 I c) (v579 I c) (v595 I c) (v596 I c) (cst_398 I c) >>= k) Q) := by
  unfold bufs W
  rw [k0_part18_eq_skeleton]
  unfold k0_part18_skel
  simp only [Prog.bind_lift, Prog.bind_assoc, Prog.bind_op, Prog.bind_ret, Prog.pure_eq_ret]
  iintro ⟨#HI, #HL, R1⟩ Hk
  iapply (load_step c _ (sub5 (peer c 0) (congrFun (k0_off17_eq c 1) 0) rfl (k0_off17_inb c 1))) $$ R1
  iintro R1
  iapply (load_step c _ (sub5 (peer c 0) (congrFun (k0_off18_eq c 1) 0) rfl (k0_off18_inb c 1))) $$ R1
  iintro R1
  iapply (load_step c _ (sub5 (peer c 0) (congrFun (k0_off19_eq c 1) 0) rfl (k0_off19_inb c 1))) $$ R1
  iintro R1
  iapply Hk
  iexact R1

/-- Part 19 awaits the third peer's keys and values. -/
theorem k0_part19_wp {β : Type} {Q : β → sProp 𝕄}
    {k : _ → Pg F β} :
    iprop(allInv I K ∗ levAts L lv ∗ owesE (F := F) c (rs0L c) ∗ A5 (F := F) c (s5 (peer c 0)) (kvR I c) ∗ rx (F := F) 0 c 2)
      ⊢ iprop(((owesE (F := F) c (rs0L c) ∗ A5 (F := F) c (s5 (peer c 0)) (kvR I c) ∗ rxd (F := F) 0 c 2 ∗ A5 (F := F) c (s5 (peer c 2)) (kvR I c)) -∗ W c (k ⟨(v642 I c), (v651 I c), (v656 I c), (v658 I c), (v669 I c), (v670 I c), (c0_i32_443 I c)⟩) Q)
        -∗ W c (bufs k0_part19 c (v2 I c) (v110 I c) (v159 I c) (v184 I c) (v377 I c) (v382 I c) (v384 I c) (v424 I c) (v632 I c) >>= k) Q) := by
  unfold bufs W
  rw [k0_part19_eq_skeleton]
  unfold k0_part19_skel
  simp only [Prog.bind_lift, Prog.bind_assoc, Prog.bind_op, Prog.bind_ret, Prog.pure_eq_ret]
  iintro ⟨#HI, #HL, HO, R1, V02⟩ Hk
  iapply (load_step c _ (sub5 (peer c 0) (congrFun (k0_off20_eq c 1) 0) rfl (k0_off20_inb c 1))) $$ R1
  iintro R1
  iapply (wait_rcv0 I K c 2 (rs0L c) (above_rs0 c (by decide)) (sem_arg10_k0_off21_d0_3 c)) $$ [HO V02]
  · iframe # ∗
  iintro ⟨HO, V02, R3⟩
  iapply Hk
  iframe

/-- Part 20 loads the third peer's keys and values. -/
theorem k0_part20_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v696 I c), (v706 I c), (v708 I c), (v709 I c)⟩) Q)
        -∗ W c (bufs k0_part20 c (v54 I c) (v159 I c) (v658 I c) (v669 I c) (v670 I c) (c0_i32_443 I c) >>= k) Q) := by
  unfold bufs W
  rw [k0_part20_eq_skeleton]
  unfold k0_part20_skel
  simp only [Prog.bind_lift, Prog.bind_assoc, Prog.bind_op, Prog.bind_ret, Prog.pure_eq_ret]
  iintro ⟨#HI, #HL, R3⟩ Hk
  iapply (load_step c _ (sub5 (peer c 2) (congrFun (k0_off5_eq c 3) 0) rfl (k0_off5_inb c 3))) $$ R3
  iintro R3
  iapply (load_step c _ (sub5 (peer c 2) (congrFun (k0_off6_eq c 3) 0) rfl (k0_off6_inb c 3))) $$ R3
  iintro R3
  iapply Hk
  iexact R3

/-- Part 21 loads the third peer's keys and values. -/
theorem k0_part21_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v711 I c), (v720 I c), (v725 I c), (v740 I c), (v749 I c), (v751 I c), (v753 I c)⟩) Q)
        -∗ W c (bufs k0_part21 c (v62 I c) (v439 I c) (v448 I c) (v453 I c) (v468 I c) (v477 I c) (v482 I c) (v658 I c) (v696 I c) (v706 I c) (v708 I c) (v709 I c) >>= k) Q) := by
  unfold bufs W
  rw [k0_part21_eq_skeleton]
  unfold k0_part21_skel
  simp only [Prog.bind_lift, Prog.bind_assoc, Prog.bind_op, Prog.bind_ret, Prog.pure_eq_ret]
  iintro ⟨#HI, #HL, R3⟩ Hk
  iapply (load_step c _ (sub5 (peer c 2) (congrFun (k0_off7_eq c 3) 0) rfl (k0_off7_inb c 3))) $$ R3
  iintro R3
  iapply (load_step c _ (sub5 (peer c 2) (congrFun (k0_off8_eq c 3) 0) rfl (k0_off8_inb c 3))) $$ R3
  iintro R3
  iapply Hk
  iexact R3

/-- Part 22 loads the third peer's keys and values. -/
theorem k0_part22_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v754 I c), (v769 I c), (v778 I c), (v783 I c), (v788 I c)⟩) Q)
        -∗ W c (bufs k0_part22 c (v70 I c) (v497 I c) (v506 I c) (v511 I c) (v658 I c) (v696 I c) (v751 I c) (v753 I c) >>= k) Q) := by
  unfold bufs W
  rw [k0_part22_eq_skeleton]
  unfold k0_part22_skel
  simp only [Prog.bind_lift, Prog.bind_assoc, Prog.bind_op, Prog.bind_ret, Prog.pure_eq_ret]
  iintro ⟨#HI, #HL, R3⟩ Hk
  iapply (load_step c _ (sub5 (peer c 2) (congrFun (k0_off9_eq c 3) 0) rfl (k0_off9_inb c 3))) $$ R3
  iintro R3
  iapply (load_step c _ (sub5 (peer c 2) (congrFun (k0_off10_eq c 3) 0) rfl (k0_off10_inb c 3))) $$ R3
  iintro R3
  iapply (load_step c _ (sub5 (peer c 2) (congrFun (k0_off11_eq c 3) 0) rfl (k0_off11_inb c 3))) $$ R3
  iintro R3
  iapply Hk
  iexact R3

/-- Part 23 loads the third peer's keys and values. -/
theorem k0_part23_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v798 I c), (v807 I c), (v812 I c), (v822 I c), (v827 I c), (v829 I c), (v832 I c), (v833 I c)⟩) Q)
        -∗ W c (bufs k0_part23 c (v78 I c) (v86 I c) (v526 I c) (v535 I c) (v540 I c) (v555 I c) (v564 I c) (v658 I c) (v696 I c) (v788 I c) >>= k) Q) := by
  unfold bufs W
  rw [k0_part23_eq_skeleton]
  unfold k0_part23_skel
  simp only [Prog.bind_lift, Prog.bind_assoc, Prog.bind_op, Prog.bind_ret, Prog.pure_eq_ret]
  iintro ⟨#HI, #HL, R3⟩ Hk
  iapply (load_step c _ (sub5 (peer c 2) (congrFun (k0_off12_eq c 3) 0) rfl (k0_off12_inb c 3))) $$ R3
  iintro R3
  iapply (load_step c _ (sub5 (peer c 2) (congrFun (k0_off13_eq c 3) 0) rfl (k0_off13_inb c 3))) $$ R3
  iintro R3
  iapply (load_step c _ (sub5 (peer c 2) (congrFun (k0_off14_eq c 3) 0) rfl (k0_off14_inb c 3))) $$ R3
  iintro R3
  iapply Hk
  iexact R3

/-- Part 24 loads the third peer's keys and values. -/
theorem k0_part24_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v836 I c), (v841 I c), (v856 I c), (v865 I c), (v870 I c), (v872 I c)⟩) Q)
        -∗ W c (bufs k0_part24 c (v94 I c) (v569 I c) (v584 I c) (v593 I c) (v598 I c) (v658 I c) (v696 I c) (v822 I c) (v829 I c) (v832 I c) (v833 I c) >>= k) Q) := by
  unfold bufs W
  rw [k0_part24_eq_skeleton]
  unfold k0_part24_skel
  simp only [Prog.bind_lift, Prog.bind_assoc, Prog.bind_op, Prog.bind_ret, Prog.pure_eq_ret]
  iintro ⟨#HI, #HL, R3⟩ Hk
  iapply (load_step c _ (sub5 (peer c 2) (congrFun (k0_off15_eq c 3) 0) rfl (k0_off15_inb c 3))) $$ R3
  iintro R3
  iapply (load_step c _ (sub5 (peer c 2) (congrFun (k0_off16_eq c 3) 0) rfl (k0_off16_inb c 3))) $$ R3
  iintro R3
  iapply (load_step c _ (sub5 (peer c 2) (congrFun (k0_off17_eq c 3) 0) rfl (k0_off17_inb c 3))) $$ R3
  iintro R3
  iapply Hk
  iexact R3

end Cert.KernelIdeal.Prf
-- ==== Proof.Load6.lean ====
module

public import proofs.«01_k».proof.Proof.BodyLib

@[expose] public section

set_option maxRecDepth 65536

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- A load from the buffer of partial rows. -/
theorem load6 {α : Type} {Q : α → sProp 𝕄} (r : Rect S4x2x64x512)
    {hl : (Memref.whole cc0_scratch1 : Memref sig .tc _ _ _).view.LoadsAt r.toLoadRect}
    {kk : (r.shape.Idx → Elt F .bf16) → Pg F α}
    {S : Finset S4x2x64x512.Idx} {f : Vec F S4x2x64x512 .bf16} (hS : r.set = S) :
    (A6 c S f : sProp 𝕄)
      ⊢ iprop((A6 c S f -∗ W c (kk (ld f r)) Q)
        -∗ W c (.op (.load (Memref.whole cc0_scratch1) r.toLoadRect hl) kk) Q) :=
  load_step (cs := .vmem) (i := cc0_scratch1.idx) (hκ := cc0_scratch1.names) c r hS.subset

end Cert.KernelIdeal.Prf
-- ==== Proof.BodyC.lean ====
module

public import proofs.«01_k».proof.Proof.Load6

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- Part 25 loads the third peer's keys and values. -/
theorem k0_part25_wp {β : Type} {Q : β → sProp 𝕄}
    {k : _ → Pg F β} :
    iprop(allInv I K ∗ levAts L lv ∗ A5 (F := F) c (s5 (peer c 2)) (kvR I c))
      ⊢ iprop(((A5 (F := F) c (s5 (peer c 2)) (kvR I c)) -∗ W c (k ⟨(v885 I c), (v894 I c), (v899 I c), (v909 I c), (v911 I c)⟩) Q)
        -∗ W c (bufs k0_part25 c (v102 I c) (v110 I c) (v613 I c) (v622 I c) (v627 I c) (v658 I c) (v696 I c) (v872 I c) >>= k) Q) := by
  unfold bufs W
  rw [k0_part25_eq_skeleton]
  unfold k0_part25_skel
  simp only [Prog.bind_lift, Prog.bind_assoc, Prog.bind_op, Prog.bind_ret, Prog.pure_eq_ret]
  iintro ⟨#HI, #HL, R3⟩ Hk
  iapply (load_step c _ (sub5 (peer c 2) (congrFun (k0_off18_eq c 3) 0) rfl (k0_off18_inb c 3))) $$ R3
  iintro R3
  iapply (load_step c _ (sub5 (peer c 2) (congrFun (k0_off19_eq c 3) 0) rfl (k0_off19_inb c 3))) $$ R3
  iintro R3
  iapply (load_step c _ (sub5 (peer c 2) (congrFun (k0_off20_eq c 3) 0) rfl (k0_off20_inb c 3))) $$ R3
  iintro R3
  iapply Hk
  iexact R3

/-- Part 26 awaits the second peer's keys and values. -/
theorem k0_part26_wp {β : Type} {Q : β → sProp 𝕄}
    {k : _ → Pg F β} :
    iprop(allInv I K ∗ levAts L lv ∗ owesE (F := F) c (rs0L c) ∗ rx (F := F) 0 c 1)
      ⊢ iprop(((owesE (F := F) c (rs0L c) ∗ rxd (F := F) 0 c 1 ∗ A5 (F := F) c (s5 (peer c 1)) (kvR I c)) -∗ W c (k ⟨(v914 I c), (v923 I c), (v928 I c), (v930 I c), (v945 I c), (v946 I c), (v948 I c)⟩) Q)
        -∗ W c (bufs k0_part26 c (v2 I c) (v159 I c) (v184 I c) (v642 I c) (v651 I c) (v656 I c) (v909 I c) (v911 I c) >>= k) Q) := by
  unfold bufs W
  rw [k0_part26_eq_skeleton]
  unfold k0_part26_skel
  simp only [Prog.bind_lift, Prog.bind_assoc, Prog.bind_op, Prog.bind_ret, Prog.pure_eq_ret]
  iintro ⟨#HI, #HL, HO, V01⟩ Hk
  iapply (wait_rcv0 I K c 1 (rs0L c) (above_rs0 c (by decide)) (sem_arg10_k0_off21_d0_2 c)) $$ [HO V01]
  · iframe # ∗
  iintro ⟨HO, V01, R2⟩
  iapply Hk
  iframe

/-- Part 27 loads the second peer's keys and values. -/
theorem k0_part27_wp {β : Type} {Q : β → sProp 𝕄}
    {k : _ → Pg F β} :
    iprop(allInv I K ∗ levAts L lv ∗ A5 (F := F) c (s5 (peer c 1)) (kvR I c))
      ⊢ iprop(((A5 (F := F) c (s5 (peer c 1)) (kvR I c)) -∗ W c (k ⟨(v968 I c), (v978 I c), (v985 I c), (v988 I c), (v989 I c)⟩) Q)
        -∗ W c (bufs k0_part27 c (v54 I c) (v711 I c) (v720 I c) (v930 I c) (v945 I c) (v946 I c) (v948 I c) >>= k) Q) := by
  unfold bufs W
  rw [k0_part27_eq_skeleton]
  unfold k0_part27_skel
  simp only [Prog.bind_lift, Prog.bind_assoc, Prog.bind_op, Prog.bind_ret, Prog.pure_eq_ret]
  iintro ⟨#HI, #HL, R2⟩ Hk
  iapply (load_step c _ (sub5 (peer c 1) (congrFun (k0_off5_eq c 2) 0) rfl (k0_off5_inb c 2))) $$ R2
  iintro R2
  iapply (load_step c _ (sub5 (peer c 1) (congrFun (k0_off6_eq c 2) 0) rfl (k0_off6_inb c 2))) $$ R2
  iintro R2
  iapply Hk
  iexact R2

/-- Part 28 loads the second peer's keys and values. -/
theorem k0_part28_wp {β : Type} {Q : β → sProp 𝕄}
    {k : _ → Pg F β} :
    iprop(allInv I K ∗ levAts L lv ∗ A5 (F := F) c (s5 (peer c 1)) (kvR I c))
      ⊢ iprop(((A5 (F := F) c (s5 (peer c 1)) (kvR I c)) -∗ W c (k ⟨(v992 I c), (v997 I c), (v1021 I c), (v1026 I c), (v1029 I c)⟩) Q)
        -∗ W c (bufs k0_part28 c (v62 I c) (v725 I c) (v740 I c) (v749 I c) (v754 I c) (v930 I c) (v968 I c) (v978 I c) (v985 I c) (v988 I c) (v989 I c) >>= k) Q) := by
  unfold bufs W
  rw [k0_part28_eq_skeleton]
  unfold k0_part28_skel
  simp only [Prog.bind_lift, Prog.bind_assoc, Prog.bind_op, Prog.bind_ret, Prog.pure_eq_ret]
  iintro ⟨#HI, #HL, R2⟩ Hk
  iapply (load_step c _ (sub5 (peer c 1) (congrFun (k0_off7_eq c 2) 0) rfl (k0_off7_inb c 2))) $$ R2
  iintro R2
  iapply (load_step c _ (sub5 (peer c 1) (congrFun (k0_off8_eq c 2) 0) rfl (k0_off8_inb c 2))) $$ R2
  iintro R2
  iapply (load_step c _ (sub5 (peer c 1) (congrFun (k0_off9_eq c 2) 0) rfl (k0_off9_inb c 2))) $$ R2
  iintro R2
  iapply Hk
  iexact R2

/-- Part 29 loads the second peer's keys and values. -/
theorem k0_part29_wp {β : Type} {Q : β → sProp 𝕄}
    {k : _ → Pg F β} :
    iprop(allInv I K ∗ levAts L lv ∗ A5 (F := F) c (s5 (peer c 1)) (kvR I c))
      ⊢ iprop(((A5 (F := F) c (s5 (peer c 1)) (kvR I c)) -∗ W c (k ⟨(v1050 I c), (v1055 I c), (v1065 I c), (v1067 I c), (v1068 I c)⟩) Q)
        -∗ W c (bufs k0_part29 c (v70 I c) (v78 I c) (v769 I c) (v778 I c) (v783 I c) (v930 I c) (v968 I c) (v1029 I c) >>= k) Q) := by
  unfold bufs W
  rw [k0_part29_eq_skeleton]
  unfold k0_part29_skel
  simp only [Prog.bind_lift, Prog.bind_assoc, Prog.bind_op, Prog.bind_ret, Prog.pure_eq_ret]
  iintro ⟨#HI, #HL, R2⟩ Hk
  iapply (load_step c _ (sub5 (peer c 1) (congrFun (k0_off10_eq c 2) 0) rfl (k0_off10_inb c 2))) $$ R2
  iintro R2
  iapply (load_step c _ (sub5 (peer c 1) (congrFun (k0_off11_eq c 2) 0) rfl (k0_off11_inb c 2))) $$ R2
  iintro R2
  iapply (load_step c _ (sub5 (peer c 1) (congrFun (k0_off12_eq c 2) 0) rfl (k0_off12_inb c 2))) $$ R2
  iintro R2
  iapply Hk
  iexact R2

/-- Part 30 loads output weights. -/
theorem k0_part30_wp {β : Type} {Q : β → sProp 𝕄}
    {k : _ → Pg F β} :
    iprop(allInv I K ∗ levAts L lv ∗ A3 (F := F) c (I.wo c))
      ⊢ iprop(((A3 (F := F) c (I.wo c)) -∗ W c (k ⟨(v1079 I c), (v1084 I c), (v1103 I c), (v1108 I c), (v1110 I c), (cst_662 I c)⟩) Q)
        -∗ W c (bufs k0_part30 (v798 I c) (v807 I c) (v812 I c) (v992 I c) (v997 I c) (v1021 I c) (v1026 I c) (v1050 I c) (v1055 I c) (v1065 I c) (v1067 I c) (v1068 I c) >>= k) Q) := by
  unfold bufs W
  rw [k0_part30_eq_skeleton]
  unfold k0_part30_skel
  simp only [Prog.bind_lift, Prog.bind_assoc, Prog.bind_op, Prog.bind_ret, Prog.pure_eq_ret]
  iintro ⟨#HI, #HL, B3⟩ Hk
  iapply (load_step c _ (Finset.subset_univ _)) $$ B3
  iintro B3
  iapply (load_step c _ (Finset.subset_univ _)) $$ B3
  iintro B3
  iapply (load_step c _ (Finset.subset_univ _)) $$ B3
  iintro B3
  iapply Hk
  iexact B3

/-- Part 31 stores batch 0's partial rows. -/
theorem k0_part31_wp {β : Type} {Q : β → sProp 𝕄} {f6 : Vec F S4x2x64x512 .bf16}
    {k : _ → Pg F β} :
    iprop(allInv I K ∗ levAts L lv ∗ A3 (F := F) c (I.wo c) ∗ A6 (F := F) c (s7 0 0) f6 ∗ A6 (F := F) c (s7 1 0) f6 ∗ A6 (F := F) c (s7 2 0) f6 ∗ A6 (F := F) c (s7 3 0) f6)
      ⊢ iprop(((A3 (F := F) c (I.wo c) ∗ A6 (F := F) c (s7 0 0) (pqR I c) ∗ A6 (F := F) c (s7 1 0) (pqR I c) ∗ A6 (F := F) c (s7 2 0) (pqR I c) ∗ A6 (F := F) c (s7 3 0) (pqR I c)) -∗ W c (k (v1140 I c)) Q)
        -∗ W c (bufs k0_part31 (v2 I c) (v1079 I c) (v1084 I c) (v1103 I c) (v1108 I c) (v1110 I c) (cst_662 I c) >>= k) Q) := by
  unfold bufs W
  rw [k0_part31_eq_skeleton]
  unfold k0_part31_skel
  simp only [Prog.bind_lift, Prog.bind_assoc, Prog.bind_op, Prog.bind_ret, Prog.pure_eq_ret]
  iintro ⟨#HI, #HL, B3, P00, P10, P20, P30⟩ Hk
  iapply (load_step c _ (Finset.subset_univ _)) $$ B3
  iintro B3
  iapply (load6 c (Rect.unit (s := S4x2x64x512) ![0, 0, 0, 0] S1x1x64x512.size inb_S4x2x64x512_S1x1x64x512_0_0_0_0) (unit7 0 0 rfl inb_S4x2x64x512_S1x1x64x512_0_0_0_0)) $$ P00
  iintro P00
  iapply (store6 c (Rect.unit (s := S4x2x64x512) ![0, 0, 0, 0] S1x1x64x512.size inb_S4x2x64x512_S1x1x64x512_0_0_0_0) _ (pqR I c) (unit7 0 0 rfl inb_S4x2x64x512_S1x1x64x512_0_0_0_0) (pqR_emb I c 0 0 rfl inb_S4x2x64x512_S1x1x64x512_0_0_0_0)) $$ P00
  iintro P00
  iapply (load6 c (Rect.unit (s := S4x2x64x512) ![1, 0, 0, 0] S1x1x64x512.size inb_S4x2x64x512_S1x1x64x512_1_0_0_0) (unit7 1 0 rfl inb_S4x2x64x512_S1x1x64x512_1_0_0_0)) $$ P10
  iintro P10
  iapply (store6 c (Rect.unit (s := S4x2x64x512) ![1, 0, 0, 0] S1x1x64x512.size inb_S4x2x64x512_S1x1x64x512_1_0_0_0) _ (pqR I c) (unit7 1 0 rfl inb_S4x2x64x512_S1x1x64x512_1_0_0_0) (pqR_emb I c 1 0 rfl inb_S4x2x64x512_S1x1x64x512_1_0_0_0)) $$ P10
  iintro P10
  iapply (load6 c (Rect.unit (s := S4x2x64x512) ![2, 0, 0, 0] S1x1x64x512.size inb_S4x2x64x512_S1x1x64x512_2_0_0_0) (unit7 2 0 rfl inb_S4x2x64x512_S1x1x64x512_2_0_0_0)) $$ P20
  iintro P20
  iapply (store6 c (Rect.unit (s := S4x2x64x512) ![2, 0, 0, 0] S1x1x64x512.size inb_S4x2x64x512_S1x1x64x512_2_0_0_0) _ (pqR I c) (unit7 2 0 rfl inb_S4x2x64x512_S1x1x64x512_2_0_0_0) (pqR_emb I c 2 0 rfl inb_S4x2x64x512_S1x1x64x512_2_0_0_0)) $$ P20
  iintro P20
  iapply (load6 c (Rect.unit (s := S4x2x64x512) ![3, 0, 0, 0] S1x1x64x512.size inb_S4x2x64x512_S1x1x64x512_3_0_0_0) (unit7 3 0 rfl inb_S4x2x64x512_S1x1x64x512_3_0_0_0)) $$ P30
  iintro P30
  iapply (store6 c (Rect.unit (s := S4x2x64x512) ![3, 0, 0, 0] S1x1x64x512.size inb_S4x2x64x512_S1x1x64x512_3_0_0_0) _ (pqR I c) (unit7 3 0 rfl inb_S4x2x64x512_S1x1x64x512_3_0_0_0) (pqR_emb I c 3 0 rfl inb_S4x2x64x512_S1x1x64x512_3_0_0_0)) $$ P30
  iintro P30
  iapply Hk
  iframe

/-- Part 32 sends batch 0's rows to two peers. -/
theorem k0_part32_wp {β : Type} {Q : β → sProp 𝕄}
    {k : _ → Pg F β} :
    iprop(allInv I K ∗ levAts L lv ∗ owesE (F := F) c (rs0L c) ∗ tx (F := F) 1 c 0 ∗ lend (F := F) 1 (peer c 0) c ∗ A6 (F := F) c (s7 (peer c 0) 0) (pqR I c) ∗ tx (F := F) 1 c 2 ∗ lend (F := F) 1 (peer c 2) c ∗ A6 (F := F) c (s7 (peer c 2) 0) (pqR I c))
      ⊢ iprop(((owesE (F := F) c (du 1 c 1 :: rs1L c) ∗ txs (F := F) 1 c 0 ∗ txs (F := F) 1 c 2) -∗ W c (k ⟨⟩) Q)
        -∗ W c (bufs k0_part32 c (v2 I c) (v1140 I c) >>= k) Q) := by
  unfold bufs W
  rw [k0_part32_eq_skeleton]
  unfold k0_part32_skel
  simp only [Prog.bind_lift, Prog.bind_assoc, Prog.bind_op, Prog.bind_ret, Prog.pure_eq_ret]
  iintro ⟨#HI, #HL, HO, T10, D10, Q00, T12, D12, Q20⟩ Hk
  ihave HO := (Entails.of_eq (show owesE (F := F) c (rs0L c) = owesE (F := F) c (du 1 c 0 :: du 1 c 2 :: du 1 c 1 :: rs1L c) from rfl)) $$ HO
  iapply (send_rs I K c 1 0 (.inl ⟨rfl, rfl⟩) 0 (du 1 c 2 :: du 1 c 1 :: rs1L c) (k0_dev7_peer c) (k0_off24_eq c 0) (k0_off23_eq c) (sem_arg11_0_0 c) (sem_arg12_k0_off22_d0 c)) $$ [HO T10 D10 Q00]
  · iframe # ∗
  iintro ⟨HO, T10⟩
  iapply (send_rs I K c 1 0 (.inl ⟨rfl, rfl⟩) 2 (du 1 c 1 :: rs1L c) (k0_dev8_peer c) (k0_off24_eq c 2) (k0_off23_eq c) (sem_arg11_2_0 c) (sem_arg12_k0_off22_d0 c)) $$ [HO T12 D12 Q20]
  · iframe # ∗
  iintro ⟨HO, T12⟩
  iapply Hk
  iframe

/-- Part 33 sends batch 0's rows to the third. -/
theorem k0_part33_wp {β : Type} {Q : β → sProp 𝕄}
    {k : _ → Pg F β} :
    iprop(allInv I K ∗ levAts L lv ∗ owesE (F := F) c (du 1 c 1 :: rs1L c) ∗ tx (F := F) 1 c 1 ∗ lend (F := F) 1 (peer c 1) c ∗ A6 (F := F) c (s7 (peer c 1) 0) (pqR I c) ∗ A5 (F := F) c (s5 (peer c 1)) (kvR I c))
      ⊢ iprop(((owesE (F := F) c (rs1L c) ∗ txs (F := F) 1 c 1 ∗ A5 (F := F) c (s5 (peer c 1)) (kvR I c)) -∗ W c (k ⟨(v1198 I c), (v1203 I c)⟩) Q)
        -∗ W c (bufs k0_part33 c (v86 I c) (v827 I c) (v836 I c) (v841 I c) (v930 I c) (v968 I c) >>= k) Q) := by
  unfold bufs W
  rw [k0_part33_eq_skeleton]
  unfold k0_part33_skel
  simp only [Prog.bind_lift, Prog.bind_assoc, Prog.bind_op, Prog.bind_ret, Prog.pure_eq_ret]
  iintro ⟨#HI, #HL, HO, T11, D11, Q10, R2⟩ Hk
  iapply (send_rs I K c 1 0 (.inl ⟨rfl, rfl⟩) 1 (rs1L c) (k0_dev9_peer c) (k0_off24_eq c 1) (k0_off23_eq c) (sem_arg11_1_0 c) (sem_arg12_k0_off22_d0 c)) $$ [HO T11 D11 Q10]
  · iframe # ∗
  iintro ⟨HO, T11⟩
  iapply (load_step c _ (sub5 (peer c 1) (congrFun (k0_off13_eq c 2) 0) rfl (k0_off13_inb c 2))) $$ R2
  iintro R2
  iapply (load_step c _ (sub5 (peer c 1) (congrFun (k0_off14_eq c 2) 0) rfl (k0_off14_inb c 2))) $$ R2
  iintro R2
  iapply Hk
  iframe

/-- Part 34 loads the second peer's keys and values. -/
theorem k0_part34_wp {β : Type} {Q : β → sProp 𝕄}
    {k : _ → Pg F β} :
    iprop(allInv I K ∗ levAts L lv ∗ A5 (F := F) c (s5 (peer c 1)) (kvR I c))
      ⊢ iprop(((A5 (F := F) c (s5 (peer c 1)) (kvR I c)) -∗ W c (k ⟨(v1227 I c), (v1232 I c), (v1242 I c), (v1244 I c)⟩) Q)
        -∗ W c (bufs k0_part34 c (v94 I c) (v102 I c) (v856 I c) (v865 I c) (v870 I c) (v930 I c) (v968 I c) >>= k) Q) := by
  unfold bufs W
  rw [k0_part34_eq_skeleton]
  unfold k0_part34_skel
  simp only [Prog.bind_lift, Prog.bind_assoc, Prog.bind_op, Prog.bind_ret, Prog.pure_eq_ret]
  iintro ⟨#HI, #HL, R2⟩ Hk
  iapply (load_step c _ (sub5 (peer c 1) (congrFun (k0_off15_eq c 2) 0) rfl (k0_off15_inb c 2))) $$ R2
  iintro R2
  iapply (load_step c _ (sub5 (peer c 1) (congrFun (k0_off16_eq c 2) 0) rfl (k0_off16_inb c 2))) $$ R2
  iintro R2
  iapply (load_step c _ (sub5 (peer c 1) (congrFun (k0_off17_eq c 2) 0) rfl (k0_off17_inb c 2))) $$ R2
  iintro R2
  iapply (load_step c _ (sub5 (peer c 1) (congrFun (k0_off18_eq c 2) 0) rfl (k0_off18_inb c 2))) $$ R2
  iintro R2
  iapply Hk
  iexact R2

/-- Part 35 loads the second peer's keys and values. -/
theorem k0_part35_wp {β : Type} {Q : β → sProp 𝕄}
    {k : _ → Pg F β} :
    iprop(allInv I K ∗ levAts L lv ∗ A5 (F := F) c (s5 (peer c 1)) (kvR I c))
      ⊢ iprop(((A5 (F := F) c (s5 (peer c 1)) (kvR I c)) -∗ W c (k ⟨(v1256 I c), (v1261 I c), (v1271 I c), (v1285 I c), (v1287 I c), (v1288 I c)⟩) Q)
        -∗ W c (bufs k0_part35 c (v110 I c) (v885 I c) (v894 I c) (v899 I c) (v914 I c) (v923 I c) (v928 I c) (v930 I c) (v968 I c) (v1242 I c) (v1244 I c) >>= k) Q) := by
  unfold bufs W
  rw [k0_part35_eq_skeleton]
  unfold k0_part35_skel
  simp only [Prog.bind_lift, Prog.bind_assoc, Prog.bind_op, Prog.bind_ret, Prog.pure_eq_ret]
  iintro ⟨#HI, #HL, R2⟩ Hk
  iapply (load_step c _ (sub5 (peer c 1) (congrFun (k0_off19_eq c 2) 0) rfl (k0_off19_inb c 2))) $$ R2
  iintro R2
  iapply (load_step c _ (sub5 (peer c 1) (congrFun (k0_off20_eq c 2) 0) rfl (k0_off20_inb c 2))) $$ R2
  iintro R2
  iapply Hk
  iexact R2

end Cert.KernelIdeal.Prf
-- ==== Proof.BodyD.lean ====
module

public import proofs.«01_k».proof.Proof.Load6

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-- Part 36 loads output weights. -/
theorem k0_part36_wp {β : Type} {Q : β → sProp 𝕄}
    {k : _ → Pg F β} :
    iprop(allInv I K ∗ levAts L lv ∗ A3 (F := F) c (I.wo c))
      ⊢ iprop(((A3 (F := F) c (I.wo c)) -∗ W c (k ⟨(v1318 I c), (v1326 I c)⟩) Q)
        -∗ W c (bufs k0_part36 (v1198 I c) (v1203 I c) (v1227 I c) (v1232 I c) (v1256 I c) (v1261 I c) (v1271 I c) (v1285 I c) (v1287 I c) (v1288 I c) >>= k) Q) := by
  unfold bufs W
  rw [k0_part36_eq_skeleton]
  unfold k0_part36_skel
  simp only [Prog.bind_lift, Prog.bind_assoc, Prog.bind_op, Prog.bind_ret, Prog.pure_eq_ret]
  iintro ⟨#HI, #HL, B3⟩ Hk
  iapply (load_step c _ (Finset.subset_univ _)) $$ B3
  iintro B3
  iapply (load_step c _ (Finset.subset_univ _)) $$ B3
  iintro B3
  iapply (load_step c _ (Finset.subset_univ _)) $$ B3
  iintro B3
  iapply (load_step c _ (Finset.subset_univ _)) $$ B3
  iintro B3
  iapply Hk
  iexact B3

/-- Part 37 stores batch 1's partial rows. -/
theorem k0_part37_wp {β : Type} {Q : β → sProp 𝕄} {f6 : Vec F S4x2x64x512 .bf16}
    {k : _ → Pg F β} :
    iprop(allInv I K ∗ levAts L lv ∗ A6 (F := F) c (s7 0 1) f6 ∗ A6 (F := F) c (s7 1 1) f6 ∗ A6 (F := F) c (s7 2 1) f6 ∗ A6 (F := F) c (s7 3 1) f6)
      ⊢ iprop(((A6 (F := F) c (s7 0 1) (pqR I c) ∗ A6 (F := F) c (s7 1 1) (pqR I c) ∗ A6 (F := F) c (s7 2 1) (pqR I c) ∗ A6 (F := F) c (s7 3 1) (pqR I c)) -∗ W c (k ⟨⟩) Q)
        -∗ W c (bufs k0_part37 c (v2 I c) (v1318 I c) (v1326 I c) >>= k) Q) := by
  unfold bufs W
  rw [k0_part37_eq_skeleton]
  unfold k0_part37_skel
  simp only [Prog.bind_lift, Prog.bind_assoc, Prog.bind_op, Prog.bind_ret, Prog.pure_eq_ret]
  iintro ⟨#HI, #HL, P01, P11, P21, P31⟩ Hk
  iapply (load6 c (Rect.unit (s := S4x2x64x512) ![0, 1, 0, 0] S1x1x64x512.size inb_S4x2x64x512_S1x1x64x512_0_1_0_0) (unit7 0 1 rfl inb_S4x2x64x512_S1x1x64x512_0_1_0_0)) $$ P01
  iintro P01
  iapply (store6 c (Rect.unit (s := S4x2x64x512) ![0, 1, 0, 0] S1x1x64x512.size inb_S4x2x64x512_S1x1x64x512_0_1_0_0) _ (pqR I c) (unit7 0 1 rfl inb_S4x2x64x512_S1x1x64x512_0_1_0_0) (pqR_emb I c 0 1 rfl inb_S4x2x64x512_S1x1x64x512_0_1_0_0)) $$ P01
  iintro P01
  iapply (load6 c (Rect.unit (s := S4x2x64x512) ![1, 1, 0, 0] S1x1x64x512.size inb_S4x2x64x512_S1x1x64x512_1_1_0_0) (unit7 1 1 rfl inb_S4x2x64x512_S1x1x64x512_1_1_0_0)) $$ P11
  iintro P11
  iapply (store6 c (Rect.unit (s := S4x2x64x512) ![1, 1, 0, 0] S1x1x64x512.size inb_S4x2x64x512_S1x1x64x512_1_1_0_0) _ (pqR I c) (unit7 1 1 rfl inb_S4x2x64x512_S1x1x64x512_1_1_0_0) (pqR_emb I c 1 1 rfl inb_S4x2x64x512_S1x1x64x512_1_1_0_0)) $$ P11
  iintro P11
  iapply (load6 c (Rect.unit (s := S4x2x64x512) ![2, 1, 0, 0] S1x1x64x512.size inb_S4x2x64x512_S1x1x64x512_2_1_0_0) (unit7 2 1 rfl inb_S4x2x64x512_S1x1x64x512_2_1_0_0)) $$ P21
  iintro P21
  iapply (store6 c (Rect.unit (s := S4x2x64x512) ![2, 1, 0, 0] S1x1x64x512.size inb_S4x2x64x512_S1x1x64x512_2_1_0_0) _ (pqR I c) (unit7 2 1 rfl inb_S4x2x64x512_S1x1x64x512_2_1_0_0) (pqR_emb I c 2 1 rfl inb_S4x2x64x512_S1x1x64x512_2_1_0_0)) $$ P21
  iintro P21
  iapply (load6 c (Rect.unit (s := S4x2x64x512) ![3, 1, 0, 0] S1x1x64x512.size inb_S4x2x64x512_S1x1x64x512_3_1_0_0) (unit7 3 1 rfl inb_S4x2x64x512_S1x1x64x512_3_1_0_0)) $$ P31
  iintro P31
  iapply (store6 c (Rect.unit (s := S4x2x64x512) ![3, 1, 0, 0] S1x1x64x512.size inb_S4x2x64x512_S1x1x64x512_3_1_0_0) _ (pqR I c) (unit7 3 1 rfl inb_S4x2x64x512_S1x1x64x512_3_1_0_0) (pqR_emb I c 3 1 rfl inb_S4x2x64x512_S1x1x64x512_3_1_0_0)) $$ P31
  iintro P31
  iapply Hk
  iframe

/-- Part 38 sends batch 1's rows. -/
theorem k0_part38_wp {β : Type} {Q : β → sProp 𝕄}
    {k : _ → Pg F β} :
    iprop(allInv I K ∗ levAts L lv ∗ owesE (F := F) c (rs1L c) ∗ tx (F := F) 2 c 0 ∗ lend (F := F) 2 (peer c 0) c ∗ A6 (F := F) c (s7 (peer c 0) 1) (pqR I c) ∗ tx (F := F) 2 c 2 ∗ lend (F := F) 2 (peer c 2) c ∗ A6 (F := F) c (s7 (peer c 2) 1) (pqR I c) ∗ tx (F := F) 2 c 1 ∗ lend (F := F) 2 (peer c 1) c ∗ A6 (F := F) c (s7 (peer c 1) 1) (pqR I c))
      ⊢ iprop(((owesE (F := F) c (agL c) ∗ txs (F := F) 2 c 0 ∗ txs (F := F) 2 c 2 ∗ txs (F := F) 2 c 1) -∗ W c (k ⟨⟩) Q)
        -∗ W c (bufs k0_part38 c (v2 I c) >>= k) Q) := by
  unfold bufs W
  rw [k0_part38_eq_skeleton]
  unfold k0_part38_skel
  simp only [Prog.bind_lift, Prog.bind_assoc, Prog.bind_op, Prog.bind_ret, Prog.pure_eq_ret]
  iintro ⟨#HI, #HL, HO, T20, D20, Q01, T22, D22, Q21, T21, D21, Q11⟩ Hk
  ihave HO := (Entails.of_eq (show owesE (F := F) c (rs1L c) = owesE (F := F) c (du 2 c 0 :: du 2 c 2 :: du 2 c 1 :: agL c) from rfl)) $$ HO
  iapply (send_rs I K c 2 1 (.inr ⟨rfl, rfl⟩) 0 (du 2 c 2 :: du 2 c 1 :: agL c) (k0_dev10_peer c) (k0_off27_eq c 0) (k0_off26_eq c) (sem_arg11_0_1 c) (sem_arg12_k0_off25_d0 c)) $$ [HO T20 D20 Q01]
  · iframe # ∗
  iintro ⟨HO, T20⟩
  iapply (send_rs I K c 2 1 (.inr ⟨rfl, rfl⟩) 2 (du 2 c 1 :: agL c) (k0_dev11_peer c) (k0_off27_eq c 2) (k0_off26_eq c) (sem_arg11_2_1 c) (sem_arg12_k0_off25_d0 c)) $$ [HO T22 D22 Q21]
  · iframe # ∗
  iintro ⟨HO, T22⟩
  iapply (send_rs I K c 2 1 (.inr ⟨rfl, rfl⟩) 1 (agL c) (k0_dev12_peer c) (k0_off27_eq c 1) (k0_off26_eq c) (sem_arg11_1_1 c) (sem_arg12_k0_off25_d0 c)) $$ [HO T21 D21 Q11]
  · iframe # ∗
  iintro ⟨HO, T21⟩
  iapply Hk
  iframe

/-- Part 39 awaits the first peer's rows. -/
theorem k0_part39_wp {β : Type} {Q : β → sProp 𝕄}
    {k : _ → Pg F β} :
    iprop(allInv I K ∗ levAts L lv ∗ owesE (F := F) c (agL c) ∗ txs (F := F) 0 c 1 ∗ A6 (F := F) c (s4 c) (pqR I c) ∗ rx (F := F) 1 c 0)
      ⊢ iprop(((owesE (F := F) c (agL c) ∗ txd (F := F) 0 c 1 ∗ A2 (F := F) c (s5 (peer c 1)) (I.kv c) ∗ A6 (F := F) c (s4 c) (pqR I c) ∗ rxd (F := F) 1 c 0 ∗ A7 (F := F) c (s7 (peer c 0) 0) (rsR I c)) -∗ W c (k ⟨(v1390 I c), (v1392 I c)⟩) Q)
        -∗ W c (bufs k0_part39 c (v2 I c) >>= k) Q) := by
  unfold bufs W
  rw [k0_part39_eq_skeleton]
  unfold k0_part39_skel
  simp only [Prog.bind_lift, Prog.bind_assoc, Prog.bind_op, Prog.bind_ret, Prog.pure_eq_ret]
  iintro ⟨#HI, #HL, HO, T01, PO, V10⟩ Hk
  iapply (wait_snd0 I K c 1 (agL c) (above_ag c (by decide)) (sem_arg9_1 c)) $$ [HO T01]
  · iframe # ∗
  iintro ⟨HO, T01, K2⟩
  iapply (load_step c _ ((unit4 c (k0_off28_eq c) (k0_off28_inb c)).subset)) $$ PO
  iintro PO
  iapply (wait_rcv1 I K c 0 (agL c) (above_ag c (by decide)) (sem_arg12_k0_off29_d0_1 c)) $$ [HO V10]
  · iframe # ∗
  iintro ⟨HO, V10, S10⟩
  iapply Hk
  iframe

/-- Part 40 awaits rows of two peers. -/
theorem k0_part40_wp {β : Type} {Q : β → sProp 𝕄}
    {k : _ → Pg F β} :
    iprop(allInv I K ∗ levAts L lv ∗ owesE (F := F) c (agL c) ∗ rx (F := F) 2 c 0 ∗ A7 (F := F) c (s7 (peer c 0) 0) (rsR I c) ∗ rx (F := F) 1 c 2 ∗ rx (F := F) 2 c 2)
      ⊢ iprop(((owesE (F := F) c (agL c) ∗ rxd (F := F) 2 c 0 ∗ A7 (F := F) c (s4 (peer c 0)) (rsR I c) ∗ rxd (F := F) 1 c 2 ∗ A7 (F := F) c (s7 (peer c 2) 0) (rsR I c) ∗ rxd (F := F) 2 c 2 ∗ A7 (F := F) c (s7 (peer c 2) 1) (rsR I c)) -∗ W c (k (v1413 I c)) Q)
        -∗ W c (bufs k0_part40 c (v2 I c) (v1390 I c) (v1392 I c) >>= k) Q) := by
  unfold bufs W
  rw [k0_part40_eq_skeleton]
  unfold k0_part40_skel
  simp only [Prog.bind_lift, Prog.bind_assoc, Prog.bind_op, Prog.bind_ret, Prog.pure_eq_ret]
  iintro ⟨#HI, #HL, HO, V20, S10, V12, V22⟩ Hk
  iapply (wait_rcv2 I K c 0 (agL c) (above_ag c (by decide)) (sem_arg12_k0_off30_d0_1 c)) $$ [HO V20]
  · iframe # ∗
  iintro ⟨HO, V20, S11⟩
  ihave S1 := (join7 c (peer c 0) (rsR I c)) $$ [S10 S11]
  · iframe
  iapply (load_step c _ ((unit4 (peer c 0) (k0_off31_eq c 0) (k0_off31_inb c 0)).subset)) $$ S1
  iintro S1
  iapply (wait_rcv1 I K c 2 (agL c) (above_ag c (by decide)) (sem_arg12_k0_off29_d0_3 c)) $$ [HO V12]
  · iframe # ∗
  iintro ⟨HO, V12, S30⟩
  iapply (wait_rcv2 I K c 2 (agL c) (above_ag c (by decide)) (sem_arg12_k0_off30_d0_3 c)) $$ [HO V22]
  · iframe # ∗
  iintro ⟨HO, V22, S31⟩
  iapply Hk
  iframe

/-- Part 41 awaits the second peer's rows and sums. -/
theorem k0_part41_wp {β : Type} {Q : β → sProp 𝕄}
    {k : _ → Pg F β} :
    iprop(allInv I K ∗ levAts L lv ∗ owesE (F := F) c (agL c) ∗ A7 (F := F) c (s7 (peer c 2) 0) (rsR I c) ∗ A7 (F := F) c (s7 (peer c 2) 1) (rsR I c) ∗ rx (F := F) 1 c 1 ∗ rx (F := F) 2 c 1)
      ⊢ iprop(((owesE (F := F) c (agL c) ∗ A7 (F := F) c (s4 (peer c 2)) (rsR I c) ∗ rxd (F := F) 1 c 1 ∗ rxd (F := F) 2 c 1 ∗ A7 (F := F) c (s4 (peer c 1)) (rsR I c)) -∗ W c (k ⟨(v1459 I c), (v1461 I c)⟩) Q)
        -∗ W c (bufs k0_part41 c (v2 I c) (v1413 I c) >>= k) Q) := by
  unfold bufs W
  rw [k0_part41_eq_skeleton]
  unfold k0_part41_skel
  simp only [Prog.bind_lift, Prog.bind_assoc, Prog.bind_op, Prog.bind_ret, Prog.pure_eq_ret]
  iintro ⟨#HI, #HL, HO, S30, S31, V11, V21⟩ Hk
  ihave S3 := (join7 c (peer c 2) (rsR I c)) $$ [S30 S31]
  · iframe
  iapply (load_step c _ ((unit4 (peer c 2) (k0_off31_eq c 2) (k0_off31_inb c 2)).subset)) $$ S3
  iintro S3
  iapply (wait_rcv1 I K c 1 (agL c) (above_ag c (by decide)) (sem_arg12_k0_off29_d0_2 c)) $$ [HO V11]
  · iframe # ∗
  iintro ⟨HO, V11, S20⟩
  iapply (wait_rcv2 I K c 1 (agL c) (above_ag c (by decide)) (sem_arg12_k0_off30_d0_2 c)) $$ [HO V21]
  · iframe # ∗
  iintro ⟨HO, V21, S21⟩
  ihave S2 := (join7 c (peer c 1) (rsR I c)) $$ [S20 S21]
  · iframe
  iapply (load_step c _ ((unit4 (peer c 1) (k0_off31_eq c 1) (k0_off31_inb c 1)).subset)) $$ S2
  iintro S2
  iapply Hk
  iframe

/-- Part 42 sends the sums to two peers. -/
theorem k0_part42_wp {β : Type} {Q : β → sProp 𝕄} {f8 : Vec F S4x2x64x512 .bf16}
    {k : _ → Pg F β} :
    iprop(allInv I K ∗ levAts L lv ∗ owesE (F := F) c (agL c) ∗ A8 (F := F) c (s4 c) fullShare f8 ∗ tx (F := F) 3 c 0 ∗ lend (F := F) 3 (peer c 0) c ∗ tx (F := F) 3 c 2 ∗ lend (F := F) 3 (peer c 2) c)
      ⊢ iprop(((owesE (F := F) c (du 3 c 1 :: []) ∗ A8 (F := F) c (s4 c) (third 1) (agR I) ∗ txs (F := F) 3 c 0 ∗ txs (F := F) 3 c 2) -∗ W c (k (v1491 I c)) Q)
        -∗ W c (bufs k0_part42 c (v2 I c) (v1461 I c) >>= k) Q) := by
  unfold bufs W
  rw [k0_part42_eq_skeleton]
  unfold k0_part42_skel
  simp only [Prog.bind_lift, Prog.bind_assoc, Prog.bind_op, Prog.bind_ret, Prog.pure_eq_ret]
  iintro ⟨#HI, #HL, HO, G0, T30, D30, T32, D32⟩ Hk
  iapply (load_step c _ ((unit4 c (k0_off28_eq c) (k0_off28_inb c)).subset)) $$ G0
  iintro G0
  iapply (store8 c (Rect.unit (s := S4x2x64x512) (k0_off28 c) S1x2x64x512.size (k0_off28_inb c)) _ (agR I) (unit4 c (k0_off28_eq c) (k0_off28_inb c)) (agR_emb I c (k0_off28_eq c) (k0_off28_inb c))) $$ G0
  iintro G0
  ihave HO := (Entails.of_eq (show owesE (F := F) c (agL c) = owesE (F := F) c (du 3 c 0 :: du 3 c 2 :: du 3 c 1 :: []) from rfl)) $$ HO
  ihave G0 := (split8 c (s4 c) (agR I)) $$ G0
  icases G0 with ⟨G00, G02, G01⟩
  iapply (send_ag I K c 0 (du 3 c 2 :: du 3 c 1 :: []) (k0_dev13_peer c) (k0_off32_eq c) (sem_arg13_0 c) (sem_arg14_k0_off1_d0 c)) $$ [HO T30 D30 G00]
  · iframe # ∗
  iintro ⟨HO, T30⟩
  iapply (send_ag I K c 2 (du 3 c 1 :: []) (k0_dev14_peer c) (k0_off32_eq c) (sem_arg13_2 c) (sem_arg14_k0_off1_d0 c)) $$ [HO T32 D32 G02]
  · iframe # ∗
  iintro ⟨HO, T32⟩
  iapply Hk
  iframe

/-- Part 43 sends the sums to the third and stores them. -/
theorem k0_part43_wp {β : Type} {Q : β → sProp 𝕄} {f4 : Vec F S2x256x512 .f32}
    {k : _ → Pg F β} :
    iprop(allInv I K ∗ levAts L lv ∗ owesE (F := F) c (du 3 c 1 :: []) ∗ tx (F := F) 3 c 1 ∗ lend (F := F) 3 (peer c 1) c ∗ A8 (F := F) c (s4 c) (third 1) (agR I) ∗ A4 (F := F) c (sO c) f4 ∗ rx (F := F) 3 c 0)
      ⊢ iprop(((owesE (F := F) c ([]) ∗ txs (F := F) 3 c 1 ∗ A4 (F := F) c (sO c) (outR I c) ∗ rxd (F := F) 3 c 0 ∗ A8 (F := F) c (s4 (peer c 0)) fullShare (agR I)) -∗ W c (k (v1518 I c)) Q)
        -∗ W c (bufs k0_part43 c (v2 I c) (v1459 I c) (v1491 I c) >>= k) Q) := by
  unfold bufs W
  rw [k0_part43_eq_skeleton]
  unfold k0_part43_skel
  simp only [Prog.bind_lift, Prog.bind_assoc, Prog.bind_op, Prog.bind_ret, Prog.pure_eq_ret]
  iintro ⟨#HI, #HL, HO, T31, D31, G01, O0, V30⟩ Hk
  iapply (send_ag I K c 1 ([]) (k0_dev15_peer c) (k0_off32_eq c) (sem_arg13_1 c) (sem_arg14_k0_off1_d0 c)) $$ [HO T31 D31 G01]
  · iframe # ∗
  iintro ⟨HO, T31⟩
  iapply (load_step c _ ((unitO c (k0_off33_eq c) (k0_off33_inb c)).subset)) $$ O0
  iintro O0
  iapply (store4 c (Rect.unit (s := S2x256x512) (k0_off33 c) S2x64x512.size (k0_off33_inb c)) _ (outR I c) (unitO c (k0_off33_eq c) (k0_off33_inb c)) (fun j => (outR_emb I c c (k0_off33_eq c) (k0_off33_inb c) j).trans (congrFun (outT_0 I c) j))) $$ O0
  iintro O0
  iapply (wait_rcv3 I K c 0 ([]) (above_nil _) (sem_arg14_k0_off21_d0_1 c)) $$ [HO V30]
  · iframe # ∗
  iintro ⟨HO, V30, G1⟩
  iapply (load_step c _ ((unit4 (peer c 0) (k0_off31_eq c 0) (k0_off31_inb c 0)).subset)) $$ G1
  iintro G1
  iapply Hk
  iframe

/-- Part 44 stores two peers' sums. -/
theorem k0_part44_wp {β : Type} {Q : β → sProp 𝕄} {f4 : Vec F S2x256x512 .f32}
    {k : _ → Pg F β} :
    iprop(allInv I K ∗ levAts L lv ∗ owesE (F := F) c ([]) ∗ A4 (F := F) c (sO (peer c 0)) f4 ∗ rx (F := F) 3 c 2 ∗ A4 (F := F) c (sO (peer c 2)) f4)
      ⊢ iprop(((owesE (F := F) c ([]) ∗ A4 (F := F) c (sO (peer c 0)) (outR I c) ∗ rxd (F := F) 3 c 2 ∗ A8 (F := F) c (s4 (peer c 2)) fullShare (agR I) ∗ A4 (F := F) c (sO (peer c 2)) (outR I c)) -∗ W c (k (v1540 I c)) Q)
        -∗ W c (bufs k0_part44 c (v2 I c) (v1518 I c) >>= k) Q) := by
  unfold bufs W
  rw [k0_part44_eq_skeleton]
  unfold k0_part44_skel
  simp only [Prog.bind_lift, Prog.bind_assoc, Prog.bind_op, Prog.bind_ret, Prog.pure_eq_ret]
  iintro ⟨#HI, #HL, HO, O1, V32, O3⟩ Hk
  iapply (load_step c _ ((unitO (peer c 0) (k0_off35_eq c 0) (k0_off35_inb c 0)).subset)) $$ O1
  iintro O1
  iapply (store4 c (Rect.unit (s := S2x256x512) (k0_off35 c 1#32) S2x64x512.size (k0_off35_inb c 0)) _ (outR I c) (unitO (peer c 0) (k0_off35_eq c 0) (k0_off35_inb c 0)) (fun j => (outR_emb I c (peer c 0) (k0_off35_eq c 0) (k0_off35_inb c 0) j).trans (congrFun (outT_1 I c) j))) $$ O1
  iintro O1
  iapply (wait_rcv3 I K c 2 ([]) (above_nil _) (sem_arg14_k0_off21_d0_3 c)) $$ [HO V32]
  · iframe # ∗
  iintro ⟨HO, V32, G3⟩
  iapply (load_step c _ ((unit4 (peer c 2) (k0_off31_eq c 2) (k0_off31_inb c 2)).subset)) $$ G3
  iintro G3
  iapply (load_step c _ ((unitO (peer c 2) (k0_off35_eq c 2) (k0_off35_inb c 2)).subset)) $$ O3
  iintro O3
  iapply (store4 c (Rect.unit (s := S2x256x512) (k0_off35 c 3#32) S2x64x512.size (k0_off35_inb c 2)) _ (outR I c) (unitO (peer c 2) (k0_off35_eq c 2) (k0_off35_inb c 2)) (fun j => (outR_emb I c (peer c 2) (k0_off35_eq c 2) (k0_off35_inb c 2) j).trans (congrFun (outT_3 I c) j))) $$ O3
  iintro O3
  iapply Hk
  iframe

/-- Part 45 stores the last peer's sums. -/
theorem k0_part45_wp {β : Type} {Q : β → sProp 𝕄} {f4 : Vec F S2x256x512 .f32}
    {k : _ → Pg F β} :
    iprop(allInv I K ∗ levAts L lv ∗ owesE (F := F) c ([]) ∗ rx (F := F) 3 c 1 ∗ A4 (F := F) c (sO (peer c 1)) f4 ∗ txs (F := F) 1 c 0 ∗ txs (F := F) 1 c 2)
      ⊢ iprop(((owesE (F := F) c ([]) ∗ rxd (F := F) 3 c 1 ∗ A8 (F := F) c (s4 (peer c 1)) fullShare (agR I) ∗ A4 (F := F) c (sO (peer c 1)) (outR I c) ∗ txd (F := F) 1 c 0 ∗ A6 (F := F) c (s7 (peer c 0) 0) (pqR I c) ∗ txd (F := F) 1 c 2 ∗ A6 (F := F) c (s7 (peer c 2) 0) (pqR I c)) -∗ W c (k ⟨⟩) Q)
        -∗ W c (bufs k0_part45 c (v1540 I c) >>= k) Q) := by
  unfold bufs W
  rw [k0_part45_eq_skeleton]
  unfold k0_part45_skel
  simp only [Prog.bind_lift, Prog.bind_assoc, Prog.bind_op, Prog.bind_ret, Prog.pure_eq_ret]
  iintro ⟨#HI, #HL, HO, V31, O2, T10, T12⟩ Hk
  iapply (wait_rcv3 I K c 1 ([]) (above_nil _) (sem_arg14_k0_off21_d0_2 c)) $$ [HO V31]
  · iframe # ∗
  iintro ⟨HO, V31, G2⟩
  iapply (load_step c _ ((unit4 (peer c 1) (k0_off31_eq c 1) (k0_off31_inb c 1)).subset)) $$ G2
  iintro G2
  iapply (load_step c _ ((unitO (peer c 1) (k0_off35_eq c 1) (k0_off35_inb c 1)).subset)) $$ O2
  iintro O2
  iapply (store4 c (Rect.unit (s := S2x256x512) (k0_off35 c 2#32) S2x64x512.size (k0_off35_inb c 1)) _ (outR I c) (unitO (peer c 1) (k0_off35_eq c 1) (k0_off35_inb c 1)) (fun j => (outR_emb I c (peer c 1) (k0_off35_eq c 1) (k0_off35_inb c 1) j).trans (congrFun (outT_2 I c) j))) $$ O2
  iintro O2
  iapply (wait_snd1 I K c 0 ([]) (above_nil _) (sem_arg11_0_0 c)) $$ [HO T10]
  · iframe # ∗
  iintro ⟨HO, T10, Q00⟩
  iapply (wait_snd1 I K c 2 ([]) (above_nil _) (sem_arg11_2_0 c)) $$ [HO T12]
  · iframe # ∗
  iintro ⟨HO, T12, Q20⟩
  iapply Hk
  iframe

/-- Part 46 waits for four sends. -/
theorem k0_part46_wp {β : Type} {Q : β → sProp 𝕄}
    {k : _ → Pg F β} :
    iprop(allInv I K ∗ levAts L lv ∗ owesE (F := F) c ([]) ∗ txs (F := F) 1 c 1 ∗ txs (F := F) 2 c 0 ∗ txs (F := F) 2 c 2 ∗ txs (F := F) 2 c 1)
      ⊢ iprop(((owesE (F := F) c ([]) ∗ txd (F := F) 1 c 1 ∗ A6 (F := F) c (s7 (peer c 1) 0) (pqR I c) ∗ txd (F := F) 2 c 0 ∗ A6 (F := F) c (s7 (peer c 0) 1) (pqR I c) ∗ txd (F := F) 2 c 2 ∗ A6 (F := F) c (s7 (peer c 2) 1) (pqR I c) ∗ txd (F := F) 2 c 1 ∗ A6 (F := F) c (s7 (peer c 1) 1) (pqR I c)) -∗ W c (k ⟨⟩) Q)
        -∗ W c (bufs k0_part46 c >>= k) Q) := by
  unfold bufs W
  rw [k0_part46_eq_skeleton]
  unfold k0_part46_skel
  simp only [Prog.bind_lift, Prog.bind_assoc, Prog.bind_op, Prog.bind_ret, Prog.pure_eq_ret]
  iintro ⟨#HI, #HL, HO, T11, T20, T22, T21⟩ Hk
  iapply (wait_snd1 I K c 1 ([]) (above_nil _) (sem_arg11_1_0 c)) $$ [HO T11]
  · iframe # ∗
  iintro ⟨HO, T11, Q10⟩
  iapply (wait_snd2 I K c 0 ([]) (above_nil _) (sem_arg11_0_1 c)) $$ [HO T20]
  · iframe # ∗
  iintro ⟨HO, T20, Q01⟩
  iapply (wait_snd2 I K c 2 ([]) (above_nil _) (sem_arg11_2_1 c)) $$ [HO T22]
  · iframe # ∗
  iintro ⟨HO, T22, Q21⟩
  iapply (wait_snd2 I K c 1 ([]) (above_nil _) (sem_arg11_1_1 c)) $$ [HO T21]
  · iframe # ∗
  iintro ⟨HO, T21, Q11⟩
  iapply Hk
  iframe

end Cert.KernelIdeal.Prf
-- ==== Proof.Body.lean ====
module

public import proofs.«01_k».proof.Proof.BodyA
public import proofs.«01_k».proof.Proof.Iface
public import proofs.«01_k».proof.Proof.BodyB
public import proofs.«01_k».proof.Proof.BodyC
public import proofs.«01_k».proof.Proof.BodyD

@[expose] public section

set_option maxRecDepth 65536

set_option maxHeartbeats 2000000

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (I : Ins F) (K : GSem nD τ sig → ℕ) (c : Dev nD)

/-! ## The barrier -/

/-- A barrier's payload is four loans. -/
theorem barPay_eq (p : Dev nD) : barPay (F := F) p c = iprop(lend (F := F) 0 p c ∗ lend (F := F) 1 p c ∗ lend (F := F) 2 p c ∗ lend (F := F) 3 p c) := rfl

/-- Part 1 lends to the peers and passes the barrier. -/
theorem k0_part1_wp {β : Type} {Q : β → sProp 𝕄}
    {k : _ → Pg F β} :
    iprop(allInv I K ∗ levAts L lv ∗ owesE (F := F) c (allL c)
      ∗ (dutyTok ER (barCell (peer c 0)) 0 (inv 0) ∗ dutyTok ER (barCell (peer c 1)) 0 (inv 1) ∗ dutyTok ER (barCell (peer c 2)) 0 (inv 2))
      ∗ (reached ER (barCell (peer c 0)) 0 ∗ reached ER (barCell (peer c 1)) 0 ∗ reached ER (barCell (peer c 2)) 0)
      ∗ (barPay (F := F) c (peer c 0) ∗ barPay (F := F) c (peer c 1) ∗ barPay (F := F) c (peer c 2))
      ∗ cred (tallyAt (barCell c) () 3) ∗ atPos ER (barCell c) 0 ∅ 0)
      ⊢ iprop(((owesE (F := F) c (kvL c) ∗ atPos ER (barCell c) 1 ∅ 0
          ∗ (barPay (F := F) (peer c 0) c ∗ barPay (F := F) (peer c 1) c ∗ barPay (F := F) (peer c 2) c)) -∗ W c (k ⟨c, (v2 I c)⟩) Q)
        -∗ W c (bufs k0_part1 >>= k) Q) := by
  unfold bufs W
  rw [k0_part1_eq_skeleton]
  unfold k0_part1_skel semSignalWord semWaitWord
  simp only [Prog.bind_lift, Prog.bind_assoc, Prog.bind_op, Prog.bind_ret, Prog.pure_eq_ret, wp_deviceId]
  iintro ⟨#HI, #HL, HO, ⟨T0, T1, T2⟩, ⟨R0, R1, R2⟩, ⟨P0, P1, P2⟩, Hc, Ha⟩ Hk
  iapply (signal_step I K c 0 ((barCell (peer c 1), 1) :: (barCell (peer c 2), 1) :: kvL c) (k0_dev1_peer c)) $$ [HO T0 R0 P0]
  · iframe # ∗
    iexact HO
  iintro HO
  iapply (signal_step I K c 1 ((barCell (peer c 2), 1) :: kvL c) (k0_dev2_peer c)) $$ [HO T1 R1 P1]
  · iframe # ∗
  iintro HO
  iapply (signal_step I K c 2 (kvL c) (k0_dev3_peer c)) $$ [HO T2 R2 P2]
  · iframe # ∗
  iintro HO
  iapply (barrier_step I K c (kvL c) (above_kv c (by decide))) $$ [HO Hc Ha]
  · iframe # ∗
  iintro ⟨HO, Ha, HP⟩
  iapply Hk
  iframe

/-! ## Whole buffers from one device's seat -/

/-- Blocks are disjoint. -/
theorem s5_dj : ∀ j j' : Fin 4, j ≠ j' → Disjoint (s5 j) (s5 j') := by
  intro j j' h
  rw [Finset.disjoint_left]
  intro i hi hi'
  rw [s5, Finset.mem_filter] at hi hi'
  exact h (Fin.ext (hi.2.symm.trans hi'.2))
/-- Blocks are everything. -/
theorem s5_cov : (Finset.univ : Finset (Fin 4)).biUnion s5 = Finset.univ := by
  ext i
  rw [Finset.mem_biUnion]
  exact ⟨fun _ => Finset.mem_univ _, fun _ => ⟨i 0, Finset.mem_univ _, Finset.mem_filter.mpr ⟨Finset.mem_univ _, rfl⟩⟩⟩
/-- Row blocks are disjoint. -/
theorem s4_dj : ∀ j j' : Fin 4, j ≠ j' → Disjoint (s4 j) (s4 j') := by
  intro j j' h
  rw [Finset.disjoint_left]
  intro i hi hi'
  rw [s4, Finset.mem_filter] at hi hi'
  exact h (Fin.ext (hi.2.symm.trans hi'.2))
/-- Row blocks are everything. -/
theorem s4_cov : (Finset.univ : Finset (Fin 4)).biUnion s4 = Finset.univ := by
  ext i
  rw [Finset.mem_biUnion]
  exact ⟨fun _ => Finset.mem_univ _, fun _ => ⟨i 0, Finset.mem_univ _, Finset.mem_filter.mpr ⟨Finset.mem_univ _, rfl⟩⟩⟩
/-- The result's row blocks are disjoint. -/
theorem sO_dj : ∀ j j' : Fin 4, j ≠ j' → Disjoint (sO j) (sO j') := by
  intro j j' h
  rw [Finset.disjoint_left]
  intro i hi hi'
  rw [sO, Finset.mem_filter] at hi hi'
  exact h (Fin.ext (hi.2.symm.trans hi'.2))
/-- The result's row blocks are everything. -/
theorem sO_cov : (Finset.univ : Finset (Fin 4)).biUnion sO = Finset.univ := by
  ext i
  have h : (i 1).val < 256 := (i 1).isLt
  rw [Finset.mem_biUnion]
  exact ⟨fun _ => Finset.mem_univ _, fun _ => ⟨⟨(i 1).val / 64, by omega⟩, Finset.mem_univ _, Finset.mem_filter.mpr ⟨Finset.mem_univ _, rfl⟩⟩⟩

/-- Four devices are one and its peers. -/
theorem four (Φ : Fin 4 → sProp 𝕄) : bigSep (Finset.univ : Finset (Fin 4)) Φ = iprop(Φ c ∗ Φ (peer c 0) ∗ Φ (peer c 1) ∗ Φ (peer c 2)) := by
  rw [bigSep_univ_eq_bigSepL [c, peer c 0, peer c 1, peer c 2] (by revert c; decide) (by revert c; decide)]; rfl
/-- The staged keys and values by block. -/
theorem cut2 (f : Vec F S4x2x2x4x256x64 .i8) : (A2 c Finset.univ f : sProp 𝕄)
    = iprop(A2 c (s5 c) f ∗ A2 c (s5 (peer c 0)) f ∗ A2 c (s5 (peer c 1)) f ∗ A2 c (s5 (peer c 2)) f) := by
  have h : (A2 c Finset.univ f : sProp 𝕄) = bigSep Finset.univ fun j => A2 c (s5 j) f := by
    rw [← s5_cov]
    exact pointsTo_biUnion (ℓ := (c : Thread nD τ).loc cc0_stg2_0) Finset.univ s5 (fun b _ b' _ h => s5_dj b b' h)
  rw [h]; exact four c fun j => A2 c (s5 j) f
/-- The gathered keys and values by block. -/
theorem cut5 (f : Vec F S4x2x2x4x256x64 .i8) : (A5 c Finset.univ f : sProp 𝕄)
    = iprop(A5 c (s5 c) f ∗ A5 c (s5 (peer c 0)) f ∗ A5 c (s5 (peer c 1)) f ∗ A5 c (s5 (peer c 2)) f) := by
  have h : (A5 c Finset.univ f : sProp 𝕄) = bigSep Finset.univ fun j => A5 c (s5 j) f := by
    rw [← s5_cov]
    exact pointsTo_biUnion (ℓ := (c : Thread nD τ).loc cc0_scratch0) Finset.univ s5 (fun b _ b' _ h => s5_dj b b' h)
  rw [h]; exact four c fun j => A5 c (s5 j) f
/-- The result by row block. -/
theorem cut4 (f : Vec F S2x256x512 .f32) : (A4 c Finset.univ f : sProp 𝕄)
    = iprop(A4 c (sO c) f ∗ A4 c (sO (peer c 0)) f ∗ A4 c (sO (peer c 1)) f ∗ A4 c (sO (peer c 2)) f) := by
  have h : (A4 c Finset.univ f : sProp 𝕄) = bigSep Finset.univ fun j => A4 c (sO j) f := by
    rw [← sO_cov]
    exact pointsTo_biUnion (ℓ := (c : Thread nD τ).loc cc0_stg4_0) Finset.univ sO (fun b _ b' _ h => sO_dj b b' h)
  rw [h]; exact four c fun j => A4 c (sO j) f
/-- The partial rows by block. -/
theorem cut6 (f : Vec F S4x2x64x512 .bf16) : (A6 c Finset.univ f : sProp 𝕄)
    = iprop(A6 c (s4 c) f ∗ A6 c (s4 (peer c 0)) f ∗ A6 c (s4 (peer c 1)) f ∗ A6 c (s4 (peer c 2)) f) := by
  have h : (A6 c Finset.univ f : sProp 𝕄) = bigSep Finset.univ fun j => A6 c (s4 j) f := by
    rw [← s4_cov]
    exact pointsTo_biUnion (ℓ := (c : Thread nD τ).loc cc0_scratch1) Finset.univ s4 (fun b _ b' _ h => s4_dj b b' h)
  rw [h]; exact four c fun j => A6 c (s4 j) f
/-- The received rows by block. -/
theorem cut7 (f : Vec F S4x2x64x512 .bf16) : (A7 c Finset.univ f : sProp 𝕄)
    = iprop(A7 c (s4 c) f ∗ A7 c (s4 (peer c 0)) f ∗ A7 c (s4 (peer c 1)) f ∗ A7 c (s4 (peer c 2)) f) := by
  have h : (A7 c Finset.univ f : sProp 𝕄) = bigSep Finset.univ fun j => A7 c (s4 j) f := by
    rw [← s4_cov]
    exact pointsTo_biUnion (ℓ := (c : Thread nD τ).loc cc0_scratch2) Finset.univ s4 (fun b _ b' _ h => s4_dj b b' h)
  rw [h]; exact four c fun j => A7 c (s4 j) f
/-- The gathered rows by block. -/
theorem cut8 (f : Vec F S4x2x64x512 .bf16) : (A8 c Finset.univ fullShare f : sProp 𝕄)
    = iprop(A8 c (s4 c) fullShare f ∗ A8 c (s4 (peer c 0)) fullShare f ∗ A8 c (s4 (peer c 1)) fullShare f ∗ A8 c (s4 (peer c 2)) fullShare f) := by
  have h : (A8 c Finset.univ fullShare f : sProp 𝕄) = bigSep Finset.univ fun j => A8 c (s4 j) fullShare f := by
    rw [← s4_cov]
    exact pointsTo_biUnion (ℓ := (c : Thread nD τ).loc cc0_scratch3) Finset.univ s4 (fun b _ b' _ h => s4_dj b b' h)
  rw [h]; exact four c fun j => A8 c (s4 j) fullShare f
/-- Received rows joined, contents forgotten. -/
theorem join7_some (f g h i : Vec F S4x2x64x512 .bf16) :
    iprop(A7 c (s4 c) f ∗ A7 c (s4 (peer c 0)) g ∗ A7 c (s4 (peer c 1)) h ∗ A7 c (s4 (peer c 2)) i) ⊢ (iprop(∃ x, A7 c Finset.univ x) : sProp 𝕄) := by
  have hj (fs : Fin 4 → Vec F S4x2x64x512 .bf16) : bigSep Finset.univ (fun j => A7 c (s4 j) (fs j)) ⊢ (iprop(∃ x, A7 c Finset.univ x) : sProp 𝕄) := by
    refine (pointsTo_biUnion_join (ℓ := (c : Thread nD τ).loc cc0_scratch2) Finset.univ s4 fs f (fun b _ b' _ h => s4_dj b b' h)).trans ?_
    rw [s4_cov]
    iintro ⟨%x, -, H⟩; iexists x; iexact H
  have hx : bigSep Finset.univ (fun j => iprop(∃ x, A7 c (s4 j) x)) ⊢ (iprop(∃ x, A7 c Finset.univ x) : sProp 𝕄) := by
    have : Nonempty (Vec F S4x2x64x512 .bf16) := ⟨f⟩
    refine (Idealize.SL.BI.bigSep_exists_pi Finset.univ (fun j (x : Vec F S4x2x64x512 .bf16) => (A7 c (s4 j) x : sProp 𝕄))).trans ?_
    iintro ⟨%fs, H⟩
    iapply (hj fs); iexact H
  rw [four c fun j => iprop(∃ x, A7 c (s4 j) x)] at hx
  iintro ⟨H0, H1, H2, H3⟩
  iapply hx
  isplitl [H0]; · iexists _; iexact H0
  isplitl [H1]; · iexists _; iexact H1
  isplitl [H2]; · iexists _; iexact H2
  iexists _; iexact H3
/-- Received rows by batch. -/
theorem cut7h (j : Dev nD) (f : Vec F S4x2x64x512 .bf16) : (A7 c (s4 j) f : sProp 𝕄) ⊢ iprop(A7 c (s7 j 0) f ∗ A7 c (s7 j 1) f) := by
  rw [← s4_join j]
  exact (pointsTo_union (s7_disj j)).1
/-- Partial rows by batch. -/
theorem cut6h (j : Dev nD) (f : Vec F S4x2x64x512 .bf16) : (A6 c (s4 j) f : sProp 𝕄) ⊢ iprop(A6 c (s7 j 0) f ∗ A6 c (s7 j 1) f) := by
  rw [← s4_join j]
  exact (pointsTo_union (s7_disj j)).1
/-- Three shares of a block joined. -/
theorem join8 (S : Finset S4x2x64x512.Idx) (f : Vec F S4x2x64x512 .bf16) :
    iprop(A8 c S (third 0) f ∗ A8 c S (third 2) f ∗ A8 c S (third 1) f) ⊢ (A8 c S fullShare f : sProp 𝕄) := by
  have h1 : iprop(A8 c S fullShare.left f ∗ A8 c S fullShare.right f) ⊢ (A8 c S fullShare f : sProp 𝕄) :=
    (pointsTo_share (PosShare.mem_left_op_right fullShare)).2
  have h2 : iprop(A8 c S fullShare.right.left f ∗ A8 c S fullShare.right.right f) ⊢ (A8 c S fullShare.right f : sProp 𝕄) :=
    (pointsTo_share (PosShare.mem_left_op_right fullShare.right)).2
  iintro ⟨Ha, Hb, Hc⟩
  iapply h1
  isplitl [Ha]; · iexact Ha
  iapply h2
  isplitl [Hc]; · iexact Hc
  iexact Hb

/-- A device lends a peer its slots. -/
theorem lend_fill (p : Dev nD) (f5 : Vec F S4x2x2x4x256x64 .i8) (f7 f8 : Vec F S4x2x64x512 .bf16) :
    iprop(A5 c (s5 p) f5 ∗ A7 c (s4 p) f7 ∗ A8 c (s4 p) fullShare f8 ∗ reached ER (rcvCell 0 c p) 0 ∗ reached ER (rcvCell 1 c p) 0
      ∗ reached ER (rcvCell 2 c p) 0 ∗ reached ER (rcvCell 3 c p) 0) ⊢ barPay (F := F) c p := by
  unfold barPay lend
  dsimp only
  iintro ⟨H5, H7, H8, R0, R1, R2, R3⟩
  ihave H7 := (cut7h c p f7) $$ H7
  icases H7 with ⟨H7, H7'⟩
  isplitl [H5 R0]
  · isplitl [H5]; · iexists _; iexact H5
    iexact R0
  isplitl [H7 R1]
  · isplitl [H7]; · iexists _; iexact H7
    iexact R1
  isplitl [H7' R2]
  · isplitl [H7']; · iexists _; iexact H7'
    iexact R2
  isplitl [H8]; · iexists _; iexact H8
  iexact R3

/-! ## The body -/

/-- The last part waits for what is still being sent. -/
theorem part47_wp {β : Type} {Q : β → sProp 𝕄} {f4 : Vec F S2x256x512 .f32} {f5 : Vec F S4x2x2x4x256x64 .i8} {f6 f7 f8 : Vec F S4x2x64x512 .bf16}
    {k : _ → Pg F β} :
    iprop(allInv I K ∗ levAts L lv ∗ owesE (F := F) c (allL c) ∗ gin c ∗ bin I c f4 f5 f6 f7 f8)
      ⊢ iprop(((owesE (F := F) c [] ∗ txd (F := F) 0 c 0 ∗ rxd (F := F) 0 c 0 ∗ txd (F := F) 1 c 0 ∗ rxd (F := F) 1 c 0 ∗ txd (F := F) 2 c 0 ∗ rxd (F := F) 2 c 0 ∗ txd (F := F) 3 c 0 ∗ rxd (F := F) 3 c 0 ∗ txd (F := F) 0 c 1 ∗ rxd (F := F) 0 c 1 ∗ txd (F := F) 1 c 1 ∗ rxd (F := F) 1 c 1 ∗ txd (F := F) 2 c 1 ∗ rxd (F := F) 2 c 1 ∗ txs (F := F) 3 c 1 ∗ rxd (F := F) 3 c 1 ∗ txd (F := F) 0 c 2 ∗ rxd (F := F) 0 c 2 ∗ txd (F := F) 1 c 2 ∗ rxd (F := F) 1 c 2 ∗ txd (F := F) 2 c 2 ∗ rxd (F := F) 2 c 2 ∗ txs (F := F) 3 c 2 ∗ rxd (F := F) 3 c 2 ∗ A0 (F := F) c (I.x c) ∗ A1 (F := F) c (I.wq c) ∗ A3 (F := F) c (I.wo c) ∗ A2 (F := F) c (s5 c) (I.kv c) ∗ A4 (F := F) c (sO c) (outR I c) ∗ A4 (F := F) c (sO (peer c 0)) (outR I c) ∗ A4 (F := F) c (sO (peer c 1)) (outR I c) ∗ A4 (F := F) c (sO (peer c 2)) (outR I c) ∗ A5 (F := F) c (s5 c) (kvR I c) ∗ A2 (F := F) c (s5 (peer c 0)) (I.kv c) ∗ A2 (F := F) c (s5 (peer c 2)) (I.kv c) ∗ A5 (F := F) c (s5 (peer c 0)) (kvR I c) ∗ A5 (F := F) c (s5 (peer c 2)) (kvR I c) ∗ A5 (F := F) c (s5 (peer c 1)) (kvR I c) ∗ A6 (F := F) c (s4 c) (pqR I c) ∗ A2 (F := F) c (s5 (peer c 1)) (I.kv c) ∗ A7 (F := F) c (s4 (peer c 0)) (rsR I c) ∗ A7 (F := F) c (s4 (peer c 2)) (rsR I c) ∗ A7 (F := F) c (s4 (peer c 1)) (rsR I c) ∗ A8 (F := F) c (s4 (peer c 0)) fullShare (agR I) ∗ A8 (F := F) c (s4 (peer c 2)) fullShare (agR I) ∗ A8 (F := F) c (s4 (peer c 1)) fullShare (agR I) ∗ A6 (F := F) c (s7 (peer c 0) 0) (pqR I c) ∗ A6 (F := F) c (s7 (peer c 2) 0) (pqR I c) ∗ A6 (F := F) c (s7 (peer c 1) 0) (pqR I c) ∗ A6 (F := F) c (s7 (peer c 0) 1) (pqR I c) ∗ A6 (F := F) c (s7 (peer c 2) 1) (pqR I c) ∗ A6 (F := F) c (s7 (peer c 1) 1) (pqR I c) ∗ A8 (F := F) c (s4 c) (third 0) (agR I) ∗ A7 (F := F) c (s4 c) f7 ∗ atPos ER (barCell c) 1 ∅ 0) -∗ W c (k c) Q)
        -∗ W c (bufs k0_part47 >>= k) Q) := by
  unfold bufs W
  rw [k0_part47_eq_skeleton]
  unfold k0_part47_skel gin bin twelve
  simp only [Prog.bind_lift, Prog.bind_assoc, Prog.bind_op, Prog.bind_ret, Prog.pure_eq_ret]
  iintro ⟨#HI, #HL, HO, ⟨HBT, HBR, Hc, Ha, HR, HT, HV⟩, B0, B1, H2, B3, H4, H5, H6, H7, H8⟩ Hk
  icases HR with ⟨E00, E01, E02, E10, E11, E12, E20, E21, E22, E30, E31, E32⟩
  icases HT with ⟨T00, T01, T02, T10, T11, T12, T20, T21, T22, T30, T31, T32⟩
  icases HV with ⟨V00, V01, V02, V10, V11, V12, V20, V21, V22, V30, V31, V32⟩
  ihave H2 := (Entails.of_eq (cut2 c _)) $$ H2
  icases H2 with ⟨K0, K1, K2, K3⟩
  ihave H4 := (Entails.of_eq (cut4 c _)) $$ H4
  icases H4 with ⟨O0, O1, O2, O3⟩
  ihave H5 := (Entails.of_eq (cut5 c _)) $$ H5
  icases H5 with ⟨R0, R1, R2, R3⟩
  ihave H7 := (Entails.of_eq (cut7 c _)) $$ H7
  icases H7 with ⟨S0, S1, S2, S3⟩
  ihave H8 := (Entails.of_eq (cut8 c _)) $$ H8
  icases H8 with ⟨G0, G1, G2, G3⟩
  ihave H6 := (Entails.of_eq (cut6 c f6)) $$ H6
  ihave H6 := (Entails.of_eq (seat c fun j => A6 c (s4 j) f6).symm) $$ H6
  icases H6 with ⟨P0, P1, P2, P3⟩
  ihave P0 := (cut6h c 0 f6) $$ P0
  icases P0 with ⟨P00, P01⟩
  ihave P1 := (cut6h c 1 f6) $$ P1
  icases P1 with ⟨P10, P11⟩
  ihave P2 := (cut6h c 2 f6) $$ P2
  icases P2 with ⟨P20, P21⟩
  ihave P3 := (cut6h c 3 f6) $$ P3
  icases P3 with ⟨P30, P31⟩
  iapply (k0_part1_wp I K c) $$ [HO HBT HBR Hc Ha R1 S1 G1 R2 S2 G2 R3 S3 G3 E00 E01 E02 E10 E11 E12 E20 E21 E22 E30 E31 E32]
  · isplitr; · iexact HI
    isplitr; · iexact HL
    isplitl [HO]; · iexact HO
    isplitl [HBT]; · iexact HBT
    isplitl [HBR]; · iexact HBR
    isplitr [Hc Ha]
    · isplitl [R1 S1 G1 E00 E10 E20 E30]
      · iapply (lend_fill c (peer c 0) f5 f7 f8)
        iframe
      isplitl [R2 S2 G2 E01 E11 E21 E31]
      · iapply (lend_fill c (peer c 1) f5 f7 f8)
        iframe
      iapply (lend_fill c (peer c 2) f5 f7 f8)
      iframe
    iframe
  iintro ⟨HO, Ha, HD⟩
  icases HD with ⟨HD0, HD1, HD2⟩
  ihave HD0 := (Entails.of_eq (barPay_eq c (peer c 0))) $$ HD0
  icases HD0 with ⟨D00, D10, D20, D30⟩
  ihave HD1 := (Entails.of_eq (barPay_eq c (peer c 1))) $$ HD1
  icases HD1 with ⟨D01, D11, D21, D31⟩
  ihave HD2 := (Entails.of_eq (barPay_eq c (peer c 2))) $$ HD2
  icases HD2 with ⟨D02, D12, D22, D32⟩
  iapply (k0_part2_wp I K c) $$ [HO T00 D00 K1 T02 D02 K3 K0 R0 B0]
  · iframe # ∗
  iintro ⟨HO, T00, T02, K0, R0, B0⟩
  iapply (k0_part3_wp I K c) $$ [B1 B0]
  · iframe # ∗
  iintro ⟨B1, B0⟩
  iapply (k0_part4_wp I K c) $$ [B0 B1]
  · iframe # ∗
  iintro ⟨B0, B1⟩
  iapply (k0_part5_wp I K c) $$ [HO T00 T02]
  · iframe # ∗
  iintro ⟨HO, T00, K1, T02, K3⟩
  iapply (k0_part6_wp I K c) $$ [HO T01 D01 K2]
  · iframe # ∗
  iintro ⟨HO, T01⟩
  iapply (k0_part7_wp I K c) $$ []
  · iframe # ∗
  iapply (k0_part8_wp I K c) $$ [R0]
  · iframe # ∗
  iintro R0
  iapply (k0_part9_wp I K c) $$ [R0]
  · iframe # ∗
  iintro R0
  iapply (k0_part10_wp I K c) $$ [R0]
  · iframe # ∗
  iintro R0
  iapply (k0_part11_wp I K c) $$ [R0]
  · iframe # ∗
  iintro R0
  iapply (k0_part12_wp I K c) $$ [R0]
  · iframe # ∗
  iintro R0
  iapply (k0_part13_wp I K c) $$ [HO V00]
  · iframe # ∗
  iintro ⟨HO, V00, R1⟩
  iapply (k0_part14_wp I K c) $$ [R1]
  · iframe # ∗
  iintro R1
  iapply (k0_part15_wp I K c) $$ [R1]
  · iframe # ∗
  iintro R1
  iapply (k0_part16_wp I K c) $$ [R1]
  · iframe # ∗
  iintro R1
  iapply (k0_part17_wp I K c) $$ [R1]
  · iframe # ∗
  iintro R1
  iapply (k0_part18_wp I K c) $$ [R1]
  · iframe # ∗
  iintro R1
  iapply (k0_part19_wp I K c) $$ [HO R1 V02]
  · iframe # ∗
  iintro ⟨HO, R1, V02, R3⟩
  iapply (k0_part20_wp I K c) $$ [R3]
  · iframe # ∗
  iintro R3
  iapply (k0_part21_wp I K c) $$ [R3]
  · iframe # ∗
  iintro R3
  iapply (k0_part22_wp I K c) $$ [R3]
  · iframe # ∗
  iintro R3
  iapply (k0_part23_wp I K c) $$ [R3]
  · iframe # ∗
  iintro R3
  iapply (k0_part24_wp I K c) $$ [R3]
  · iframe # ∗
  iintro R3
  iapply (k0_part25_wp I K c) $$ [R3]
  · iframe # ∗
  iintro R3
  iapply (k0_part26_wp I K c) $$ [HO V01]
  · iframe # ∗
  iintro ⟨HO, V01, R2⟩
  iapply (k0_part27_wp I K c) $$ [R2]
  · iframe # ∗
  iintro R2
  iapply (k0_part28_wp I K c) $$ [R2]
  · iframe # ∗
  iintro R2
  iapply (k0_part29_wp I K c) $$ [R2]
  · iframe # ∗
  iintro R2
  iapply (k0_part30_wp I K c) $$ [B3]
  · iframe # ∗
  iintro B3
  iapply (k0_part31_wp I K c) $$ [B3 P00 P10 P20 P30]
  · iframe # ∗
  iintro ⟨B3, P00, P10, P20, P30⟩
  ihave HP := (regroup6 c 0 (pqR I c)) $$ [P00 P10 P20 P30]
  · iframe
  icases HP with ⟨QO0, Q00, Q10, Q20⟩
  iapply (k0_part32_wp I K c) $$ [HO T10 D10 Q00 T12 D12 Q20]
  · iframe # ∗
  iintro ⟨HO, T10, T12⟩
  iapply (k0_part33_wp I K c) $$ [HO T11 D11 Q10 R2]
  · iframe # ∗
  iintro ⟨HO, T11, R2⟩
  iapply (k0_part34_wp I K c) $$ [R2]
  · iframe # ∗
  iintro R2
  iapply (k0_part35_wp I K c) $$ [R2]
  · iframe # ∗
  iintro R2
  iapply (k0_part36_wp I K c) $$ [B3]
  · iframe # ∗
  iintro B3
  iapply (k0_part37_wp I K c) $$ [P01 P11 P21 P31]
  · iframe # ∗
  iintro ⟨P01, P11, P21, P31⟩
  ihave HP := (regroup6 c 1 (pqR I c)) $$ [P01 P11 P21 P31]
  · iframe
  icases HP with ⟨QO1, Q01, Q11, Q21⟩
  ihave PO := (join6 c c (pqR I c)) $$ [QO0 QO1]
  · iframe
  iapply (k0_part38_wp I K c) $$ [HO T20 D20 Q01 T22 D22 Q21 T21 D21 Q11]
  · iframe # ∗
  iintro ⟨HO, T20, T22, T21⟩
  iapply (k0_part39_wp I K c) $$ [HO T01 PO V10]
  · iframe # ∗
  iintro ⟨HO, T01, K2, PO, V10, S10⟩
  iapply (k0_part40_wp I K c) $$ [HO V20 S10 V12 V22]
  · iframe # ∗
  iintro ⟨HO, V20, S1, V12, S30, V22, S31⟩
  iapply (k0_part41_wp I K c) $$ [HO S30 S31 V11 V21]
  · iframe # ∗
  iintro ⟨HO, S3, V11, V21, S2⟩
  iapply (k0_part42_wp I K c) $$ [HO G0 T30 D30 T32 D32]
  · iframe # ∗
  iintro ⟨HO, G01, T30, T32⟩
  iapply (k0_part43_wp I K c) $$ [HO T31 D31 G01 O0 V30]
  · iframe # ∗
  iintro ⟨HO, T31, O0, V30, G1⟩
  iapply (k0_part44_wp I K c) $$ [HO O1 V32 O3]
  · iframe # ∗
  iintro ⟨HO, O1, V32, G3, O3⟩
  iapply (k0_part45_wp I K c) $$ [HO V31 O2 T10 T12]
  · iframe # ∗
  iintro ⟨HO, V31, G2, O2, T10, Q00, T12, Q20⟩
  iapply (k0_part46_wp I K c) $$ [HO T11 T20 T22 T21]
  · iframe # ∗
  iintro ⟨HO, T11, Q10, T20, Q01, T22, Q21, T21, Q11⟩
  iapply (wait_snd3 I K c 0 ([]) (above_nil _) (sem_arg13_0 c)) $$ [HO T30]
  · iframe # ∗
  iintro ⟨HO, T30, G00⟩
  iapply Hk
  iframe

/-- The body, from what it is given, leaves the result. -/
theorem body_wp {Q : PUnit → sProp 𝕄} {f4 : Vec F S2x256x512 .f32} {f5 : Vec F S4x2x2x4x256x64 .i8} {f6 f7 f8 : Vec F S4x2x64x512 .bf16} :
    iprop(allInv I K ∗ levAts L lv ∗ owesE (F := F) c (allL c) ∗ gin c ∗ bin I c f4 f5 f6 f7 f8)
      ⊢ iprop(((owesE (F := F) c [] ∗ gout c ∗ bout I c) -∗ |={Set.univ}=> Q ⟨⟩)
        -∗ W c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q) := by
  rw [cc0_body_eq_skeleton]
  unfold cc0_body_skel
  simp only [Prog.bind_lift, Prog.bind_assoc, Prog.bind_op, Prog.bind_ret, Prog.pure_eq_ret]
  iintro ⟨#HI, #HL, HO, Hg, Hb⟩ Hk
  iapply (part47_wp I K c) $$ [HO Hg Hb]
  · iframe # ∗
  iintro ⟨HO, T00, V00, T10, V10, T20, V20, T30, V30, T01, V01, T11, V11, T21, V21, T31, V31, T02, V02, T12, V12, T22, V22, T32, V32, B0, B1, B3, K0, O0, O1, O2, O3, R0, K1, K3, R1, R3, R2, PO, K2, S1, S3, S2, G1, G3, G2, Q00, Q20, Q10, Q01, Q21, Q11, G00, S0, Ha⟩
  iapply (wait_snd3 I K c 2 ([]) (above_nil _) (sem_arg13_2 c)) $$ [HO T32]
  · iframe # ∗
  iintro ⟨HO, T32, G02⟩
  iapply (wait_snd3 I K c 1 ([]) (above_nil _) (sem_arg13_1 c)) $$ [HO T31]
  · iframe # ∗
  iintro ⟨HO, T31, G01⟩
  unfold W
  rw [wp_ret]
  iapply Hk
  isplitl [HO]; · iexact HO
  isplitl [Ha T00 T01 T02 T10 T11 T12 T20 T21 T22 T30 T31 T32 V00 V01 V02 V10 V11 V12 V20 V21 V22 V30 V31 V32]
  · unfold gout twelve
    isplitl [Ha]; · iexact Ha
    isplitl [T00 T01 T02 T10 T11 T12 T20 T21 T22 T30 T31 T32]
    · iframe
    iframe
  unfold bout
  isplitl [B0]; · iexact B0
  isplitl [B1]; · iexact B1
  isplitl [K0 K1 K2 K3]
  · iapply (Entails.of_eq (cut2 c _).symm)
    iframe
  isplitl [B3]; · iexact B3
  isplitl [O0 O1 O2 O3]
  · iapply (Entails.of_eq (cut4 c _).symm)
    iframe
  isplitl [R0 R1 R2 R3]
  · iapply (Entails.of_eq (cut5 c _).symm)
    iframe
  ihave Q0 := (join6 c (peer c 0) (pqR I c)) $$ [Q00 Q01]
  · iframe
  ihave Q1 := (join6 c (peer c 1) (pqR I c)) $$ [Q10 Q11]
  · iframe
  ihave Q2 := (join6 c (peer c 2) (pqR I c)) $$ [Q20 Q21]
  · iframe
  isplitl [PO Q0 Q1 Q2]
  · iapply (Entails.of_eq (cut6 c _).symm)
    iframe
  isplitl [S0 S1 S2 S3]
  · iapply (join7_some c f7 (rsR I c) (rsR I c) (rsR I c))
    iframe
  ihave G0 := (join8 c (s4 c) (agR I)) $$ [G00 G02 G01]
  · iframe
  iapply (Entails.of_eq (cut8 c _).symm)
  iframe

end Cert.KernelIdeal.Prf
-- ==== Proof.Run.lean ====
module

public import proofs.«01_k».proof.Proof.Launch
public import proofs.«01_k».proof.Proof.Body

@[expose] public section

set_option maxRecDepth 65536

noncomputable section

namespace Cert.KernelIdeal.Prf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The body, run from what the region hands it to what it must hand back. -/
theorem body_ob (c : Dev nD) : BodyObligation (dat m c) defs₀ 𝒱₀ () Set.univ := fun t => by
  obtain rfl := fin_N0 t
  rw [bigSep_W0, bigSep_W0]
  rw [show (dat m c).Φ t0_0.castSucc = iprop(Xk m c ∗ rest c ∗ ∃ r, prngReg c r) from rfl,
    show (dat m c).Φ t0_0.succ = iprop((semVal (barCell c) 0 ∗ Pipeline.ownSems0 osem c) ∗ rest c ∗ ∃ r, prngReg c r) from rfl]
  unfold rest Xk
  rw [scopedRest0_eq]
  iintro ⟨⟨⟨%K, #HI, #HL, Hg, H4⟩, ⟨⟨%g0, S0⟩, ⟨%g1, S1⟩, ⟨%g2, S2⟩, ⟨%g3, S3⟩⟩, Hreg⟩, HO, ⟨%d0, W0⟩, ⟨%d1, W1⟩, ⟨%d2, W2⟩, ⟨%d3, W3⟩, ⟨%d4, W4⟩⟩
  ihave HO' := (of_owesAt m c _ (O₀ c) (owed_first m c)) $$ HO
  ihave X0 := (show (owns c ((cfg0.win 0).stage (cfg0.slots t0_0 0)) fullShare ((dat m c).before 0 t0_0 d0) : sProp 𝕄) ⊢ A0 c ((ins m).x c) from
    Entails.of_eq (by rw [before_x, iblk_x]; exact owns_whole (c.tc : Thread nD τ) cc0_stg0_0 fullShare _)) $$ W0
  ihave X1 := (show (owns c ((cfg0.win 1).stage (cfg0.slots t0_0 1)) fullShare ((dat m c).before 1 t0_0 d1) : sProp 𝕄) ⊢ A1 c ((ins m).wq c) from
    Entails.of_eq (by rw [before_wq, iblk_wq]; exact owns_whole (c.tc : Thread nD τ) cc0_stg1_0 fullShare _)) $$ W1
  ihave X2 := (show (owns c ((cfg0.win 2).stage (cfg0.slots t0_0 2)) fullShare ((dat m c).before 2 t0_0 d2) : sProp 𝕄) ⊢ A2 c Finset.univ ((ins m).kv c) from
    Entails.of_eq (by rw [before_kv, iblk_kv]; exact owns_whole (c.tc : Thread nD τ) cc0_stg2_0 fullShare _)) $$ W2
  ihave X3 := (show (owns c ((cfg0.win 3).stage (cfg0.slots t0_0 3)) fullShare ((dat m c).before 3 t0_0 d3) : sProp 𝕄) ⊢ A3 c ((ins m).wo c) from
    Entails.of_eq (by rw [before_wo, iblk_wo]; exact owns_whole (c.tc : Thread nD τ) cc0_stg3_0 fullShare _)) $$ W3
  ihave X4 := (show (owns c ((cfg0.win 4).stage (cfg0.slots t0_0 4)) fullShare ((dat m c).before 4 t0_0 d4) : sProp 𝕄)
      ⊢ A4 c Finset.univ ((dat m c).before 4 t0_0 d4 : Vec F S2x256x512 .f32) from
    Entails.of_eq (owns_whole (c.tc : Thread nD τ) cc0_stg4_0 fullShare _)) $$ W4
  iapply (body_wp (ins m) K c) $$ [HO' Hg X0 X1 X2 X3 X4 S0 S1 S2 S3]
  · isplitr; · iexact HI
    isplitr; · iexact HL
    isplitl [HO']; · unfold owesE; iexact HO'
    isplitl [Hg]; · iexact Hg
    unfold bin
    iframe
  unfold bout owesE
  iintro ⟨⟨%W', HO⟩, Hg, X0, X1, X2, X3, X4, S0, S1, ⟨%f7, S2⟩, S3⟩
  imod (close_all (ins m) K c) $$ [Hg H4] with ⟨Hb, Hs⟩
  · iframe # ∗
  imodintro
  isplitl [Hb Hs S0 S1 S2 S3 Hreg]
  · isplitl [Hb Hs]
    · isplitl [Hb]; · iexact Hb
      iapply (show (bigSep Finset.univ (fun n : Fin 28 => semVal ((c : Thread nD τ), osem n) 0) : sProp 𝕄) ⊢ Pipeline.ownSems0 osem c from Entails.of_eq rfl) $$ Hs
    isplitl [S0 S1 S2 S3]
    · isplitl [S0]; · iexists _; iexact S0
      isplitl [S1]; · iexists _; iexact S1
      isplitl [S2]; · iexists _; iexact S2
      iexists _; iexact S3
    iexact Hreg
  isplitl [HO]
  · iapply (owesAt_of m c t0_0.succ 0 (owed_last m c) W'); iexact HO
  isplitl [X0]
  · iapply (show (A0 c ((ins m).x c) : sProp 𝕄) ⊢ owns c ((cfg0.win 0).stage (cfg0.slots t0_0 0)) fullShare (iblk m c 0 t0_0) from
      Entails.of_eq (by rw [iblk_x]; exact (owns_whole (c.tc : Thread nD τ) cc0_stg0_0 fullShare _).symm)) $$ X0
  isplitl [X1]
  · iapply (show (A1 c ((ins m).wq c) : sProp 𝕄) ⊢ owns c ((cfg0.win 1).stage (cfg0.slots t0_0 1)) fullShare (iblk m c 1 t0_0) from
      Entails.of_eq (by rw [iblk_wq]; exact (owns_whole (c.tc : Thread nD τ) cc0_stg1_0 fullShare _).symm)) $$ X1
  isplitl [X2]
  · iapply (show (A2 c Finset.univ ((ins m).kv c) : sProp 𝕄) ⊢ owns c ((cfg0.win 2).stage (cfg0.slots t0_0 2)) fullShare (iblk m c 2 t0_0) from
      Entails.of_eq (by rw [iblk_kv]; exact (owns_whole (c.tc : Thread nD τ) cc0_stg2_0 fullShare _).symm)) $$ X2
  isplitl [X3]
  · iapply (show (A3 c ((ins m).wo c) : sProp 𝕄) ⊢ owns c ((cfg0.win 3).stage (cfg0.slots t0_0 3)) fullShare (iblk m c 3 t0_0) from
      Entails.of_eq (by rw [iblk_wo]; exact (owns_whole (c.tc : Thread nD τ) cc0_stg3_0 fullShare _).symm)) $$ X3
  iapply (show (A4 c Finset.univ (outR (ins m) c) : sProp 𝕄) ⊢ owns c ((cfg0.win 4).stage (cfg0.slots t0_0 4)) fullShare (outR (ins m) c) from
    Entails.of_eq (owns_whole (c.tc : Thread nD τ) cc0_stg4_0 fullShare _).symm) $$ X4

/-- Every run ends with the arguments as they were, every counter at zero and the result as computed. -/
theorem run_post : θ_run defs (onTc (τ := τ) (main (F := F))) (⟨m, fun _ => 0, ρ⟩ : MemSt nD τ sig (Elt F))
    (fun r => (∀ c : Dev nD, Post m c r.2) ∧ r.2.sem = fun _ => 0) := run_main m ρ (body_ob m)

end Cert.KernelIdeal.Prf
-- ==== Proof.RefRead.lean ====
module

public import proofs.«01_k».proof.Proof.Gen.ReferenceIdeal.Run
public import Idealize.ShloMosaic.Lib.Pointwise
public import Idealize.ShloMosaic.Lib.IdealHost

@[expose] public section

set_option maxRecDepth 65536

noncomputable section

namespace Cert.ReferenceIdeal.Prf

open Idealize.ShloMosaic Idealize.SL.Sem Cert.ReferenceIdeal Cert.ReferenceIdeal.Gen Cert.ReferenceIdeal.Value

variable {F : FTy → Type} [FloatOps F]

/-- The quantised keys or values, as numbers. -/
def rcode (x : FVec F S2x1024x16x64 .bf16) : FVec F S2x1024x16x64 .f32 :=
  mulf (extf .f32 (minimumf (broadcastInDim S2x1024x16x64 ![] bcast_S_S2x1024x16x64 (sitofp .bf16 (constantI S_ 32 127#32)))
    (maximumf (broadcastInDim S2x1024x16x64 ![] bcast_S_S2x1024x16x64 (sitofp .bf16 (constantI S_ 32 4294967169#32)))
      (Host.roundeven (Host.divf x (broadcastInDim S2x1024x16x64 ![] bcast_S_S2x1024x16x64 (constant S_ .bf16 0x3D01#16)))))) bitsLt_bf16_f32)
    (broadcastInDim S2x1024x16x64 ![] bcast_S_S2x1024x16x64 (constant S_ .f32 0x3D010204#32))

/-- The queries by head. -/
def rq (x : FVec F S2x256x512 .bf16) (wq : FVec F S512x1024 .bf16) : FVec F S2x256x16x64 .f32 :=
  shapeCast S2x256x16x64 (Host.dotGeneral dot_S2x256x512_S512x1024_S2x256x1024_2_0_01_1_n_n none (extf .f32 x bitsLt_bf16_f32) (extf .f32 wq bitsLt_bf16_f32))
    shapeCasts_S2x256x1024_S2x256x16x64

/-- The query rows' block numbers. -/
def rqb : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The keys' block numbers. -/
def rkb : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The number three, or one were it zero. -/
def r3 : IVec S_ 32 :=
  select (cmpi .eq (id (constantI S_ 32 3#32)) (constantI S_ 32 0#32)) (constantI S_ 32 1#32) (id (constantI S_ 32 3#32))

/-- Remainders of an array by three, with the divisor's sign. -/
def rmod (x : IVec S256x1024 32) : IVec S256x1024 32 :=
  select (andi (cmpi .ne (cmpi .slt (Host.remsi x (broadcastInDim S256x1024 ![] bcast_S_S256x1024 r3)) (broadcastInDim S256x1024 ![] bcast_S_S256x1024 (constantI S_ 32 0#32)))
        (broadcastInDim S256x1024 ![] bcast_S_S256x1024 (cmpi .slt r3 (constantI S_ 32 0#32))))
      (cmpi .ne (Host.remsi x (broadcastInDim S256x1024 ![] bcast_S_S256x1024 r3)) (broadcastInDim S256x1024 ![] bcast_S_S256x1024 (constantI S_ 32 0#32))))
    (addi (Host.remsi x (broadcastInDim S256x1024 ![] bcast_S_S256x1024 r3)) (broadcastInDim S256x1024 ![] bcast_S_S256x1024 r3))
    (Host.remsi x (broadcastInDim S256x1024 ![] bcast_S_S256x1024 r3))

/-- The query rows' block numbers over the scores. -/
def rqB : IVec S256x1024 32 :=
  broadcastInDim S256x1024 ![0, 1] bcast_S256x1_S256x1024_0_1 (broadcastInDim S256x1 ![0] bcast_S256_S256x1_0 rqb)

/-- The keys' block numbers over the scores. -/
def rkB : IVec S256x1024 32 :=
  broadcastInDim S256x1024 ![0, 1] bcast_S1x1024_S256x1024_0_1 (broadcastInDim S1x1024 ![1] bcast_S1024_S1x1024_1 rkb)

/-- Which scores are kept. -/
def rmask : IVec S256x1024 1 :=
  ori (ori (cmpi .eq rqB rkB)
      (broadcastInDim S256x1024 ![0, 1] bcast_S1x1024_S256x1024_0_1 (cmpi .eq (broadcastInDim S1x1024 ![1] bcast_S1024_S1x1024_1 rkb)
        (broadcastInDim S1x1024 ![] bcast_S_S1x1024 (constantI S_ 32 0#32)))))
    (cmpi .eq (rmod (addi rqB rkB)) (broadcastInDim S256x1024 ![] bcast_S_S256x1024 (constantI S_ 32 0#32)))

/-- The masked scores. -/
def rsc (q : FVec F S2x256x16x64 .f32) (k : FVec F S2x1024x16x64 .f32) : FVec F S2x16x256x1024 .f32 :=
  select (broadcastInDim S2x16x256x1024 ![0, 1, 2, 3] bcast_S1x1x256x1024_S2x16x256x1024_0_1_2_3
      (broadcastInDim S1x1x256x1024 ![2, 3] bcast_S256x1024_S1x1x256x1024_2_3 rmask))
    (mulf (Host.dotGeneral dot_S2x256x16x64_S2x1024x16x64_S2x16x256x1024_3_3_1_1_02_02 none q k)
      (broadcastInDim S2x16x256x1024 ![] bcast_S_S2x16x256x1024 (constant S_ .f32 0x3E000000#32)))
    (broadcastInDim S2x16x256x1024 ![] bcast_S_S2x16x256x1024 (id (constant S_ .f32 0xFF800000#32)))

/-- The weights against the row maxima. -/
def rw0 (s : FVec F S2x16x256x1024 .f32) : FVec F S2x16x256x1024 .f32 :=
  Host.exp (subf s (broadcastInDim S2x16x256x1024 ![0, 1, 2, 3] bcast_S2x16x256x1_S2x16x256x1024_0_1_2_3
    (broadcastInDim S2x16x256x1 ![0, 1, 2] bcast_S2x16x256_S2x16x256x1_0_1_2
      (Host.reduce FloatOps.maximumf s (constant S_ .f32 0xFF800000#32) reducesTo_S2x16x256x1024_S2x16x256_d3 h_S_))))

/-- Whether a row keeps any score. -/
def rkeep : IVec S1x1x256x1 1 :=
  broadcastInDim S1x1x256x1 ![2] bcast_S256_S1x1x256x1_2 (Host.reduce IntOp.ori rmask (constantI S_ 1 0#1) reducesTo_S256x1024_S256_d1 h_S_)

/-- The normalised weights. -/
def rw1 (w : FVec F S2x16x256x1024 .f32) : FVec F S2x16x256x1024 .f32 :=
  select (broadcastInDim S2x16x256x1024 ![0, 1, 2, 3] bcast_S1x1x256x1_S2x16x256x1024_0_1_2_3 rkeep)
    (mulf w (broadcastInDim S2x16x256x1024 ![0, 1, 2, 3] bcast_S2x16x256x1_S2x16x256x1024_0_1_2_3
      (Host.divf (broadcastInDim S2x16x256x1 ![] bcast_S_S2x16x256x1 (constant S_ .f32 0x3F800000#32))
        (select (broadcastInDim S2x16x256x1 ![0, 1, 2, 3] bcast_S1x1x256x1_S2x16x256x1_0_1_2_3 rkeep)
          (broadcastInDim S2x16x256x1 ![0, 1, 2] bcast_S2x16x256_S2x16x256x1_0_1_2
            (Host.reduceAdd w (constant S_ .f32 0x00000000#32) reducesTo_S2x16x256x1024_S2x16x256_d3 h_S_))
          (broadcastInDim S2x16x256x1 ![] bcast_S_S2x16x256x1 (id (constant S_ .f32 0x3F800000#32)))))))
    (broadcastInDim S2x16x256x1024 ![] bcast_S_S2x16x256x1024 (id (constant S_ .f32 0x00000000#32)))

/-- The weighted values, rows of all heads side by side. -/
def rctx (v : FVec F S2x1024x16x64 .f32) (w : FVec F S2x16x256x1024 .f32) : FVec F S2x256x1024 .f32 :=
  shapeCast S2x256x1024 (transpose S2x256x16x64 [0, 3, 1, 2]
    (Host.dotGeneral dot_S2x1024x16x64_S2x16x256x1024_S2x16x64x256_1_3_3_2_02_01 none v w) transposes_S2x16x64x256_S2x256x16x64_0_3_1_2)
    shapeCasts_S2x256x16x64_S2x256x1024

/-- The projected result. -/
def rout (z : FVec F S2x256x1024 .f32) (wo : FVec F S1024x512 .bf16) : FVec F S2x256x512 .f32 :=
  Host.dotGeneral dot_S2x256x1024_S1024x512_S2x256x512_2_0_01_1_n_n none z (extf .f32 wo bitsLt_bf16_f32)

/-- The reference's result, in named stages. -/
theorem res_eq (m : (ℓ : Loc nD τ sig) → Buf (Elt F) ℓ) (c : Dev nD) :
    (res_out0 m c : FVec F S2x256x512 .f32)
      = rout (rctx (rcode (m ((c.tc : Thread nD τ).loc main_arg3)))
          (rw1 (rw0 (rsc (rq (m ((c.tc : Thread nD τ).loc main_arg0)) (m ((c.tc : Thread nD τ).loc main_arg1)))
            (rcode (m ((c.tc : Thread nD τ).loc main_arg2)))))))
        (m ((c.tc : Thread nD τ).loc main_arg4)) := by
  unfold res_out0 res_main_v63
  rfl

end Cert.ReferenceIdeal.Prf
-- ==== Proof.Chain.lean ====
module

public import proofs.«01_k».proof.Proof.Vals
public import Idealize.ShloMosaic.Lib.Pointwise.Index

@[expose] public section

set_option maxRecDepth 65536

noncomputable section

namespace Cert.KernelIdeal.Prf

open Idealize.ShloMosaic Idealize.SL.Sem Cert.KernelIdeal.Gen

variable {F : FTy → Type} [FloatOps F] [Named F]

/-- The running softmax of one head: row maxima, row sums and the weighted sum of values. -/
structure St (F : FTy → Type) where
  /-- the row maxima so far -/
  m : FVec F S256x1 .f32
  /-- the row sums so far -/
  l : FVec F S256x1 .f32
  /-- the weighted values so far -/
  x : FVec F S256x64 .f32

/-- A loaded block of codes as floats. -/
def kf (k : Vec F S1x1x1x1x256x64 .i8) : FVec F S256x64 .bf16 :=
  sitofp .bf16 (shapeCast S256x64 (shapeCast S1x256x64 k shapeCasts_S1x1x1x1x256x64_S1x256x64) shapeCasts_S1x256x64_S256x64)

/-- The biased scores of a block of keys. -/
def scs (q : FVec F S256x64 .bf16) (bias : FVec F S256x256 .f32) (k : Vec F S1x1x1x1x256x64 .i8) : FVec F S256x256 .f32 :=
  addf (matmul dot_S256x64_S256x64_S256x256_1_1_0_0_n_n none q (kf k) (constant S256x256 .f32 0x00000000#32)) bias

/-- The row maxima of a block of scores. -/
def mxs (s : FVec F S256x256 .f32) : FVec F S256x1 .f32 :=
  shapeCast S256x1 (multiReduction .maximumf [1] S256 s 0xFF800000#32 reduces_S256x256_S256 (.inl rfl) rfl) shapeCasts_S256_S256x1

/-- The weights of a block of scores against row maxima. -/
def wts (s : FVec F S256x256 .f32) (m : FVec F S256x1 .f32) : FVec F S256x256 .f32 :=
  exp (subf s (broadcastTo S256x256 m broadcasts_S256x1_S256x256))

/-- The row sums of a block of weights. -/
def sms (p : FVec F S256x256 .f32) : FVec F S256x1 .f32 :=
  shapeCast S256x1 (multiReduction .add [1] S256 p 0x00000000#32 reduces_S256x256_S256 (.inl rfl) rfl) shapeCasts_S256_S256x1

/-- The values weighted by a block of weights. -/
def wvs (p : FVec F S256x256 .f32) (v : Vec F S1x1x1x1x256x64 .i8) : FVec F S256x64 .f32 :=
  matmul dot_S256x256_S256x64_S256x64_1_0_0_1_n_n none (truncf .bf16 p bitsLt_bf16_f32) (kf v) (constant S256x64 .f32 0x00000000#32)

/-- The state after the first block. -/
def fst0 (s : FVec F S256x256 .f32) (v : Vec F S1x1x1x1x256x64 .i8) : St F :=
  ⟨mxs s, sms (wts s (mxs s)), wvs (wts s (mxs s)) v⟩

/-- The state after one more block. -/
def nxt (a : St F) (s : FVec F S256x256 .f32) (v : Vec F S1x1x1x1x256x64 .i8) : St F :=
  ⟨maximumf a.m (mxs s),
   addf (mulf a.l (exp (subf a.m (maximumf a.m (mxs s))))) (sms (wts s (maximumf a.m (mxs s)))),
   addf (mulf a.x (broadcastTo S256x64 (exp (subf a.m (maximumf a.m (mxs s)))) broadcasts_S256x1_S256x64))
     (wvs (wts s (maximumf a.m (mxs s))) v)⟩

/-- The scaled queries of a head of a batch entry. -/
def qv (I : Ins F) (c : Dev nD) (b : Fin 2) (h : Fin 4) : FVec F S256x64 .bf16 :=
  match b, h with
  | 0, 0 => v54 I c
  | 0, 1 => v62 I c
  | 0, 2 => v70 I c
  | 0, 3 => v78 I c
  | 1, 0 => v86 I c
  | 1, 1 => v94 I c
  | 1, 2 => v102 I c
  | 1, 3 => v110 I c

/-- The bias of the block of keys `o` places on. -/
def bias (I : Ins F) (c : Dev nD) (o : Fin 4) : FVec F S256x256 .f32 :=
  match o with
  | 0 => v216 I c
  | 1 => v424 I c
  | 2 => v968 I c
  | 3 => v696 I c

/-- Where a block of codes starts. -/
def koff (c : Dev nD) (o : Fin 4) (b : Fin 2) (h : Fin 4) (t : Fin 2) : Fin 6 → Nat :=
  match b, h, t with
  | 0, 0, 0 => k0_off5 c (BitVec.ofNat 32 o.val)
  | 0, 0, 1 => k0_off6 c (BitVec.ofNat 32 o.val)
  | 0, 1, 0 => k0_off7 c (BitVec.ofNat 32 o.val)
  | 0, 1, 1 => k0_off8 c (BitVec.ofNat 32 o.val)
  | 0, 2, 0 => k0_off9 c (BitVec.ofNat 32 o.val)
  | 0, 2, 1 => k0_off10 c (BitVec.ofNat 32 o.val)
  | 0, 3, 0 => k0_off11 c (BitVec.ofNat 32 o.val)
  | 0, 3, 1 => k0_off12 c (BitVec.ofNat 32 o.val)
  | 1, 0, 0 => k0_off13 c (BitVec.ofNat 32 o.val)
  | 1, 0, 1 => k0_off14 c (BitVec.ofNat 32 o.val)
  | 1, 1, 0 => k0_off15 c (BitVec.ofNat 32 o.val)
  | 1, 1, 1 => k0_off16 c (BitVec.ofNat 32 o.val)
  | 1, 2, 0 => k0_off17 c (BitVec.ofNat 32 o.val)
  | 1, 2, 1 => k0_off18 c (BitVec.ofNat 32 o.val)
  | 1, 3, 0 => k0_off19 c (BitVec.ofNat 32 o.val)
  | 1, 3, 1 => k0_off20 c (BitVec.ofNat 32 o.val)

/-- A block of codes lies in its buffer. -/
theorem koff_inb (c : Dev nD) (o : Fin 4) (b : Fin 2) (h : Fin 4) (t : Fin 2) (a) :
    koff c o b h t a + S1x1x1x1x256x64.size a ≤ S4x2x2x4x256x64.size a := by
  match b, h, t with
  | 0, 0, 0 => exact k0_off5_inb c o a
  | 0, 0, 1 => exact k0_off6_inb c o a
  | 0, 1, 0 => exact k0_off7_inb c o a
  | 0, 1, 1 => exact k0_off8_inb c o a
  | 0, 2, 0 => exact k0_off9_inb c o a
  | 0, 2, 1 => exact k0_off10_inb c o a
  | 0, 3, 0 => exact k0_off11_inb c o a
  | 0, 3, 1 => exact k0_off12_inb c o a
  | 1, 0, 0 => exact k0_off13_inb c o a
  | 1, 0, 1 => exact k0_off14_inb c o a
  | 1, 1, 0 => exact k0_off15_inb c o a
  | 1, 1, 1 => exact k0_off16_inb c o a
  | 1, 2, 0 => exact k0_off17_inb c o a
  | 1, 2, 1 => exact k0_off18_inb c o a
  | 1, 3, 0 => exact k0_off19_inb c o a
  | 1, 3, 1 => exact k0_off20_inb c o a

/-- Where a block of codes starts, in closed form. -/
theorem koff_eq (c : Dev nD) (o : Fin 4) (b : Fin 2) (h : Fin 4) (t : Fin 2) :
    koff c o b h t = ![(c.val + o.val) % 4, t.val, b.val, h.val, 0, 0] := by
  match b, h, t with
  | 0, 0, 0 => exact k0_off5_eq c o
  | 0, 0, 1 => exact k0_off6_eq c o
  | 0, 1, 0 => exact k0_off7_eq c o
  | 0, 1, 1 => exact k0_off8_eq c o
  | 0, 2, 0 => exact k0_off9_eq c o
  | 0, 2, 1 => exact k0_off10_eq c o
  | 0, 3, 0 => exact k0_off11_eq c o
  | 0, 3, 1 => exact k0_off12_eq c o
  | 1, 0, 0 => exact k0_off13_eq c o
  | 1, 0, 1 => exact k0_off14_eq c o
  | 1, 1, 0 => exact k0_off15_eq c o
  | 1, 1, 1 => exact k0_off16_eq c o
  | 1, 2, 0 => exact k0_off17_eq c o
  | 1, 2, 1 => exact k0_off18_eq c o
  | 1, 3, 0 => exact k0_off19_eq c o
  | 1, 3, 1 => exact k0_off20_eq c o

/-- The loaded block of codes: keys at `t = 0`, values at `t = 1`. -/
def kld (I : Ins F) (c : Dev nD) (o : Fin 4) (b : Fin 2) (h : Fin 4) (t : Fin 2) : Vec F S1x1x1x1x256x64 .i8 :=
  ld (kvR I c) (Rect.unit (s := S4x2x2x4x256x64) (koff c o b h t) S1x1x1x1x256x64.size (koff_inb c o b h t))

/-- The biased scores of a head against the block of keys `o` places on. -/
def scI (I : Ins F) (c : Dev nD) (b : Fin 2) (h o : Fin 4) : FVec F S256x256 .f32 :=
  scs (qv I c b h) (bias I c o) (kld I c o b h 0)

/-- The final state of a head. -/
def hd (I : Ins F) (c : Dev nD) (b : Fin 2) (h : Fin 4) : St F :=
  nxt (nxt (nxt (fst0 (scI I c b h 0) (kld I c 0 b h 1)) (scI I c b h 1) (kld I c 1 b h 1))
    (scI I c b h 3) (kld I c 3 b h 1)) (scI I c b h 2) (kld I c 2 b h 1)

/-- A head's output from its final state. -/
def ctx (a : St F) : FVec F S256x64 .bf16 :=
  truncf .bf16 (mulf a.x (broadcastTo S256x64 (divf (broadcast S256x1 (Scalar.ofBits .f32 0x3D010204#32)) a.l) broadcasts_S256x1_S256x64)) bitsLt_bf16_f32

/-- The output weights of a head, as loaded. -/
def wol (I : Ins F) (c : Dev nD) (h : Fin 4) : Vec F S1x64x512 .bf16 :=
  match h with
  | 0 => v1091 I c
  | 1 => v1100 I c
  | 2 => v1109 I c
  | 3 => v1118 I c

/-- A head's projected output. -/
def prj (I : Ins F) (c : Dev nD) (b : Fin 2) (h : Fin 4) : FVec F S256x512 .f32 :=
  matmul dot_S256x64_S64x512_S256x512_1_0_0_1_n_n none (ctx (hd I c b h))
    (shapeCast S64x512 (wol I c h) shapeCasts_S1x64x512_S64x512) (constant S256x512 .f32 0x00000000#32)

/-- A device's partial projection of a batch entry. -/
def prt (I : Ins F) (c : Dev nD) (b : Fin 2) : FVec F S256x512 .bf16 :=
  truncf .bf16 (addf (addf (addf (addf (broadcast S256x512 (Scalar.ofBits .f32 0x00000000#32)) (prj I c b 0)) (prj I c b 1)) (prj I c b 2)) (prj I c b 3)) bitsLt_bf16_f32

/-- A quarter of the rows of a partial projection. -/
def qrow (p : FVec F S256x512 .bf16) (qt : Fin 4) : FVec F S1x1x64x512 .bf16 :=
  match qt with
  | 0 => shapeCast S1x1x64x512 (extractStridedSlice S64x512 ![0, 0] p slices_S256x512_o0_0_S64x512) shapeCasts_S64x512_S1x1x64x512
  | 1 => shapeCast S1x1x64x512 (extractStridedSlice S64x512 ![64, 0] p slices_S256x512_o64_0_S64x512) shapeCasts_S64x512_S1x1x64x512
  | 2 => shapeCast S1x1x64x512 (extractStridedSlice S64x512 ![128, 0] p slices_S256x512_o128_0_S64x512) shapeCasts_S64x512_S1x1x64x512
  | 3 => shapeCast S1x1x64x512 (extractStridedSlice S64x512 ![192, 0] p slices_S256x512_o192_0_S64x512) shapeCasts_S64x512_S1x1x64x512

/-- The state of each head after the first block, by its named values. -/
def s0 (I : Ins F) (c : Dev nD) (b : Fin 2) (h : Fin 4) : St F :=
  match b, h with
  | 0, 0 => ⟨v230 I c, v235 I c, v237 I c⟩
  | 0, 1 => ⟨v251 I c, v256 I c, v258 I c⟩
  | 0, 2 => ⟨v272 I c, v277 I c, v279 I c⟩
  | 0, 3 => ⟨v293 I c, v298 I c, v300 I c⟩
  | 1, 0 => ⟨v314 I c, v319 I c, v321 I c⟩
  | 1, 1 => ⟨v335 I c, v340 I c, v342 I c⟩
  | 1, 2 => ⟨v356 I c, v361 I c, v363 I c⟩
  | 1, 3 => ⟨v377 I c, v382 I c, v384 I c⟩

/-- The first step gives those values. -/
theorem s0_eq (I : Ins F) (c : Dev nD) (b : Fin 2) (h : Fin 4) :
    fst0 (scI I c b h 0) (kld I c 0 b h 1) = s0 I c b h := by
  match b, h with
  | 0, 0 => rfl
  | 0, 1 => rfl
  | 0, 2 => rfl
  | 0, 3 => rfl
  | 1, 0 => rfl
  | 1, 1 => rfl
  | 1, 2 => rfl
  | 1, 3 => rfl

attribute [local irreducible] v230 v235 v237 v251 v256 v258 v272 v277 v279 v293 v298 v300 v314 v319 v321 v335 v340 v342 v356 v361 v363 v377 v382 v384

/-- The state of each head after the second block, by its named values. -/
def s1 (I : Ins F) (c : Dev nD) (b : Fin 2) (h : Fin 4) : St F :=
  match b, h with
  | 0, 0 => ⟨v439 I c, v448 I c, v453 I c⟩
  | 0, 1 => ⟨v468 I c, v477 I c, v482 I c⟩
  | 0, 2 => ⟨v497 I c, v506 I c, v511 I c⟩
  | 0, 3 => ⟨v526 I c, v535 I c, v540 I c⟩
  | 1, 0 => ⟨v555 I c, v564 I c, v569 I c⟩
  | 1, 1 => ⟨v584 I c, v593 I c, v598 I c⟩
  | 1, 2 => ⟨v613 I c, v622 I c, v627 I c⟩
  | 1, 3 => ⟨v642 I c, v651 I c, v656 I c⟩

/-- The second step gives those values. -/
theorem s1_eq (I : Ins F) (c : Dev nD) (b : Fin 2) (h : Fin 4) :
    nxt (s0 I c b h) (scI I c b h 1) (kld I c 1 b h 1) = s1 I c b h := by
  match b, h with
  | 0, 0 => rfl
  | 0, 1 => rfl
  | 0, 2 => rfl
  | 0, 3 => rfl
  | 1, 0 => rfl
  | 1, 1 => rfl
  | 1, 2 => rfl
  | 1, 3 => rfl

attribute [local irreducible] v439 v448 v453 v468 v477 v482 v497 v506 v511 v526 v535 v540 v555 v564 v569 v584 v593 v598 v613 v622 v627 v642 v651 v656

/-- The state of each head after the third block, by its named values. -/
def s3 (I : Ins F) (c : Dev nD) (b : Fin 2) (h : Fin 4) : St F :=
  match b, h with
  | 0, 0 => ⟨v711 I c, v720 I c, v725 I c⟩
  | 0, 1 => ⟨v740 I c, v749 I c, v754 I c⟩
  | 0, 2 => ⟨v769 I c, v778 I c, v783 I c⟩
  | 0, 3 => ⟨v798 I c, v807 I c, v812 I c⟩
  | 1, 0 => ⟨v827 I c, v836 I c, v841 I c⟩
  | 1, 1 => ⟨v856 I c, v865 I c, v870 I c⟩
  | 1, 2 => ⟨v885 I c, v894 I c, v899 I c⟩
  | 1, 3 => ⟨v914 I c, v923 I c, v928 I c⟩

/-- The third step gives those values. -/
theorem s3_eq (I : Ins F) (c : Dev nD) (b : Fin 2) (h : Fin 4) :
    nxt (s1 I c b h) (scI I c b h 3) (kld I c 3 b h 1) = s3 I c b h := by
  match b, h with
  | 0, 0 => rfl
  | 0, 1 => rfl
  | 0, 2 => rfl
  | 0, 3 => rfl
  | 1, 0 => rfl
  | 1, 1 => rfl
  | 1, 2 => rfl
  | 1, 3 => rfl

attribute [local irreducible] v711 v720 v725 v740 v749 v754 v769 v778 v783 v798 v807 v812 v827 v836 v841 v856 v865 v870 v885 v894 v899 v914 v923 v928

/-- The state of each head after the last block, by its named values. -/
def s2 (I : Ins F) (c : Dev nD) (b : Fin 2) (h : Fin 4) : St F :=
  match b, h with
  | 0, 0 => ⟨maximumf (s3 I c 0 0).m (mxs (scI I c 0 0 2)), v992 I c, v997 I c⟩
  | 0, 1 => ⟨maximumf (s3 I c 0 1).m (mxs (scI I c 0 1 2)), v1021 I c, v1026 I c⟩
  | 0, 2 => ⟨maximumf (s3 I c 0 2).m (mxs (scI I c 0 2 2)), v1050 I c, v1055 I c⟩
  | 0, 3 => ⟨maximumf (s3 I c 0 3).m (mxs (scI I c 0 3 2)), v1079 I c, v1084 I c⟩
  | 1, 0 => ⟨maximumf (s3 I c 1 0).m (mxs (scI I c 1 0 2)), v1198 I c, v1203 I c⟩
  | 1, 1 => ⟨maximumf (s3 I c 1 1).m (mxs (scI I c 1 1 2)), v1227 I c, v1232 I c⟩
  | 1, 2 => ⟨maximumf (s3 I c 1 2).m (mxs (scI I c 1 2 2)), v1256 I c, v1261 I c⟩
  | 1, 3 => ⟨maximumf (s3 I c 1 3).m (mxs (scI I c 1 3 2)), v1285 I c, addf (v1287 I c) (matmul dot_S256x256_S256x64_S256x64_1_0_0_1_n_n none (v1288 I c) (v1271 I c) (constant S256x64 .f32 0x00000000#32))⟩

/-- The last step gives those values. -/
theorem s2_eq (I : Ins F) (c : Dev nD) (b : Fin 2) (h : Fin 4) :
    nxt (s3 I c b h) (scI I c b h 2) (kld I c 2 b h 1) = s2 I c b h := by
  match b, h with
  | 0, 0 => rfl
  | 0, 1 => rfl
  | 0, 2 => rfl
  | 0, 3 => rfl
  | 1, 0 => rfl
  | 1, 1 => rfl
  | 1, 2 => rfl
  | 1, 3 => rfl

attribute [local irreducible] v992 v997 v1021 v1026 v1050 v1055 v1079 v1084 v1198 v1203 v1227 v1232 v1256 v1261 v1285

/-- The final state of each head, by its named values. -/
theorem hd_eq (I : Ins F) (c : Dev nD) (b : Fin 2) (h : Fin 4) : hd I c b h = s2 I c b h := by
  unfold hd; rw [s0_eq, s1_eq, s3_eq, s2_eq]

/-- The quarters that a device sends are those of its partial projections. -/
theorem pqT_eq (I : Ins F) (c : Dev nD) (qt : Fin 4) (b : Fin 2) : pqT I c qt b = qrow (prt I c b) qt := by
  unfold prt prj
  simp only [hd_eq]
  match b, qt with
  | 0, 0 => rfl
  | 0, 1 => rfl
  | 0, 2 => rfl
  | 0, 3 => rfl
  | 1, 0 => rfl
  | 1, 1 => rfl
  | 1, 2 => rfl
  | 1, 3 => rfl

end Cert.KernelIdeal.Prf
-- ==== Proof.Mask.lean ====
module

public import proofs.«01_k».proof.Proof.Chain
public import Idealize.ShloMosaic.Lib.Pointwise

@[expose] public section

set_option maxRecDepth 65536

noncomputable section

namespace Cert.KernelIdeal.Prf

open Idealize.ShloMosaic Idealize.SL.Sem Cert.KernelIdeal.Gen

/-- Whether a block of queries attends to a block of keys. -/
def keep (a b : Nat) : Bool := a == b || b == 0 || (a + b) % 3 == 0

/-- The row block's number. -/
theorem v159_at (I : Ins Ideal) (c : Dev nD) (r k : Fin 256) : v159 I c (ix2 r k) = BitVec.ofNat 32 (r.val / 64) := by
  pointwise [v159, k0_pay13]
  revert r
  decide +kernel

/-- The column block's number. -/
theorem v184_at (I : Ins Ideal) (c : Dev nD) (r k : Fin 256) : v184 I c (ix2 r k) = BitVec.ofNat 32 (k.val / 64) := by
  pointwise [v184, k0_pay16, v160, c64_i32_157, v162, v169, v174, v173, v172, v171, v170, k0_pay14, k0_pay15]
  revert k
  decide +kernel

/-- The masking constant is minus infinity. -/
theorem mask_bot : (Named.named κ "mask" 0xCE6E6B28#32 : Ideal .f32) = (⊥ : EReal) :=
  IdealRules.named_const.ideal_named_scalar _ _ _ _ rfl

/-- A choice by a bit whose value is known. -/
theorem sel_bit (b : BitVec 1) (K : Bool) (h : b = BitVec.ofBool K) {α : Type} (x y : α) :
    Scalar.select b x y = if K then x else y := by
  subst h
  cases K <;> rfl

/-- The bias of a key against a query row: nothing where the blocks meet, minus infinity elsewhere. -/
theorem bias_at (I : Ins Ideal) (c : Dev nD) (o : Fin 4) (r k : Fin 256) :
    bias I c o (ix2 r k) = if keep (r.val / 64) ((c.val + o.val) % 4 * 4 + k.val / 64) then (0 : EReal) else ⊥ := by
  have ha : r.val / 64 < 4 := by omega
  have hb : k.val / 64 < 4 := by omega
  match o with
  | 0 =>
    show v216 I c (ix2 r k) = _
    pointwise [v216, k0_pay17, v2]
    rw [v159_at, show k0_pay16 (v160 I c) (c64_i32_157 I c) (v162 I c) (v169 I c) (v174 I c) (ix2 r k) = _ from v184_at I c r k, mask_bot]
    refine sel_bit _ _ ?_ _ _
    generalize r.val / 64 = a at ha ⊢
    generalize k.val / 64 = b at hb ⊢
    revert a b c
    decide +kernel
  | 1 =>
    show v424 I c (ix2 r k) = _
    pointwise [v424, k0_pay65, v386, v385, v2]
    rw [v159_at, v184_at, mask_bot]
    refine sel_bit _ _ ?_ _ _
    generalize r.val / 64 = a at ha ⊢
    generalize k.val / 64 = b at hb ⊢
    revert a b c
    decide +kernel
  | 2 =>
    show v968 I c (ix2 r k) = _
    pointwise [v968, k0_pay184, v945, v946, v948, v947, k0_pay181, k0_pay182, k0_pay183, v2]
    rw [v159_at, v184_at, mask_bot]
    refine sel_bit _ _ ?_ _ _
    generalize r.val / 64 = a at ha ⊢
    generalize k.val / 64 = b at hb ⊢
    revert a b c
    decide +kernel
  | 3 =>
    show v696 I c (ix2 r k) = _
    pointwise [v696, k0_pay124, v669, v670, c0_i32_443, k0_pay121, k0_pay122, k0_pay123, v2]
    rw [v159_at, v184_at, mask_bot]
    refine sel_bit _ _ ?_ _ _
    generalize r.val / 64 = a at ha ⊢
    generalize k.val / 64 = b at hb ⊢
    revert a b c
    decide +kernel

end Cert.KernelIdeal.Prf
-- ==== Proof.Soft.lean ====
module

public import Idealize.ShloMosaic.PureOps.Ideal
public import Idealize.ShloMosaic.PureOps.Ideal.Laws
public import Idealize.ShloMosaic.Lib.IdealHost

@[expose] public section

noncomputable section

namespace Cert.Soft

open Idealize.ShloMosaic

/-- An extended real that is a real. -/
def Re (x : EReal) : Prop := ∃ r : ℝ, x = (r : EReal)

/-- A product of reals is a real. -/
theorem Re.mul {x y : EReal} (hx : Re x) (hy : Re y) : Re (x * y) := by
  obtain ⟨a, rfl⟩ := hx
  obtain ⟨b, rfl⟩ := hy
  exact ⟨a * b, (EReal.coe_mul a b).symm⟩

/-- Reals on a finite set, as one real function. -/
theorem re_fun {ι : Type*} {A : Finset ι} {f : ι → EReal} (hf : ∀ i ∈ A, Re (f i)) :
    ∀ i ∈ A, f i = (((f i).toReal : ℝ) : EReal) := by
  intro i hi
  obtain ⟨r, hr⟩ := hf i hi
  rw [hr, EReal.toReal_coe]

/-- A finite sum of reals is the real sum. -/
theorem sum_re {ι : Type*} {A : Finset ι} {f : ι → EReal} (hf : ∀ i ∈ A, Re (f i)) :
    ∑ i ∈ A, f i = ((∑ i ∈ A, (f i).toReal : ℝ) : EReal) := by
  classical
  rw [Finset.sum_congr rfl (re_fun hf)]
  induction A using Finset.induction_on with
  | empty => simp
  | insert a A ha ih =>
    rw [Finset.sum_insert ha, Finset.sum_insert ha, ih (fun i hi => hf i (Finset.mem_insert_of_mem hi)), EReal.coe_add]

/-- A factor moves into a finite sum of reals. -/
theorem sum_mul_re {ι : Type*} {A : Finset ι} {f : ι → EReal} (hf : ∀ i ∈ A, Re (f i)) {c : EReal} (hc : Re c) :
    (∑ i ∈ A, f i) * c = ∑ i ∈ A, f i * c := by
  rw [sum_re (f := fun i => f i * c) (fun i hi => (hf i hi).mul hc), sum_re hf]
  obtain ⟨r, rfl⟩ := hc
  rw [← EReal.coe_mul, Finset.sum_mul]
  refine congrArg _ (Finset.sum_congr rfl fun i hi => ?_)
  rw [EReal.toReal_mul, EReal.toReal_coe]

/-- A positive real factor moves into any finite sum. -/
theorem sum_mul_pos {ι : Type*} (A : Finset ι) (f : ι → EReal) {c : ℝ} (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha, ← ih,
      EReal.right_distrib_of_nonneg_of_ne_top (EReal.coe_nonneg.mpr hc) (EReal.coe_ne_top c)]

/-- The exponential of a difference that is not positive is a real that is not negative. -/
theorem exp_re {s m : EReal} (h : s ≤ m) : ∃ r : ℝ, 0 ≤ r ∧ Ideal.exp (s - m) = (r : EReal) := by
  induction s using EReal.rec with
  | bot => exact ⟨0, le_refl _, by rw [EReal.bot_sub]; rfl⟩
  | top =>
    obtain rfl := top_le_iff.mp h
    exact ⟨0, le_refl _, rfl⟩
  | coe s =>
    induction m using EReal.rec with
    | bot => exact absurd h (by simp)
    | top => exact ⟨0, le_refl _, rfl⟩
    | coe m => exact ⟨Real.exp (s - m), (Real.exp_pos _).le, rfl⟩

/-- Weights against one maximum turn into weights against a greater one. -/
theorem exp_step {s m M : EReal} (h : s ≤ m) (h' : m ≤ M) :
    Ideal.exp (s - m) * Ideal.exp (m - M) = Ideal.exp (s - M) := by
  induction s using EReal.rec with
  | bot =>
    rw [EReal.bot_sub, EReal.bot_sub]
    exact zero_mul _
  | top =>
    obtain rfl := top_le_iff.mp h
    obtain rfl := top_le_iff.mp h'
    exact zero_mul (0 : EReal)
  | coe s =>
    induction m using EReal.rec with
    | bot => exact absurd h (by simp)
    | top =>
      obtain rfl := top_le_iff.mp h'
      exact zero_mul (0 : EReal)
    | coe m =>
      induction M using EReal.rec with
      | bot => exact absurd h' (by simp)
      | top => exact mul_zero (Ideal.exp ((s : EReal) - m))
      | coe M =>
        show ((Real.exp (s - m) : ℝ) : EReal) * ((Real.exp (m - M) : ℝ) : EReal) = ((Real.exp (s - M) : ℝ) : EReal)
        rw [← EReal.coe_mul, ← Real.exp_add]
        congr 2
        ring

variable {ι : Type*} [DecidableEq ι] (s v : ι → EReal)

/-- The sum of the weights of the entries in `A`, times `v`, against the maximum `M`. -/
def wsum (A : Finset ι) (M : EReal) : EReal := ∑ t ∈ A, Ideal.exp (s t - M) * v t

/-- A weighted sum changes to a greater maximum by one factor. -/
theorem wsum_step (hv : ∀ t, Re (v t)) (A : Finset ι) {M M' : EReal} (h : ∀ t ∈ A, s t ≤ M) (h' : M ≤ M') :
    wsum s v A M * Ideal.exp (M - M') = wsum s v A M' := by
  have hr : Re (Ideal.exp (M - M')) := (exp_re h').imp fun _ h => h.2
  unfold wsum
  rw [sum_mul_re (fun t ht => Re.mul ((exp_re (h t ht)).imp fun _ h => h.2) (hv t)) hr]
  refine Finset.sum_congr rfl fun t ht => ?_
  rw [mul_right_comm, exp_step (h t ht) h']

/-- A weighted sum over two disjoint parts, the first carried at its own maximum. -/
theorem wsum_union (hv : ∀ t, Re (v t)) {A B : Finset ι} (hd : Disjoint A B) :
    wsum s v A (A.sup s) * Ideal.exp (A.sup s - max (A.sup s) (B.sup s)) + wsum s v B (max (A.sup s) (B.sup s))
      = wsum s v (A ∪ B) ((A ∪ B).sup s) := by
  rw [wsum_step s v hv A (fun t ht => Finset.le_sup ht) (le_max_left _ _), Finset.sup_union]
  exact (Finset.sum_union hd).symm

/-- The weights' sum divides out alike before and after the weighted sum, at every sum. -/
theorem wsum_div {A : Finset ι} {M : EReal} (h : ∀ t ∈ A, s t ≤ M) (hv : ∀ t, Re (v t)) {σ : ℝ} (hσ : 0 < σ) :
    wsum s v A M * Ideal.div (σ : EReal) (wsum s 1 A M)
      = ∑ t ∈ A, (v t * (σ : EReal)) * (Ideal.exp (s t - M) * Ideal.div 1 (wsum s 1 A M)) := by
  have hp : ∀ t ∈ A, ∃ r : ℝ, 0 ≤ r ∧ Ideal.exp (s t - M) = (r : EReal) := fun t ht => exp_re (h t ht)
  have hl : wsum s 1 A M = ((∑ t ∈ A, (Ideal.exp (s t - M)).toReal : ℝ) : EReal) := by
    unfold wsum
    simp only [Pi.one_apply, mul_one]
    exact sum_re fun t ht => (hp t ht).imp fun _ h => h.2
  by_cases h0 : wsum s 1 A M = 0
  · have hz : ∀ t ∈ A, Ideal.exp (s t - M) = 0 := by
      have hs : ∑ t ∈ A, (Ideal.exp (s t - M)).toReal = 0 := by
        rw [hl] at h0
        exact_mod_cast h0
      have hn : ∀ t ∈ A, 0 ≤ (Ideal.exp (s t - M)).toReal := by
        intro t ht
        obtain ⟨r, hr, e⟩ := hp t ht
        rw [e, EReal.toReal_coe]
        exact hr
      intro t ht
      have := (Finset.sum_eq_zero_iff_of_nonneg hn).mp hs t ht
      obtain ⟨r, hr, e⟩ := hp t ht
      rw [e, EReal.toReal_coe] at this
      rw [e, this, EReal.coe_zero]
    have hx : wsum s v A M = 0 := Finset.sum_eq_zero fun t ht => by rw [hz t ht, zero_mul]
    rw [hx, zero_mul]
    exact (Finset.sum_eq_zero fun t ht => by rw [hz t ht, zero_mul, mul_zero]).symm
  · have hd : ∀ x : ℝ, Ideal.div (x : EReal) (wsum s 1 A M) = (x : EReal) * (wsum s 1 A M)⁻¹ := fun x => if_neg h0
    have hi : Re (wsum s 1 A M)⁻¹ := by
      rw [hl]
      exact ⟨_, (EReal.coe_inv _).symm⟩
    have e1 := hd 1
    rw [EReal.coe_one, one_mul] at e1
    rw [hd σ, e1]
    generalize (wsum s 1 A M)⁻¹ = L at hi ⊢
    unfold wsum
    rw [sum_mul_re (fun t ht => Re.mul ((hp t ht).imp fun _ h => h.2) (hv t)) (Re.mul ⟨σ, rfl⟩ hi)]
    refine Finset.sum_congr rfl fun t ht => ?_
    ac_rfl

/-- A score with the scale and the eighth in the query is the score with the scale in the key and the eighth outside. -/
theorem score_eq {ι : Type*} (A : Finset ι) (q k : ι → EReal) {κ σ : EReal} {e : ℝ} (he : 0 ≤ e) (hκ : κ = (e : EReal) * σ) :
    ∑ d ∈ A, (q d * κ) * k d = (∑ d ∈ A, q d * (k d * σ)) * (e : EReal) := by
  rw [sum_mul_pos A _ he, hκ]
  refine Finset.sum_congr rfl fun d _ => ?_
  ac_rfl

end Cert.Soft
-- ==== Proof.Rows.lean ====
module

public import proofs.«01_k».proof.Proof.Mask
public import proofs.«01_k».proof.Proof.Soft

@[expose] public section

set_option maxRecDepth 65536

noncomputable section

namespace Cert.KernelIdeal.Prf

open Idealize.ShloMosaic Idealize.SL.Sem Cert.KernelIdeal.Gen Cert.Soft

/-- A code as an extended real. -/
def cod (b : BitVec 8) : EReal := ((b.toInt : ℝ) : EReal)

/-- A block of codes, read. -/
theorem kf_at (k : Vec Ideal S1x1x1x1x256x64 .i8) (r : Fin 256) (d : Fin 64) :
    kf k (ix2 r d) = cod (k (ix6 0 0 0 0 r d)) := by
  pointwise [kf]
  rfl

/-- The biased scores, read. -/
theorem scs_at (q : FVec Ideal S256x64 .bf16) (bias : FVec Ideal S256x256 .f32) (k : Vec Ideal S1x1x1x1x256x64 .i8) (r j : Fin 256) :
    scs q bias k (ix2 r j) = (∑ d : Fin 64, q (ix2 r d) * cod (k (ix6 0 0 0 0 j d))) + bias (ix2 r j) := by
  pointwise [scs]
  simp only [kf_at]

/-- The row maxima, read. -/
theorem mxs_at (s : FVec Ideal S256x256 .f32) (r : Fin 256) :
    mxs s (ix2 r 0) = Finset.univ.sup fun j : Fin 256 => s (ix2 r j) := by
  pointwise [mxs]
  rfl

/-- The weights, read. -/
theorem wts_at (s : FVec Ideal S256x256 .f32) (m : FVec Ideal S256x1 .f32) (r j : Fin 256) :
    wts s m (ix2 r j) = Ideal.exp (s (ix2 r j) - m (ix2 r 0)) := by
  pointwise [wts]

/-- The row sums, read. -/
theorem sms_at (p : FVec Ideal S256x256 .f32) (r : Fin 256) :
    sms p (ix2 r 0) = ∑ j : Fin 256, p (ix2 r j) := by
  pointwise [sms]

/-- The weighted values, read. -/
theorem wvs_at (p : FVec Ideal S256x256 .f32) (v : Vec Ideal S1x1x1x1x256x64 .i8) (r : Fin 256) (d : Fin 64) :
    wvs p v (ix2 r d) = ∑ j : Fin 256, p (ix2 r j) * cod (v (ix6 0 0 0 0 j d)) := by
  pointwise [wvs]
  simp only [kf_at]

/-- A head's output, read. -/
theorem ctx_at (a : St Ideal) (r : Fin 256) (d : Fin 64) :
    ctx a (ix2 r d) = a.x (ix2 r d) * Ideal.div (Ideal.ofBits .f32 0x3D010204#32) (a.l (ix2 r 0)) := by
  pointwise [ctx]

/-- The next state's maxima, read. -/
theorem nxt_m (a : St Ideal) (s : FVec Ideal S256x256 .f32) (v : Vec Ideal S1x1x1x1x256x64 .i8) (r : Fin 256) :
    (nxt a s v).m (ix2 r 0) = max (a.m (ix2 r 0)) (mxs s (ix2 r 0)) := by
  pointwise [nxt]

/-- The next state's sums, read. -/
theorem nxt_l (a : St Ideal) (s : FVec Ideal S256x256 .f32) (v : Vec Ideal S1x1x1x1x256x64 .i8) (r : Fin 256) :
    (nxt a s v).l (ix2 r 0) = a.l (ix2 r 0) * Ideal.exp (a.m (ix2 r 0) - max (a.m (ix2 r 0)) (mxs s (ix2 r 0)))
      + ∑ j : Fin 256, Ideal.exp (s (ix2 r j) - max (a.m (ix2 r 0)) (mxs s (ix2 r 0))) := by
  pointwise [nxt]
  rw [sms_at]
  simp only [wts_at]
  pointwise

/-- The next state's weighted values, read. -/
theorem nxt_x (a : St Ideal) (s : FVec Ideal S256x256 .f32) (v : Vec Ideal S1x1x1x1x256x64 .i8) (r : Fin 256) (d : Fin 64) :
    (nxt a s v).x (ix2 r d) = a.x (ix2 r d) * Ideal.exp (a.m (ix2 r 0) - max (a.m (ix2 r 0)) (mxs s (ix2 r 0)))
      + ∑ j : Fin 256, Ideal.exp (s (ix2 r j) - max (a.m (ix2 r 0)) (mxs s (ix2 r 0))) * cod (v (ix6 0 0 0 0 j d)) := by
  pointwise [nxt]
  rw [wvs_at]
  simp only [wts_at]
  pointwise

end Cert.KernelIdeal.Prf
-- ==== Proof.Devs.lean ====
module

public import proofs.«01_k».proof.Proof.Rows

@[expose] public section

set_option maxRecDepth 65536

noncomputable section

namespace Cert.KernelIdeal.Prf

open Idealize.ShloMosaic Idealize.SL.Sem Cert.KernelIdeal.Gen Cert.Soft

/-- An entry of a block read from a buffer is the buffer's entry at the block's start plus the block's index. -/
theorem ld_at {s : Shape} {α : Type} (f : s.Idx → α) (off : Fin s.rank → Nat) (sz : Fin s.rank → Nat)
    (h : ∀ a, off a + sz a ≤ s.size a) (i : (Rect.unit off sz h).shape.Idx) (j : s.Idx) (off' : Fin s.rank → Nat)
    (he : off = off') (hj : ∀ a, (j a).val = off' a + (i a).val) : ld f (Rect.unit off sz h) i = f j :=
  congrArg f (funext fun a => Fin.ext ((Rect.emb_apply _ _ _).trans (by
    subst he
    show off a + 1 * (i a).val = (j a).val
    rw [hj a, Nat.one_mul])))

/-- Four terms in any cyclic order, the last two exchanged, are the whole sum. -/
theorem sum4 (f : Fin 4 → EReal) (c : Fin 4) :
    f c + f ⟨(c.val + 1) % 4, Nat.mod_lt _ (by decide)⟩ + f ⟨(c.val + 3) % 4, Nat.mod_lt _ (by decide)⟩
      + f ⟨(c.val + 2) % 4, Nat.mod_lt _ (by decide)⟩ = ∑ j : Fin 4, f j := by
  rw [Fin.sum_univ_four]
  match c with
  | 0 => show f 0 + f 1 + f 3 + f 2 = _; ac_rfl
  | 1 => show f 1 + f 2 + f 0 + f 3 = _; ac_rfl
  | 2 => show f 2 + f 3 + f 1 + f 0 = _; ac_rfl
  | 3 => show f 3 + f 0 + f 2 + f 1 = _; ac_rfl

/-- A scaled sum of products depends on its factors only. -/
theorem qv_aux {f f' g g' : Fin 512 → EReal} (hf : ∀ e, f e = f' e) (hg : ∀ e, g e = g' e) (x : EReal) :
    (∑ e, f e * g e) * x = (∑ e, f' e * g' e) * x := by
  simp only [hf, hg]

/-- The scaled queries, read. -/
theorem qv_at (I : Ins Ideal) (c : Dev nD) (b : Fin 2) (h : Fin 4) (r : Fin 256) (d : Fin 64) :
    qv I c b h (ix2 r d) = (∑ e : Fin 512, I.x c (ix3 b r e) * I.wq c (ix3 h e d)) * Ideal.ofBits .f32 0x3B810204#32 := by
  match b, h with
  | 0, 0 =>
    show v54 I c (ix2 r d) = _
    pointwise [v54, k0_pay3, v48, k0_pay2, v47, v49]
    exact qv_aux (fun e => ld_at _ _ _ _ _ _ _ rfl fun a => by fin_cases a <;> simp) (fun e => ld_at _ _ _ _ _ _ _ rfl fun a => by fin_cases a <;> simp) _
  | 0, 1 =>
    show v62 I c (ix2 r d) = _
    pointwise [v62, k0_pay4, v55, v57]
    exact qv_aux (fun e => ld_at _ _ _ _ _ _ _ rfl fun a => by fin_cases a <;> simp) (fun e => ld_at _ _ _ _ _ _ _ rfl fun a => by fin_cases a <;> simp) _
  | 0, 2 =>
    show v70 I c (ix2 r d) = _
    pointwise [v70, k0_pay5, v63, v65]
    exact qv_aux (fun e => ld_at _ _ _ _ _ _ _ rfl fun a => by fin_cases a <;> simp) (fun e => ld_at _ _ _ _ _ _ _ rfl fun a => by fin_cases a <;> simp) _
  | 0, 3 =>
    show v78 I c (ix2 r d) = _
    pointwise [v78, k0_pay6, v71, v73]
    exact qv_aux (fun e => ld_at _ _ _ _ _ _ _ rfl fun a => by fin_cases a <;> simp) (fun e => ld_at _ _ _ _ _ _ _ rfl fun a => by fin_cases a <;> simp) _
  | 1, 0 =>
    show v86 I c (ix2 r d) = _
    pointwise [v86, k0_pay7, v79, v81]
    exact qv_aux (fun e => ld_at _ _ _ _ _ _ _ rfl fun a => by fin_cases a <;> simp) (fun e => ld_at _ _ _ _ _ _ _ rfl fun a => by fin_cases a <;> simp) _
  | 1, 1 =>
    show v94 I c (ix2 r d) = _
    pointwise [v94, k0_pay8, v87, v89]
    exact qv_aux (fun e => ld_at _ _ _ _ _ _ _ rfl fun a => by fin_cases a <;> simp) (fun e => ld_at _ _ _ _ _ _ _ rfl fun a => by fin_cases a <;> simp) _
  | 1, 2 =>
    show v102 I c (ix2 r d) = _
    pointwise [v102, k0_pay9, v95, v97]
    exact qv_aux (fun e => ld_at _ _ _ _ _ _ _ rfl fun a => by fin_cases a <;> simp) (fun e => ld_at _ _ _ _ _ _ _ rfl fun a => by fin_cases a <;> simp) _
  | 1, 3 =>
    show v110 I c (ix2 r d) = _
    pointwise [v110, k0_pay12, v107, v108, k0_pay10, k0_pay11, v103, v105]
    exact qv_aux (fun e => ld_at _ _ _ _ _ _ _ rfl fun a => by fin_cases a <;> simp) (fun e => ld_at _ _ _ _ _ _ _ rfl fun a => by fin_cases a <;> simp) _

/-- A block of codes as loaded, read. -/
theorem kld_at (I : Ins Ideal) (c : Dev nD) (o : Fin 4) (b : Fin 2) (h : Fin 4) (t : Fin 2) (k : Fin 256) (d : Fin 64) :
    kld I c o b h t (ix6 0 0 0 0 k d) = I.kv ⟨(c.val + o.val) % 4, Nat.mod_lt _ (by decide)⟩ (ix6 c t b h k d) := by
  refine ld_at (kvR I c) _ _ _ _ (ix6 ⟨(c.val + o.val) % 4, Nat.mod_lt _ (by decide)⟩ t b h k d) _ (koff_eq c o b h t) (fun a => ?_)
  fin_cases a <;> simp

/-- The output weights as loaded, read. -/
theorem wol_at (I : Ins Ideal) (c : Dev nD) (h : Fin 4) (d : Fin 64) (n : Fin 512) :
    wol I c h (ix3 0 d n) = I.wo c (ix3 h d n) := by
  match h with
  | 0 => exact ld_at _ _ _ _ _ (ix3 0 d n) _ rfl (fun a => by fin_cases a <;> simp)
  | 1 => exact ld_at _ _ _ _ _ (ix3 1 d n) _ rfl (fun a => by fin_cases a <;> simp)
  | 2 => exact ld_at _ _ _ _ _ (ix3 2 d n) _ rfl (fun a => by fin_cases a <;> simp)
  | 3 => exact ld_at _ _ _ _ _ (ix3 3 d n) _ rfl (fun a => by fin_cases a <;> simp)

/-- A head's projected output, read. -/
theorem prj_at (I : Ins Ideal) (c : Dev nD) (b : Fin 2) (h : Fin 4) (r : Fin 256) (n : Fin 512) :
    prj I c b h (ix2 r n) = ∑ d : Fin 64, ctx (hd I c b h) (ix2 r d) * I.wo c (ix3 h d n) := by
  pointwise [prj]
  simp only [wol_at]

/-- A device's partial projection, read. -/
theorem prt_at (I : Ins Ideal) (c : Dev nD) (b : Fin 2) (r : Fin 256) (n : Fin 512) :
    prt I c b (ix2 r n) = ∑ h : Fin 4, ∑ d : Fin 64, ctx (hd I c b h) (ix2 r d) * I.wo c (ix3 h d n) := by
  pointwise [prt]
  simp only [prj_at, Fin.sum_univ_four]

/-- A quarter of a partial projection, read. -/
theorem pqT_at (I : Ins Ideal) (c : Dev nD) (qt : Fin 4) (b : Fin 2) (r : Fin 64) (n : Fin 512) :
    pqT I c qt b (ix4 0 0 r n) = prt I c b (ix2 ⟨qt.val * 64 + r.val, by omega⟩ n) := by
  rw [pqT_eq]
  match qt with
  | 0 => pointwise [qrow]
  | 1 => pointwise [qrow]
  | 2 => pointwise [qrow]
  | 3 => pointwise [qrow]

/-- The sum of all devices' partial projections. -/
def tot (I : Ins Ideal) (b : Fin 2) (r : Fin 256) (n : Fin 512) : EReal := ∑ j : Fin 4, prt I j b (ix2 r n)

/-- A device's reduced rows. -/
theorem v1459_at (I : Ins Ideal) (c : Dev nD) (b : Fin 2) (r : Fin 64) (n : Fin 512) :
    v1459 I c (ix3 b r n) = tot I b ⟨c.val * 64 + r.val, by have : c.val < 4 := c.isLt; omega⟩ n := by
  have h0 : v1388 I c (ix4 0 b r n) = pqT I c c b (ix4 0 0 r n) := by
    refine (ld_at _ _ _ _ _ (ix4 c b r n) _ (k0_off28_eq c) (fun a => ?_)).trans rfl
    fin_cases a <;> simp
  have h1 : v1410 I c (ix4 0 b r n) = pqT I ⟨(c.val + 1) % 4, Nat.mod_lt _ (by decide)⟩ c b (ix4 0 0 r n) := by
    refine (ld_at _ _ _ _ _ (ix4 ⟨(c.val + 1) % 4, Nat.mod_lt _ (by decide)⟩ b r n) _ (k0_off31_eq c 0) (fun a => ?_)).trans rfl
    fin_cases a <;> simp
  have h2 : v1456 I c (ix4 0 b r n) = pqT I ⟨(c.val + 2) % 4, Nat.mod_lt _ (by decide)⟩ c b (ix4 0 0 r n) := by
    refine (ld_at _ _ _ _ _ (ix4 ⟨(c.val + 2) % 4, Nat.mod_lt _ (by decide)⟩ b r n) _ (k0_off31_eq c 1) (fun a => ?_)).trans rfl
    fin_cases a <;> simp
  have h3 : v1433 I c (ix4 0 b r n) = pqT I ⟨(c.val + 3) % 4, Nat.mod_lt _ (by decide)⟩ c b (ix4 0 0 r n) := by
    refine (ld_at _ _ _ _ _ (ix4 ⟨(c.val + 3) % 4, Nat.mod_lt _ (by decide)⟩ b r n) _ (k0_off31_eq c 2) (fun a => ?_)).trans rfl
    fin_cases a <;> simp
  pointwise [v1459, k0_pay258, v1413, k0_pay257, v1390, k0_pay256]
  rw [h0, h1, h2, h3]
  simp only [pqT_at]
  exact sum4 (fun j => prt I j b (ix2 ⟨c.val * 64 + r.val, _⟩ n)) c

/-- The gathered rows, read. -/
theorem agR_at (I : Ins Ideal) (j : Dev nD) (b : Fin 2) (r : Fin 64) (n : Fin 512) :
    agR I (ix4 j b r n) = v1459 I j (ix3 b r n) := by
  show k0_pay260 (v1461 I j) (ix4 0 b r n) = _
  pointwise [k0_pay260, v1461, k0_pay259, v1459]

/-- The result rows of a block, read. -/
theorem outT_at (I : Ins Ideal) (c j : Dev nD) (b : Fin 2) (r : Fin 64) (n : Fin 512) :
    outT I c j (ix3 b r n) = v1459 I j (ix3 b r n) := by
  have hj : j.val < 4 := j.isLt
  have hc : c.val < 4 := c.isLt
  unfold outT
  split
  · rename_i h
    pointwise [v1518, k0_pay261]
    rw [← agR_at]
    refine ld_at _ _ _ _ _ (ix4 j b r n) _ (k0_off31_eq c 0) (fun a => ?_)
    fin_cases a <;> simp [h]
  · split
    · rename_i h
      pointwise [k0_pay262]
      rw [← agR_at]
      refine ld_at _ _ _ _ _ (ix4 j b r n) _ (k0_off31_eq c 2) (fun a => ?_)
      fin_cases a <;> simp [h]
    · split
      · rename_i h
        pointwise [k0_pay263]
        rw [← agR_at]
        refine ld_at _ _ _ _ _ (ix4 j b r n) _ (k0_off31_eq c 1) (fun a => ?_)
        fin_cases a <;> simp [h]
      · have : j = c := Fin.ext (by omega)
        rw [this]

/-- A device's result: every device's partial projection, summed. -/
theorem outR_at (I : Ins Ideal) (c : Dev nD) (b : Fin 2) (r : Fin 256) (n : Fin 512) :
    outR I c (ix3 b r n) = tot I b r n := by
  show outT I c ⟨r.val / 64, _⟩ (ix3 b ⟨r.val % 64, _⟩ n) = _
  rw [outT_at, v1459_at]
  congr 1
  exact Fin.ext (by show r.val / 64 * 64 + r.val % 64 = r.val; omega)

end Cert.KernelIdeal.Prf
-- ==== Proof.Head.lean ====
module

public import proofs.«01_k».proof.Proof.Devs

@[expose] public section

set_option maxRecDepth 65536

noncomputable section

namespace Cert.KernelIdeal.Prf

open Idealize.ShloMosaic Idealize.SL.Sem Cert.KernelIdeal.Gen Cert.Soft

/-- The place of a key: its device and its row there. -/
abbrev KeyIx : Type := Fin 4 × Fin 256

/-- The keys of one device. -/
def blk (j : Fin 4) : Finset KeyIx := {j} ×ˢ Finset.univ

/-- A row's state has taken in the keys `A`. -/
def Took (r : Fin 256) (s : KeyIx → EReal) (v : Fin 64 → KeyIx → EReal) (a : St Ideal) (A : Finset KeyIx) : Prop :=
  a.m (ix2 r 0) = A.sup s ∧ a.l (ix2 r 0) = wsum s 1 A (A.sup s) ∧ ∀ d, a.x (ix2 r d) = wsum s (v d) A (A.sup s)

/-- A device's keys' weighted sum. -/
theorem wsum_blk (s v : KeyIx → EReal) (j : Fin 4) (M : EReal) :
    wsum s v (blk j) M = ∑ k : Fin 256, Ideal.exp (s (j, k) - M) * v (j, k) := by
  unfold wsum blk
  rw [Finset.sum_product, Finset.sum_singleton]

/-- A device's keys' greatest score. -/
theorem sup_blk (s : KeyIx → EReal) (j : Fin 4) : (blk j).sup s = Finset.univ.sup fun k : Fin 256 => s (j, k) := by
  unfold blk
  rw [Finset.sup_product_left, Finset.sup_singleton]

variable {r : Fin 256} {s : KeyIx → EReal} {v : Fin 64 → KeyIx → EReal}

/-- The maximum of a block of scores is its device's greatest score. -/
theorem mxs_blk {j : Fin 4} {sc : FVec Ideal S256x256 .f32} (hs : ∀ k, sc (ix2 r k) = s (j, k)) : mxs sc (ix2 r 0) = (blk j).sup s := by
  rw [mxs_at, sup_blk]
  simp only [hs]

/-- After the first block a row's state has taken in that block. -/
theorem took_fst {j : Fin 4} {sc : FVec Ideal S256x256 .f32} {vv : Vec Ideal S1x1x1x1x256x64 .i8}
    (hs : ∀ k, sc (ix2 r k) = s (j, k)) (hv : ∀ k d, cod (vv (ix6 0 0 0 0 k d)) = v d (j, k)) :
    Took r s v (fst0 sc vv) (blk j) := by
  have hm : (fst0 sc vv).m = mxs sc := by simp only [fst0]
  have hl : (fst0 sc vv).l = sms (wts sc (mxs sc)) := by simp only [fst0]
  have hx : (fst0 sc vv).x = wvs (wts sc (mxs sc)) vv := rfl
  unfold Took
  rw [hm, hl, hx]
  refine ⟨mxs_blk hs, ?_, fun d => ?_⟩
  · rw [sms_at, wsum_blk]
    simp only [wts_at, mxs_blk hs, hs, Pi.one_apply, mul_one]
  · rw [wvs_at, wsum_blk]
    simp only [wts_at, mxs_blk hs, hs, hv]

/-- A further block is taken in. -/
theorem took_nxt {a : St Ideal} {A : Finset KeyIx} {j : Fin 4} {sc : FVec Ideal S256x256 .f32} {vv : Vec Ideal S1x1x1x1x256x64 .i8}
    (hr : ∀ d t, Re (v d t)) (ha : Took r s v a A) (hd : Disjoint A (blk j))
    (hs : ∀ k, sc (ix2 r k) = s (j, k)) (hv : ∀ k d, cod (vv (ix6 0 0 0 0 k d)) = v d (j, k)) :
    Took r s v (nxt a sc vv) (A ∪ blk j) := by
  obtain ⟨h1, h2, h3⟩ := ha
  refine ⟨?_, ?_, fun d => ?_⟩
  · rw [nxt_m, h1, mxs_blk hs, Finset.sup_union]
  · rw [nxt_l, h1, h2, mxs_blk hs, ← wsum_union s 1 (fun _ => ⟨1, rfl⟩) hd, wsum_blk]
    simp only [hs, Pi.one_apply, mul_one]
  · rw [nxt_x, h1, h3, mxs_blk hs, ← wsum_union s (v d) (hr d) hd, wsum_blk]
    simp only [hs, hv]

/-- The score of a key against a query row. -/
def sc (I : Ins Ideal) (c : Dev nD) (b : Fin 2) (h : Fin 4) (r : Fin 256) (t : KeyIx) : EReal :=
  (∑ d : Fin 64, qv I c b h (ix2 r d) * cod (I.kv t.1 (ix6 c 0 b h t.2 d)))
    + if keep (r.val / 64) (t.1.val * 4 + t.2.val / 64) then (0 : EReal) else ⊥

/-- The value code of a key. -/
def vl (I : Ins Ideal) (c : Dev nD) (b : Fin 2) (h : Fin 4) (d : Fin 64) (t : KeyIx) : EReal :=
  cod (I.kv t.1 (ix6 c 1 b h t.2 d))

/-- The scores a device forms for the block of keys `o` places on. -/
theorem scI_at (I : Ins Ideal) (c : Dev nD) (b : Fin 2) (h o : Fin 4) (r k : Fin 256) :
    scI I c b h o (ix2 r k) = sc I c b h r (⟨(c.val + o.val) % 4, Nat.mod_lt _ (by decide)⟩, k) := by
  show scs (qv I c b h) (bias I c o) (kld I c o b h 0) (ix2 r k) = _
  rw [scs_at, bias_at]
  simp only [kld_at]
  rfl

/-- The values a device reads for the block of keys `o` places on. -/
theorem vl_at (I : Ins Ideal) (c : Dev nD) (b : Fin 2) (h o : Fin 4) (k : Fin 256) (d : Fin 64) :
    cod (kld I c o b h 1 (ix6 0 0 0 0 k d)) = vl I c b h d (⟨(c.val + o.val) % 4, Nat.mod_lt _ (by decide)⟩, k) := by
  rw [kld_at]
  rfl

/-- Different devices' keys are apart. -/
theorem blk_disj {i j : Fin 4} (h : i ≠ j) : Disjoint (blk i) (blk j) :=
  Finset.disjoint_product.mpr (.inl (Finset.disjoint_singleton.mpr h))

/-- The four devices' keys are all keys. -/
theorem blk_univ (c : Fin 4) :
    blk ⟨(c.val + 0) % 4, Nat.mod_lt _ (by decide)⟩ ∪ blk ⟨(c.val + 1) % 4, Nat.mod_lt _ (by decide)⟩
      ∪ blk ⟨(c.val + 3) % 4, Nat.mod_lt _ (by decide)⟩ ∪ blk ⟨(c.val + 2) % 4, Nat.mod_lt _ (by decide)⟩ = Finset.univ := by
  ext ⟨j, k⟩
  have hc := c.isLt
  have hj := j.isLt
  simp only [blk, Finset.mem_union, Finset.mem_product, Finset.mem_singleton, Finset.mem_univ, and_true, iff_true, Fin.ext_iff]
  omega

/-- A head's final state has taken in all keys. -/
theorem took_hd (I : Ins Ideal) (c : Dev nD) (b : Fin 2) (h : Fin 4) (r : Fin 256) :
    Took r (sc I c b h r) (vl I c b h) (hd I c b h) Finset.univ := by
  have hc : c.val < 4 := c.isLt
  have hr : ∀ d t, Re (vl I c b h d t) := fun d t => ⟨_, rfl⟩
  have ne : ∀ {o o' : Nat}, o < 4 → o' < 4 → o ≠ o' →
      (⟨(c.val + o) % 4, Nat.mod_lt _ (by decide)⟩ : Fin 4) ≠ ⟨(c.val + o') % 4, Nat.mod_lt _ (by decide)⟩ := by
    intro o o' h1 h2 h3 e
    have := Fin.ext_iff.mp e
    simp only at this
    omega
  rw [← blk_univ c]
  refine took_nxt hr (took_nxt hr (took_nxt hr (took_fst (scI_at I c b h 0 r) (vl_at I c b h 0)) ?_ (scI_at I c b h 1 r) (vl_at I c b h 1))
    ?_ (scI_at I c b h 3 r) (vl_at I c b h 3)) ?_ (scI_at I c b h 2 r) (vl_at I c b h 2)
  · exact blk_disj (ne (o := 0) (o' := 1) (by decide) (by decide) (by decide))
  · exact Finset.disjoint_union_left.mpr ⟨blk_disj (ne (o := 0) (o' := 3) (by decide) (by decide) (by decide)),
      blk_disj (ne (o := 1) (o' := 3) (by decide) (by decide) (by decide))⟩
  · exact Finset.disjoint_union_left.mpr ⟨Finset.disjoint_union_left.mpr ⟨blk_disj (ne (o := 0) (o' := 2) (by decide) (by decide) (by decide)),
      blk_disj (ne (o := 1) (o' := 2) (by decide) (by decide) (by decide))⟩,
      blk_disj (ne (o := 3) (o' := 2) (by decide) (by decide) (by decide))⟩

/-- The step of the codes as a real. -/
theorem step_re : ∃ σ : ℝ, 0 < σ ∧ Ideal.ofBits .f32 0x3D010204#32 = (σ : EReal) := by
  refine ⟨8454660 / 2 ^ 28, by norm_num, ?_⟩
  simp [Ideal.ofBits, Ideal.ieee, -EReal.coe_mul]
  norm_num

/-- The eighth. -/
theorem eighth : Ideal.ofBits .f32 0x3E000000#32 = ((1 / 8 : ℝ) : EReal) := by
  simp [Ideal.ofBits, Ideal.ieee, -EReal.coe_mul]
  norm_num

/-- The scale of the queries is an eighth of the step. -/
theorem qscale : Ideal.ofBits .f32 0x3B810204#32 = ((1 / 8 : ℝ) : EReal) * Ideal.ofBits .f32 0x3D010204#32 := by
  simp [Ideal.ofBits, Ideal.ieee, -EReal.coe_mul]
  norm_num [← EReal.coe_mul]

/-- The pattern of minus infinity. -/
theorem ninf : Ideal.ofBits .f32 0xFF800000#32 = ⊥ := by
  simp [Ideal.ofBits, Ideal.ieee]

/-- A head's output at a row: the values times their weights. -/
theorem ctx_hd (I : Ins Ideal) (c : Dev nD) (b : Fin 2) (h : Fin 4) (r : Fin 256) (d : Fin 64) :
    ctx (hd I c b h) (ix2 r d) = ∑ t : KeyIx, (vl I c b h d t * Ideal.ofBits .f32 0x3D010204#32)
      * (Ideal.exp (sc I c b h r t - Finset.univ.sup (sc I c b h r))
        * Ideal.div 1 (∑ t : KeyIx, Ideal.exp (sc I c b h r t - Finset.univ.sup (sc I c b h r)))) := by
  obtain ⟨-, h2, h3⟩ := took_hd I c b h r
  obtain ⟨σ, hσ, e⟩ := step_re
  rw [ctx_at, h2, h3, e, wsum_div (sc I c b h r) (vl I c b h d) (A := Finset.univ) (fun t ht => Finset.le_sup ht) (fun t => ⟨_, rfl⟩) hσ]
  simp only [wsum, Pi.one_apply, mul_one]

end Cert.KernelIdeal.Prf
-- ==== Proof.Host.lean ====
module

public import proofs.«01_k».proof.Proof.Head
public import proofs.«01_k».proof.Proof.Launch

@[expose] public section

set_option maxRecDepth 65536

noncomputable section

namespace Cert.KernelIdeal.Prf

open Idealize.ShloMosaic Idealize.SL.Sem Cert.KernelIdeal.Gen Cert.Soft

/-- The keys or values of one head group after another. -/
def grp {F : FTy → Type} (x : FVec F S2x256x16x64 .bf16) : FVec F S4x1x2x4x256x64 .bf16 :=
  broadcastInDim S4x1x2x4x256x64 ![0, 2, 3, 4, 5] bcast_S4x2x4x256x64_S4x1x2x4x256x64_0_2_3_4_5
    (transpose S4x2x4x256x64 [2, 0, 3, 1, 4] (shapeCast S2x256x4x4x64 x shapeCasts_S2x256x16x64_S2x256x4x4x64)
      transposes_S2x256x4x4x64_S4x2x4x256x64_2_0_3_1_4)

/-- The codes of an array. -/
def qnt {F : FTy → Type} [FloatOps F] (x : FVec F S4x2x2x4x256x64 .bf16) : IVec S4x2x2x4x256x64 8 :=
  trunci 8 (fptosi 32 (extf .f32 (minimumf (broadcastInDim S4x2x2x4x256x64 ![] bcast_S_S4x2x2x4x256x64 (sitofp .bf16 (constantI S_ 32 127#32)))
    (maximumf (broadcastInDim S4x2x2x4x256x64 ![] bcast_S_S4x2x2x4x256x64 (sitofp .bf16 (constantI S_ 32 4294967169#32)))
      (Host.roundeven (Host.divf x (broadcastInDim S4x2x2x4x256x64 ![] bcast_S_S4x2x2x4x256x64 (constant S_ .bf16 0x3D01#16)))))) bitsLt_bf16_f32)) natLt_8_32

section
variable {F : FTy → Type} [FloatOps F] [Named F] (m : (ℓ : Loc nD τ sig) → Buf (Elt F) ℓ) (c : Dev nD)

/-- The keys' and values' codes as the host prepares them. -/
theorem V_v14 : (V m c main_v14 : IVec S4x2x2x4x256x64 8)
    = qnt (concatenate S4x2x2x4x256x64 1 [⟨S4x1x2x4x256x64, grp (m ((c.tc : Thread nD τ).loc main_arg2))⟩,
        ⟨S4x1x2x4x256x64, grp (m ((c.tc : Thread nD τ).loc main_arg3))⟩] concatenates_S4x1x2x4x256x64_S4x1x2x4x256x64_S4x2x2x4x256x64_d1) := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

/-- The query weights as the host prepares them. -/
theorem V_v16 : (V m c main_v16 : FVec F S4x512x64 .bf16)
    = transpose S4x512x64 [1, 0, 2] (shapeCast S512x4x64 (m ((c.tc : Thread nD τ).loc main_arg1)) shapeCasts_S512x256_S512x4x64) transposes_S512x4x64_S4x512x64_1_0_2 := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

/-- The output weights as the host prepares them. -/
theorem V_v17 : (V m c main_v17 : FVec F S4x64x512 .bf16)
    = shapeCast S4x64x512 (m ((c.tc : Thread nD τ).loc main_arg4)) shapeCasts_S256x512_S4x64x512 := by
  unfold V
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl
end

/-- A head group's keys or values, read. -/
theorem grp_at (x : FVec Ideal S2x256x16x64 .bf16) (g : Fin 4) (b : Fin 2) (h : Fin 4) (k : Fin 256) (d : Fin 64) :
    grp x (ix6 g 0 b h k d) = x (ix4 b k ⟨g.val * 4 + h.val, by omega⟩ d) := by
  pointwise [grp]

/-- The query weights, read. -/
theorem wq_at (x : FVec Ideal S512x256 .bf16) (h : Fin 4) (e : Fin 512) (d : Fin 64) :
    (transpose S4x512x64 [1, 0, 2] (shapeCast S512x4x64 x shapeCasts_S512x256_S512x4x64) transposes_S512x4x64_S4x512x64_1_0_2 : FVec Ideal S4x512x64 .bf16)
      (ix3 h e d) = x (ix2 e ⟨h.val * 64 + d.val, by omega⟩) := by
  pointwise

/-- The output weights, read. -/
theorem wo_at (x : FVec Ideal S256x512 .bf16) (h : Fin 4) (d : Fin 64) (n : Fin 512) :
    (shapeCast S4x64x512 x shapeCasts_S256x512_S4x64x512 : FVec Ideal S4x64x512 .bf16) (ix3 h d n) = x (ix2 ⟨h.val * 64 + d.val, by omega⟩ n) := by
  pointwise

/-- The keys come first. -/
theorem cat_k (x y : FVec Ideal S4x1x2x4x256x64 .bf16) (g : Fin 4) (b : Fin 2) (h : Fin 4) (k : Fin 256) (d : Fin 64) :
    (concatenate S4x2x2x4x256x64 1 [⟨S4x1x2x4x256x64, x⟩, ⟨S4x1x2x4x256x64, y⟩] concatenates_S4x1x2x4x256x64_S4x1x2x4x256x64_S4x2x2x4x256x64_d1 : FVec Ideal S4x2x2x4x256x64 .bf16)
      (ix6 g 0 b h k d) = x (ix6 g 0 b h k d) := by
  pointwise

/-- The values come second. -/
theorem cat_v (x y : FVec Ideal S4x1x2x4x256x64 .bf16) (g : Fin 4) (b : Fin 2) (h : Fin 4) (k : Fin 256) (d : Fin 64) :
    (concatenate S4x2x2x4x256x64 1 [⟨S4x1x2x4x256x64, x⟩, ⟨S4x1x2x4x256x64, y⟩] concatenates_S4x1x2x4x256x64_S4x1x2x4x256x64_S4x2x2x4x256x64_d1 : FVec Ideal S4x2x2x4x256x64 .bf16)
      (ix6 g 1 b h k d) = y (ix6 g 0 b h k d) := by
  pointwise

/-- The code of a value, as a number: it is divided by the step, rounded and clipped. -/
def rc (x : EReal) : EReal :=
  min (FloatOps.sitofp (F := Ideal) .bf16 127#32) (max (FloatOps.sitofp (F := Ideal) .bf16 4294967169#32)
    (Ideal.liftRound Ideal.roundHalfEven (Ideal.div x (Ideal.ofBits .bf16 0x3D01#16))))

/-- A rounded number is an integer or infinite. -/
theorem round_cases (t : EReal) : Ideal.liftRound Ideal.roundHalfEven t = ⊥ ∨ Ideal.liftRound Ideal.roundHalfEven t = ⊤
    ∨ ∃ n : ℤ, Ideal.liftRound Ideal.roundHalfEven t = ((n : ℝ) : EReal) := by
  induction t using EReal.rec with
  | bot => exact .inl rfl
  | top => exact .inr (.inl rfl)
  | coe r => exact .inr (.inr ⟨_, rfl⟩)

/-- The code of a value is an integer from -127 to 127. -/
theorem rc_int (x : EReal) : ∃ z : ℤ, -127 ≤ z ∧ z ≤ 127 ∧ rc x = ((z : ℝ) : EReal) := by
  have h1 : (FloatOps.sitofp (F := Ideal) .bf16 127#32 : EReal) = (((127 : ℤ) : ℝ) : EReal) := rfl
  have h2 : (FloatOps.sitofp (F := Ideal) .bf16 4294967169#32 : EReal) = (((-127 : ℤ) : ℝ) : EReal) := rfl
  unfold rc
  rw [h1, h2]
  rcases round_cases (Ideal.div x (Ideal.ofBits .bf16 0x3D01#16)) with e | e | ⟨n, e⟩
  · refine ⟨-127, by decide, by decide, ?_⟩
    rw [e, max_eq_left bot_le, min_eq_right (by exact_mod_cast (by decide : (-127 : ℤ) ≤ 127))]
  · refine ⟨127, by decide, by decide, ?_⟩
    rw [e, max_eq_right le_top, min_eq_left le_top]
  · refine ⟨min 127 (max (-127) n), by omega, by omega, ?_⟩
    rw [e]
    have c : ∀ a b : ℤ, ((max a b : ℤ) : ℝ) = max (a : ℝ) (b : ℝ) := fun a b => Int.cast_max
    have c' : ∀ a b : ℤ, ((min a b : ℤ) : ℝ) = min (a : ℝ) (b : ℝ) := fun a b => Int.cast_min
    rw [c', c, EReal.coe_strictMono.monotone.map_min, EReal.coe_strictMono.monotone.map_max]

/-- A small integer survives the passage through the codes. -/
theorem cod_int (z : ℤ) (h1 : -127 ≤ z) (h2 : z ≤ 127) :
    cod (BitVec.setWidth 8 (FloatOps.fptosi (F := Ideal) (φ := .f32) 32 (((z : ℝ) : EReal)))) = ((z : ℝ) : EReal) := by
  have e : (FloatOps.fptosi (F := Ideal) (φ := .f32) 32 (((z : ℝ) : EReal))) = BitVec.ofInt 32 z := by
    show BitVec.ofInt 32 (max _ (min _ (if 0 ≤ (z : ℝ) then ⌊(z : ℝ)⌋ else ⌈(z : ℝ)⌉))) = _
    rw [Int.floor_intCast, Int.ceil_intCast, ite_self]
    congr 1
    norm_num
    omega
  rw [e]
  unfold cod
  congr 2
  have : (BitVec.setWidth 8 (BitVec.ofInt 32 z)).toInt = z := by
    have key : ∀ n : Fin 255, (BitVec.setWidth 8 (BitVec.ofInt 32 ((n.val : ℤ) - 127))).toInt = (n.val : ℤ) - 127 := by decide +kernel
    obtain ⟨n, hn⟩ := Int.eq_ofNat_of_zero_le (show 0 ≤ z + 127 by omega)
    have hz : z = (n : ℤ) - 127 := by omega
    rw [hz]
    exact key ⟨n, by omega⟩
  exact this

/-- An array's codes, read. -/
theorem qnt_at (x : FVec Ideal S4x2x2x4x256x64 .bf16) (i : S4x2x2x4x256x64.Idx) : cod (qnt x i) = rc (x i) := by
  pointwise [qnt]
  obtain ⟨z, h1, h2, e⟩ := rc_int (x i)
  unfold rc at e ⊢
  rw [e]
  exact cod_int z h1 h2

section
variable (m : (ℓ : Loc nD τ sig) → Buf (Elt Ideal) ℓ) (c j : Dev nD)

/-- The tokens a device computes from. -/
theorem ins_x (i) : (ins m).x c i = (m ((c.tc : Thread nD τ).loc main_arg0) : FVec Ideal S2x256x512 .bf16) i :=
  congrFun (V_main_arg0 m c) i

/-- The query weights a device computes from. -/
theorem ins_wq (h : Fin 4) (e : Fin 512) (d : Fin 64) :
    (ins m).wq c (ix3 h e d) = (m ((c.tc : Thread nD τ).loc main_arg1) : FVec Ideal S512x256 .bf16) (ix2 e ⟨h.val * 64 + d.val, by omega⟩) :=
  (congrFun (V_v16 m c) _).trans (wq_at _ h e d)

/-- The output weights a device computes from. -/
theorem ins_wo (h : Fin 4) (d : Fin 64) (n : Fin 512) :
    (ins m).wo c (ix3 h d n) = (m ((c.tc : Thread nD τ).loc main_arg4) : FVec Ideal S256x512 .bf16) (ix2 ⟨h.val * 64 + d.val, by omega⟩ n) :=
  (congrFun (V_v17 m c) _).trans (wo_at _ h d n)

/-- The codes of the keys. -/
theorem ins_k (b : Fin 2) (h : Fin 4) (k : Fin 256) (d : Fin 64) :
    cod ((ins m).kv j (ix6 c 0 b h k d)) = rc ((m ((j.tc : Thread nD τ).loc main_arg2) : FVec Ideal S2x256x16x64 .bf16)
      (ix4 b k ⟨c.val * 4 + h.val, by have : c.val < 4 := c.isLt; omega⟩ d)) := by
  rw [show (ins m).kv j (ix6 c 0 b h k d) = _ from congrFun (V_v14 m j) _, qnt_at, cat_k, grp_at]

/-- The codes of the values. -/
theorem ins_v (b : Fin 2) (h : Fin 4) (k : Fin 256) (d : Fin 64) :
    cod ((ins m).kv j (ix6 c 1 b h k d)) = rc ((m ((j.tc : Thread nD τ).loc main_arg3) : FVec Ideal S2x256x16x64 .bf16)
      (ix4 b k ⟨c.val * 4 + h.val, by have : c.val < 4 := c.isLt; omega⟩ d)) := by
  rw [show (ins m).kv j (ix6 c 1 b h k d) = _ from congrFun (V_v14 m j) _, qnt_at, cat_v, grp_at]
end

end Cert.KernelIdeal.Prf
-- ==== Proof.RefAt.lean ====
module

public import proofs.«01_k».proof.Proof.RefRead
public import proofs.«01_k».proof.Proof.Host
public import Idealize.ShloMosaic.Lib.Routing.OpsOrder

@[expose] public section

set_option maxRecDepth 65536

noncomputable section

namespace Cert.ReferenceIdeal.Prf

open Idealize.ShloMosaic Idealize.SL.Sem Cert.ReferenceIdeal Cert.ReferenceIdeal.Gen Cert.ReferenceIdeal.Value
open Cert.KernelIdeal.Prf (keep rc)

/-- A quantised key or value, read. -/
theorem rcode_at (x : FVec Ideal S2x1024x16x64 .bf16) (i : S2x1024x16x64.Idx) :
    rcode x i = rc (x i) * Ideal.ofBits .f32 0x3D010204#32 := by
  pointwise [rcode]
  rfl

/-- A query, read. -/
theorem rq_at (x : FVec Ideal S2x256x512 .bf16) (wq : FVec Ideal S512x1024 .bf16) (b : Fin 2) (r : Fin 256) (h : Fin 16) (d : Fin 64) :
    rq x wq (ix4 b r h d) = ∑ e : Fin 512, x (ix3 b r e) * wq (ix2 e ⟨h.val * 64 + d.val, by omega⟩) := by
  pointwise [rq]

/-- A query row's block number. -/
theorem rqb_at (r : Fin 256) : rqb (ix1 r) = BitVec.ofNat 32 (r.val / 64) := by
  pointwise [rqb]
  revert r
  decide +kernel

/-- A key's block number. -/
theorem rkb_at (j : Fin 1024) : rkb (ix1 j) = BitVec.ofNat 32 (j.val / 64) := by
  pointwise [rkb]
  revert j
  decide +kernel

/-- Whether a score is kept. -/
theorem rmask_at (r : Fin 256) (j : Fin 1024) : rmask (ix2 r j) = BitVec.ofBool (keep (r.val / 64) (j.val / 64)) := by
  have ha : r.val / 64 < 4 := by omega
  have hb : j.val / 64 < 16 := by omega
  pointwise [rmask, rqB, rkB, rmod, r3]
  rw [rqb_at, rkb_at]
  generalize r.val / 64 = a at ha ⊢
  generalize j.val / 64 = b at hb ⊢
  revert a b
  decide +kernel

/-- A masked score, read. -/
theorem rsc_at (q : FVec Ideal S2x256x16x64 .f32) (k : FVec Ideal S2x1024x16x64 .f32) (b : Fin 2) (h : Fin 16) (r : Fin 256) (j : Fin 1024) :
    rsc q k (ix4 b h r j) = if keep (r.val / 64) (j.val / 64)
      then (∑ d : Fin 64, q (ix4 b r h d) * k (ix4 b j h d)) * Ideal.ofBits .f32 0x3E000000#32 else ⊥ := by
  pointwise [rsc]
  rw [rmask_at, Cert.KernelIdeal.Prf.sel_bit _ _ rfl]
  exact congrArg _ Cert.KernelIdeal.Prf.ninf

/-- Every row keeps a score. -/
theorem rkeep_at (r : Fin 256) : rkeep (ix4 0 0 r 0) = 1#1 := by
  pointwise [rkeep]
  exact (Routing.fold_ori _ _).mpr ⟨0, Finset.mem_univ _, by rw [rmask_at]; simp [keep]⟩

/-- A weight, read. -/
theorem rw0_at (s : FVec Ideal S2x16x256x1024 .f32) (b : Fin 2) (h : Fin 16) (r : Fin 256) (j : Fin 1024) :
    rw0 s (ix4 b h r j) = Ideal.exp (s (ix4 b h r j) - Finset.univ.sup fun i : Fin 1024 => s (ix4 b h r i)) := by
  pointwise [rw0]
  rw [Cert.KernelIdeal.Prf.ninf]
  rfl

/-- A normalised weight, read. -/
theorem rw1_at (w : FVec Ideal S2x16x256x1024 .f32) (b : Fin 2) (h : Fin 16) (r : Fin 256) (j : Fin 1024) :
    rw1 w (ix4 b h r j) = w (ix4 b h r j) * Ideal.div 1 (∑ i : Fin 1024, w (ix4 b h r i)) := by
  pointwise [rw1]
  rw [rkeep_at]
  rfl

/-- A weighted value, read. -/
theorem rctx_at (v : FVec Ideal S2x1024x16x64 .f32) (w : FVec Ideal S2x16x256x1024 .f32) (b : Fin 2) (r : Fin 256) (h : Fin 16) (d : Fin 64) :
    rctx v w (ix3 b r ⟨h.val * 64 + d.val, by omega⟩) = ∑ j : Fin 1024, v (ix4 b j h d) * w (ix4 b h r j) := by
  pointwise [rctx]

/-- A projected entry, read. -/
theorem rout_at (z : FVec Ideal S2x256x1024 .f32) (wo : FVec Ideal S1024x512 .bf16) (b : Fin 2) (r : Fin 256) (n : Fin 512) :
    rout z wo (ix3 b r n) = ∑ u : Fin 1024, z (ix3 b r u) * wo (ix2 u n) := by
  pointwise [rout]

end Cert.ReferenceIdeal.Prf
-- ==== Proof.Value.lean ====
module

public import proofs.«01_k».proof.Proof.RefAt
public import proofs.«01_k».proof.Proof.Run
public import proofs.«01_k».proof.Defs

@[expose] public section

set_option maxRecDepth 65536

noncomputable section

namespace Cert.KernelIdeal.Prf

open Idealize.ShloMosaic Idealize.SL.Sem Cert.Soft Cert.ReferenceIdeal.Prf

/-- A range cut into blocks of one length. -/
def cut (A B : Nat) (t : Fin A × Fin B) : Fin (A * B) :=
  ⟨t.1.val * B + t.2.val, by have := t.1.isLt; have := t.2.isLt; nlinarith⟩

/-- Each place of the range is in one block, at one place. -/
theorem cut_bij (A B : Nat) : Function.Bijective (cut A B) := by
  have h : cut A B = ⇑(finProdFinEquiv (m := A) (n := B)) := by
    funext t
    exact Fin.ext (by simp only [cut, finProdFinEquiv_apply_val]; ring)
  rw [h]
  exact finProdFinEquiv.bijective

/-- A sum over the range, block after block. -/
theorem sum_cut (A B : Nat) (f : Fin (A * B) → EReal) : ∑ t : Fin A × Fin B, f (cut A B t) = ∑ u, f u :=
  Function.Bijective.sum_comp (cut_bij A B) f

/-- The greatest over the range, block after block. -/
theorem sup_cut (A B : Nat) (f : Fin (A * B) → EReal) : (Finset.univ.sup fun t : Fin A × Fin B => f (cut A B t)) = Finset.univ.sup f := by
  rw [Finset.sup_univ_eq_iSup, Finset.sup_univ_eq_iSup]
  exact (cut_bij A B).surjective.iSup_comp f

/-- The devices' inputs are the parts of one set of arrays. -/
structure Same (I : Ins Ideal) (X : FVec Ideal ReferenceIdeal.S2x256x512 .bf16) (Q : FVec Ideal ReferenceIdeal.S512x1024 .bf16)
    (K V : FVec Ideal ReferenceIdeal.S2x1024x16x64 .bf16) (O : FVec Ideal ReferenceIdeal.S1024x512 .bf16) : Prop where
  x (c : Fin 4) (b : Fin 2) (r : Fin 256) (e : Fin 512) : I.x c (ix3 b r e) = X (ix3 b r e)
  q (c h : Fin 4) (e : Fin 512) (d : Fin 64) : I.wq c (ix3 h e d) = Q (ix2 e ⟨(c.val * 4 + h.val) * 64 + d.val, by omega⟩)
  k (c j : Fin 4) (b : Fin 2) (h : Fin 4) (k : Fin 256) (d : Fin 64) :
    cod (I.kv j (ix6 c 0 b h k d)) = rc (K (ix4 b (cut 4 256 (j, k)) (cut 4 4 (c, h)) d))
  v (c j : Fin 4) (b : Fin 2) (h : Fin 4) (k : Fin 256) (d : Fin 64) :
    cod (I.kv j (ix6 c 1 b h k d)) = rc (V (ix4 b (cut 4 256 (j, k)) (cut 4 4 (c, h)) d))
  o (c h : Fin 4) (d : Fin 64) (n : Fin 512) : I.wo c (ix3 h d n) = O (ix2 ⟨(c.val * 4 + h.val) * 64 + d.val, by omega⟩ n)

section
variable {I : Ins Ideal} {X : FVec Ideal ReferenceIdeal.S2x256x512 .bf16} {Q : FVec Ideal ReferenceIdeal.S512x1024 .bf16}
  {K V : FVec Ideal ReferenceIdeal.S2x1024x16x64 .bf16} {O : FVec Ideal ReferenceIdeal.S1024x512 .bf16} (H : Same I X Q K V O)
include H

/-- A device's score is the reference's. -/
theorem sc_same (c : Fin 4) (b : Fin 2) (h : Fin 4) (r : Fin 256) (t : KeyIx) :
    sc I c b h r t = rsc (rq X Q) (rcode K) (ix4 b (cut 4 4 (c, h)) r (cut 4 256 t)) := by
  have hd : (cut 4 256 t).val / 64 = t.1.val * 4 + t.2.val / 64 := by simp only [cut]; omega
  have hs : ∑ d : Fin 64, qv I c b h (ix2 r d) * cod (I.kv t.1 (ix6 c 0 b h t.2 d))
      = (∑ d : Fin 64, rq X Q (ix4 b r (cut 4 4 (c, h)) d) * rcode K (ix4 b (cut 4 256 t) (cut 4 4 (c, h)) d)) * Ideal.ofBits .f32 0x3E000000#32 := by
    simp only [qv_at, H.x, H.q, H.k, rq_at, rcode_at, eighth]
    exact score_eq Finset.univ _ _ (by norm_num) qscale
  rw [rsc_at, sc, hs, hd]
  split
  · rw [add_zero]
  · exact EReal.add_bot _

/-- A device's head's context is the reference's. -/
theorem ctx_same (c : Fin 4) (b : Fin 2) (h : Fin 4) (r : Fin 256) (d : Fin 64) :
    ctx (hd I c b h) (ix2 r d) = rctx (rcode V) (rw1 (rw0 (rsc (rq X Q) (rcode K))))
      (ix3 b r ⟨(c.val * 4 + h.val) * 64 + d.val, by omega⟩) := by
  have hsup : Finset.univ.sup (sc I c b h r) = Finset.univ.sup fun j : Fin 1024 => rsc (rq X Q) (rcode K) (ix4 b (cut 4 4 (c, h)) r j) := by
    rw [show sc I c b h r = _ from funext (sc_same H c b h r)]
    exact sup_cut 4 256 fun j => rsc (rq X Q) (rcode K) (ix4 b (cut 4 4 (c, h)) r j)
  have hw (t : KeyIx) : Ideal.exp (sc I c b h r t - Finset.univ.sup (sc I c b h r))
      = rw0 (rsc (rq X Q) (rcode K)) (ix4 b (cut 4 4 (c, h)) r (cut 4 256 t)) := by
    rw [rw0_at, hsup, sc_same H]
  have hr := rctx_at (rcode V) (rw1 (rw0 (rsc (rq X Q) (rcode K)))) b r (cut 4 4 (c, h)) d
  rw [ctx_hd]
  refine Eq.trans ?_ hr.symm
  simp only [hw, rw1_at]
  rw [sum_cut 4 256 fun j => rw0 (rsc (rq X Q) (rcode K)) (ix4 b (cut 4 4 (c, h)) r j)]
  rw [← sum_cut 4 256 fun j => rcode V (ix4 b j (cut 4 4 (c, h)) d) * _]
  refine Finset.sum_congr rfl fun t _ => ?_
  rw [rcode_at, vl, H.v]

/-- What the devices add up is the reference's result. -/
theorem out_same (c : Dev nD) (b : Fin 2) (r : Fin 256) (n : Fin 512) :
    outR I c (ix3 b r n) = rout (rctx (rcode V) (rw1 (rw0 (rsc (rq X Q) (rcode K))))) O (ix3 b r n) := by
  rw [outR_at, rout_at, tot]
  simp only [prt_at, ctx_same H, H.o]
  generalize rctx (rcode V) (rw1 (rw0 (rsc (rq X Q) (rcode K)))) = z
  rw [← sum_cut 16 64 fun u => z (ix3 b r u) * O (ix2 u n), Fintype.sum_prod_type]
  rw [← sum_cut 4 4 fun g => ∑ d : Fin 64, z (ix3 b r (cut 16 64 (g, d))) * O (ix2 (cut 16 64 (g, d)) n), Fintype.sum_prod_type]
  rfl
end

/-- The tile of a cut matrix, at a column. -/
theorem blk_col {α : Type} (v : ReferenceIdeal.S512x1024.Idx → α) (c : Fin 4) (e : Fin 512) (u : Fin 256) :
    Layout.block ⟨2, ![512, 256]⟩ ⟨2, ![512, 1024]⟩ 1 4 c v (by decide) (ix2 e u) = v (ix2 e (cut 4 256 (c, u))) := by
  refine congrArg v (funext fun a => ?_)
  fin_cases a <;> rfl

/-- The tile of a cut matrix, at a row. -/
theorem blk_row {α : Type} (v : ReferenceIdeal.S1024x512.Idx → α) (c : Fin 4) (u : Fin 256) (n : Fin 512) :
    Layout.block ⟨2, ![256, 512]⟩ ⟨2, ![1024, 512]⟩ 0 4 c v (by decide) (ix2 u n) = v (ix2 (cut 4 256 (c, u)) n) := by
  refine congrArg v (funext fun a => ?_)
  fin_cases a <;> rfl

/-- The tile of the keys or values, at a place. -/
theorem blk_key {α : Type} (v : ReferenceIdeal.S2x1024x16x64.Idx → α) (j : Fin 4) (b : Fin 2) (k : Fin 256) (h : Fin 16) (d : Fin 64) :
    Layout.block ⟨4, ![2, 256, 16, 64]⟩ ⟨4, ![2, 1024, 16, 64]⟩ 1 4 j v (by decide) (ix4 b k h d) = v (ix4 b (cut 4 256 (j, k)) h d) := by
  refine congrArg v (funext fun a => ?_)
  fin_cases a <;> rfl

/-- The kernel at the ideal instance computes the reference. -/
theorem algebraic : Cert.algebraic_KernelIdeal_ReferenceIdeal (hKernelIdeal := Cert.KernelIdeal.Gen.facts) (hReferenceIdeal := Cert.ReferenceIdeal.Gen.facts) := by
  intro m g m' g' _ hm
  have H : Same (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c b r e => ?_, fun c h e d => ?_, fun c j b h k d => ?_, fun c j b h k d => ?_, fun c h d n => ?_⟩
    · exact (ins_x m c _).trans (congrFun (hm c).1 _)
    · refine (ins_wq m c h e d).trans ((congrFun (hm c).2.1 _).trans ((blk_col _ c e _).trans ?_))
      exact congrArg _ (congrArg (ix2 e) (Fin.ext (by simp only [cut]; ring)))
    · exact (ins_k m c j b h k d).trans (congrArg rc ((congrFun (hm j).2.2.1 _).trans (blk_key _ j b k _ d)))
    · exact (ins_v m c j b h k d).trans (congrArg rc ((congrFun (hm j).2.2.2.1 _).trans (blk_key _ j b k _ d)))
    · refine (ins_wo m c h d n).trans ((congrFun (hm c).2.2.2.2 _).trans ((blk_row _ c _ n).trans ?_))
      exact congrArg _ (congrArg (fun u => ix2 u n) (Fin.ext (by simp only [cut]; ring)))
  refine ⟨_, (θ_run Cert.KernelIdeal.defs _ _).mono (fun r h c => ?_) (run_post m g),
    (θ_run Cert.ReferenceIdeal.defs _ _).mono (fun r h => h 0) (Cert.ReferenceIdeal.Value.run m' g')⟩
  refine ⟨(h.1 c).2.trans ?_, (h.1 c).1⟩
  refine (res_eq m c).trans (Eq.trans (funext fun i => ?_) (Cert.ReferenceIdeal.Prf.res_eq m' 0).symm)
  obtain ⟨b, r, n, rfl⟩ : ∃ b r n, i = ix3 b r n := ⟨i 0, i 1, i 2, eq_ix3 i⟩
  exact out_same H c b r n

end Cert.KernelIdeal.Prf
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_Kernel : Cert.quiescent_Kernel (hKernel := Cert.Kernel.Gen.facts) := fun m g _ =>
  (θ_run Cert.Kernel.defs _ _).mono (fun _ h => ⟨fun c => (h.1 c).1, h.2⟩) (Cert.Kernel.Prf.run_post m g)

theorem frame_KernelIdeal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Prf.run_post m g)

theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem preserves : Cert.preserves_Kernel_KernelIdeal :=
  IdealRules.named_const.statement Cert.KernelIdeal.κ "mask" .f32 0xCE6E6B28#32 ⊥ rfl

theorem claim : Cert.Claim := ⟨Cert.Kernel.Gen.facts, Cert.KernelIdeal.Gen.facts, Cert.ReferenceIdeal.Gen.facts,
  frame_Kernel, frame_KernelIdeal, frame_ReferenceIdeal, preserves, Cert.KernelIdeal.Prf.algebraic⟩

end Cert.Proof

end
